-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_in_range : Cert.Pre_experts_in_range.Facts] (m : (ℓ : Loc Cert.Kernel3.nD Cert.Kernel3.τ Cert.Kernel3.sig) → Buf (Elt Bits) ℓ) : Prop :=
  ∀ c : Dev Cert.Kernel3.nD,
    (Cert.Pre_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_in_range : Cert.Pre_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_in_range [hPre_experts_in_range : Cert.Pre_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_experts_in_range : Cert.Pre_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_in_range [hReference3Ideal : Cert.Reference3Ideal.Facts] [hPre_experts_in_range : Cert.Pre_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_experts_in_range : Cert.Pre_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v79) = v0 c
          ∧ r.2.mem ((c.tc : Thread Cert.Reference7Ideal.nD Cert.Reference7Ideal.τ).loc Cert.Reference7Ideal.main_v81) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_in_range := hPre_experts_in_range)
    ∧ quiescent_Kernel3Ideal (hKernel3Ideal := hKernel3Ideal) (hPre_experts_in_range := hPre_experts_in_range)
    ∧ quiescent_Reference3Ideal (hReference3Ideal := hReference3Ideal)
    ∧ quiescent_Reference3Ideal_pre_experts_in_range (hReference3Ideal := hReference3Ideal) (hPre_experts_in_range := hPre_experts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_in_range := hPre_experts_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_experts_in_range.lean ====
abbrev S49152x2048 : Shape := ⟨2, ![49152, 2048]⟩
abbrev S48 : Shape := ⟨1, ![48]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S48 : S_.BroadcastsInDim S48 (![] : Fin 0 → Fin S48.rank)

variable [Facts]

def fn {F : FTy → Type} [FloatOps F] (main_arg0 : FVec F S49152x2048 .bf16) (main_arg1 : IVec S48 32) (main_arg2 : IVec S1 32) (main_arg3 : FVec F S8x2048x7168 .f32) (main_arg4 : FVec F S8x2048x7168 .f32) (main_arg5 : FVec F S8x7168x2048 .f32) : IVec S48 1 :=
  let main_c : IVec S_ 32 := constantI S_ 32 0#32
  let main_v0 : IVec S48 32 := broadcastInDim S48 ![] bcast_S_S48 main_c
  let main_v1 : IVec S48 1 := cmpi .sge main_arg1 main_v0
  let main_c_0 : IVec S_ 32 := constantI S_ 32 8#32
  let main_v2 : IVec S48 32 := broadcastInDim S48 ![] bcast_S_S48 main_c_0
  let main_v3 : IVec S48 1 := cmpi .slt main_arg1 main_v2
  let main_v4 : IVec S48 1 := andi main_v1 main_v3
  main_v4
-- ==== Kernel.lean ====
abbrev S20480x3584 : Shape := ⟨2, ![20480, 3584]⟩
abbrev S8 : Shape := ⟨1, ![8]⟩
abbrev S4096x1024 : Shape := ⟨2, ![4096, 1024]⟩
abbrev S256x512 : Shape := ⟨2, ![256, 512]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩

abbrev nBuf : Space → Nat
  | .hbm => 3
  | .vmem => 8
  | .smem => 1
  | _ => 0

abbrev bufTy : (tb : Table) → Fin (tcTables nBuf tb) → BufTy
  | .hbm, ⟨0, _⟩ => ⟨S20480x3584, .f32⟩
  | .hbm, ⟨1, _⟩ => ⟨S8, .f32⟩
  | .hbm, ⟨2, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | .local _ .smem, ⟨0, _⟩ => ⟨S8, .f32⟩
  | _, _ => ⟨S20480x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) (c0_i32 : BitVec 32) : Fin 1 → Nat :=
  let arg1 : BitVec 32 := BitVec.ofNat 32 (i 1).val
  let c4_i32 : BitVec 32 := 4#32
  let v9 : BitVec 32 := Scalar.muli arg1 c4_i32
  let v10 : BitVec 32 := Scalar.addi v9 c0_i32
  let v11 : Index := Scalar.indexCast v10
  ![v11.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S20480x3584 : Shape := ⟨2, ![20480, 3584]⟩
abbrev S8 : Shape := ⟨1, ![8]⟩
abbrev S4096x3584 : Shape := ⟨2, ![4096, 3584]⟩
abbrev S16x256x3584 : Shape := ⟨3, ![16, 256, 3584]⟩
abbrev S16x256x1024 : Shape := ⟨3, ![16, 256, 1024]⟩
abbrev S16x256x2x4x128 : Shape := ⟨5, ![16, 256, 2, 4, 128]⟩
abbrev S16x256x256 : Shape := ⟨3, ![16, 256, 256]⟩
abbrev S16x256x2x128 : Shape := ⟨4, ![16, 256, 2, 128]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S2x4 : Shape := ⟨2, ![2, 4]⟩
abbrev S1x2x4x1x1 : Shape := ⟨5, ![1, 2, 4, 1, 1]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S20480x3584, .f32⟩
  | .hbm, ⟨1, _⟩ => ⟨S8, .f32⟩
  | .hbm, ⟨2, _⟩ => ⟨S4096x3584, .f32⟩
  | .hbm, ⟨3, _⟩ => ⟨S16x256x3584, .f32⟩
  | .hbm, ⟨4, _⟩ => ⟨S16x256x1024, .f32⟩
  | .hbm, ⟨5, _⟩ => ⟨S16x256x2x4x128, .f32⟩
  | .hbm, ⟨6, _⟩ => ⟨S16x256x256, .f32⟩
  | .hbm, ⟨7, _⟩ => ⟨S16x256x2x128, .f32⟩
  | .hbm, ⟨8, _⟩ => ⟨S16x256x256, .f32⟩
  | .hbm, ⟨9, _⟩ => ⟨S16x256x2x128, .f32⟩
  | .hbm, ⟨10, _⟩ => ⟨S16x2x256x256x4, .f32⟩
  | .hbm, ⟨11, _⟩ => ⟨S16x2x4x256x256, .f32⟩
  | .hbm, ⟨12, _⟩ => ⟨S_, .f32⟩
  | .hbm, ⟨13, _⟩ => ⟨S16x2x4x256x256, .f32⟩
  | .hbm, ⟨14, _⟩ => ⟨S16x2x4x256x256, .f32⟩
  | .hbm, ⟨15, _⟩ => ⟨S2x4, .f32⟩
  | .hbm, ⟨16, _⟩ => ⟨S1x2x4x1x1, .f32⟩
  | .hbm, ⟨17, _⟩ => ⟨S_, .f32⟩
  | .hbm, ⟨18, _⟩ => ⟨S16x2x4x256, .f32⟩
  | .hbm, ⟨19, _⟩ => ⟨S16x2x4x256x1, .f32⟩
  | .hbm, ⟨20, _⟩ => ⟨S16x2x4x256x1, .f32⟩
  | .hbm, ⟨21, _⟩ => ⟨S16x2x4x256x1, .f32⟩
  | .hbm, ⟨22, _⟩ => ⟨S16x2x4x256x256, .f32⟩
  | .hbm, ⟨23, _⟩ => ⟨S16x2x4x256x256, .f32⟩
  | .hbm, ⟨24, _⟩ => ⟨S16x2x4x256x256, .f32⟩
  | .hbm, ⟨25, _⟩ => ⟨S_, .f32⟩
  | .hbm, ⟨26, _⟩ => ⟨S16x2x4x256, .f32⟩
  | .hbm, ⟨27, _⟩ => ⟨S16x2x4x256x1, .f32⟩
  | .hbm, ⟨28, _⟩ => ⟨S16x2x4x256x1, .f32⟩
  | .hbm, ⟨29, _⟩ => ⟨S16x2x4x256x1, .f32⟩
  | .hbm, ⟨30, _⟩ => ⟨S16x2x4x256x1, .f32⟩
  | .hbm, ⟨31, _⟩ => ⟨S16x2x4x256x1, .f32⟩
  | .hbm, ⟨32, _⟩ => ⟨S16x2x4x256x256, .f32⟩
  | .hbm, ⟨33, _⟩ => ⟨S16x2x4x256x256, .f32⟩
  | .hbm, ⟨34, _⟩ => ⟨S16x2x128x4x256, .f32⟩
  | .hbm, ⟨35, _⟩ => ⟨S16x256x2x4x128, .f32⟩
  | .hbm, ⟨36, _⟩ => ⟨S4096x1024, .f32⟩
  | .hbm, ⟨37, _⟩ => ⟨S4096x1024, .bf16⟩
  | _, _ => ⟨S20480x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Kernel2.lean ====
abbrev S20480x2048 : Shape := ⟨2, ![20480, 2048]⟩
abbrev S2048x7168 : Shape := ⟨2, ![2048, 7168]⟩
abbrev S7168x2048 : Shape := ⟨2, ![7168, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S20480x2048, .bf16⟩
  | .hbm, ⟨1, _⟩ => ⟨S2048x7168, .f32⟩
  | .hbm, ⟨2, _⟩ => ⟨S2048x7168, .f32⟩
  | .hbm, ⟨3, _⟩ => ⟨S7168x2048, .f32⟩
  | .hbm, ⟨4, _⟩ => ⟨S20480x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S1024x2048, .f32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 28], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_9 : BitVec 32 := 0#32
  let v16 : BitVec 1 := Scalar.cmpi .ne v15 c0_i32_9
  v16

def k0_cond2 (i : grid0.Coords) : BitVec 1 :=
  let arg1 : BitVec 32 := BitVec.ofNat 32 (i 1).val
  let c0_i32_10 : BitVec 32 := 0#32
  let v17 : BitVec 1 := Scalar.cmpi .sgt arg1 c0_i32_10
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S20480x2048 : Shape := ⟨2, ![20480, 2048]⟩
abbrev S2048x7168 : Shape := ⟨2, ![2048, 7168]⟩
abbrev S7168x2048 : Shape := ⟨2, ![7168, 2048]⟩
abbrev S20480x7168 : Shape := ⟨2, ![20480, 7168]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S2048x7168, .f32⟩
  | .hbm, ⟨2, _⟩ => ⟨S2048x7168, .f32⟩
  | .hbm, ⟨3, _⟩ => ⟨S7168x2048, .f32⟩
  | .hbm, ⟨4, _⟩ => ⟨S20480x2048, .f32⟩
  | .hbm, ⟨5, _⟩ => ⟨S20480x7168, .f32⟩
  | .hbm, ⟨6, _⟩ => ⟨S20480x7168, .f32⟩
  | .hbm, ⟨7, _⟩ => ⟨S20480x7168, .f32⟩
  | .hbm, ⟨8, _⟩ => ⟨S_, .f32⟩
  | .hbm, ⟨9, _⟩ => ⟨S20480x7168, .f32⟩
  | .hbm, ⟨10, _⟩ => ⟨S20480x7168, .f32⟩
  | .hbm, ⟨11, _⟩ => ⟨S_, .f32⟩
  | .hbm, ⟨12, _⟩ => ⟨S20480x7168, .f32⟩
  | .hbm, ⟨13, _⟩ => ⟨S20480x7168, .f32⟩
  | .hbm, ⟨14, _⟩ => ⟨S20480x7168, .f32⟩
  | .hbm, ⟨15, _⟩ => ⟨S20480x7168, .f32⟩
  | .hbm, ⟨16, _⟩ => ⟨S20480x7168, .f32⟩
  | .hbm, ⟨17, _⟩ => ⟨S20480x2048, .f32⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel3.lean ====
abbrev S49152x2048 : Shape := ⟨2, ![49152, 2048]⟩
abbrev S48 : Shape := ⟨1, ![48]⟩
abbrev S1 : Shape := ⟨1, ![1]⟩
abbrev S8x2048x7168 : Shape := ⟨3, ![8, 2048, 7168]⟩
abbrev S8x7168x2048 : Shape := ⟨3, ![8, 7168, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 10
  | .smem => 2
  | _ => 0

abbrev bufTy : (tb : Table) → Fin (tcTables nBuf tb) → BufTy
  | .hbm, ⟨0, _⟩ => ⟨S49152x2048, .bf16⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S49152x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x2048, .f32⟩
  | .local _ .vmem, ⟨9, _⟩ => ⟨S1024x2048, .f32⟩
  | .local _ .smem, ⟨0, _⟩ => ⟨S48, .i32⟩
  | .local _ .smem, ⟨1, _⟩ => ⟨S1, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 28], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_16 : BitVec 32 := 0#32
  let v27 : BitVec 1 := Scalar.cmpi .eq arg1 c0_i32_16
  let v28 : BitVec 32 := Scalar.extui v27
  let c0_i32_17 : BitVec 32 := 0#32
  let v29 : BitVec 1 := Scalar.cmpi .ne v28 c0_i32_17
  v29

def k0_cond3 (i : grid0.Coords) : BitVec 1 :=
  let arg1 : BitVec 32 := BitVec.ofNat 32 (i 1).val
  let c0_i32_18 : BitVec 32 := 0#32
  let v30 : BitVec 1 := Scalar.cmpi .sgt arg1 c0_i32_18
  let v31 : BitVec 32 := Scalar.extui v30
  let c0_i32_19 : BitVec 32 := 0#32
  let v32 : BitVec 1 := Scalar.cmpi .ne v31 c0_i32_19
  v32

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S48.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S48) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c27_i32 : BitVec 32 := 27#32
  let v4 : BitVec 32 := Scalar.select v3 arg1 c27_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S48.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S48) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c27_i32 : BitVec 32 := 27#32
  let v4 : BitVec 32 := Scalar.select v3 arg1 c27_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S48.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S48) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c27_i32 : BitVec 32 := 27#32
  let v4 : BitVec 32 := Scalar.select v3 arg1 c27_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S49152x2048 : Shape := ⟨2, ![49152, 2048]⟩
abbrev S48 : Shape := ⟨1, ![48]⟩
abbrev S1 : Shape := ⟨1, ![1]⟩
abbrev S8x2048x7168 : Shape := ⟨3, ![8, 2048, 7168]⟩
abbrev S8x7168x2048 : Shape := ⟨3, ![8, 7168, 2048]⟩
abbrev S48x1024x2048 : Shape := ⟨3, ![48, 1024, 2048]⟩
abbrev S48x1 : Shape := ⟨2, ![48, 1]⟩
abbrev S48x2048x7168 : Shape := ⟨3, ![48, 2048, 7168]⟩
abbrev S48x1024x7168 : Shape := ⟨3, ![48, 1024, 7168]⟩
abbrev S_ : Shape := ⟨0, ![]⟩
abbrev S48x7168x2048 : Shape := ⟨3, ![48, 7168, 2048]⟩
abbrev S48x1x1 : Shape := ⟨3, ![48, 1, 1]⟩

abbrev nBuf : Space → Nat
  | .hbm => 38
  | .vmem => 0
  | .smem => 0
  | _ => 0

abbrev bufTy : (tb : Table) → Fin (tcTables nBuf tb) → BufTy
  | .hbm, ⟨0, _⟩ => ⟨S49152x2048, .bf16⟩
  | .hbm, ⟨1, _⟩ => ⟨S48, .i32⟩
  | .hbm, ⟨2, _⟩ => ⟨S1, .i32⟩
  | .hbm, ⟨3, _⟩ => ⟨S8x2048x7168, .f32⟩
  | .hbm, ⟨4, _⟩ => ⟨S8x2048x7168, .f32⟩
  | .hbm, ⟨5, _⟩ => ⟨S8x7168x2048, .f32⟩
  | .hbm, ⟨6, _⟩ => ⟨S49152x2048, .f32⟩
  | .hbm, ⟨7, _⟩ => ⟨S48x1024x2048, .f32⟩
  | .hbm, ⟨8, _⟩ => ⟨S48x1, .i32⟩
  | .hbm, ⟨9, _⟩ => ⟨S48x2048x7168, .f32⟩
  | .hbm, ⟨10, _⟩ => ⟨S48x1024x7168, .f32⟩
  | .hbm, ⟨11, _⟩ => ⟨S48x1, .i32⟩
  | .hbm, ⟨12, _⟩ => ⟨S48x2048x7168, .f32⟩
  | .hbm, ⟨13, _⟩ => ⟨S48x1024x7168, .f32⟩
  | .hbm, ⟨14, _⟩ => ⟨S48x1024x7168, .f32⟩
  | .hbm, ⟨15, _⟩ => ⟨S48x1024x7168, .f32⟩
  | .hbm, ⟨16, _⟩ => ⟨S_, .f32⟩
  | .hbm, ⟨17, _⟩ => ⟨S48x1024x7168, .f32⟩
  | .hbm, ⟨18, _⟩ => ⟨S48x1024x7168, .f32⟩
  | .hbm, ⟨19, _⟩ => ⟨S_, .f32⟩
  | .hbm, ⟨20, _⟩ => ⟨S48x1024x7168, .f32⟩
  | .hbm, ⟨21, _⟩ => ⟨S48x1024x7168, .f32⟩
  | .hbm, ⟨22, _⟩ => ⟨S48x1024x7168, .f32⟩
  | .hbm, ⟨23, _⟩ => ⟨S48x1024x7168, .f32⟩
  | .hbm, ⟨24, _⟩ => ⟨S48x1, .i32⟩
  | .hbm, ⟨25, _⟩ => ⟨S48x7168x2048, .f32⟩
  | .hbm, ⟨26, _⟩ => ⟨S48x1024x2048, .f32⟩
  | .hbm, ⟨27, _⟩ => ⟨S48, .i32⟩
  | .hbm, ⟨28, _⟩ => ⟨S_, .i32⟩
  | .hbm, ⟨29, _⟩ => ⟨S48, .i32⟩
  | .hbm, ⟨30, _⟩ => ⟨S48, .i1⟩
  | .hbm, ⟨31, _⟩ => ⟨S48x1x1, .i1⟩
  | .hbm, ⟨32, _⟩ => ⟨S_, .f32⟩
  | .hbm, ⟨33, _⟩ => ⟨S_, .f32⟩
  | .hbm, ⟨34, _⟩ => ⟨S48x1024x2048, .i1⟩
  | .hbm, ⟨35, _⟩ => ⟨S48x1024x2048, .f32⟩
  | .hbm, ⟨36, _⟩ => ⟨S48x1024x2048, .f32⟩
  | .hbm, ⟨37, _⟩ => ⟨S49152x2048, .f32⟩
  | _, _ => ⟨S49152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_call2_v0 : Ref sig .tc := ⟨.hbm, 14, rfl⟩
abbrev main_call2_v1 : Ref sig .tc := ⟨.hbm, 15, rfl⟩
abbrev main_call2_cst : Ref sig .tc := ⟨.hbm, 16, rfl⟩
abbrev main_call2_v2 : Ref sig .tc := ⟨.hbm, 17, rfl⟩
abbrev main_call2_v3 : Ref sig .tc := ⟨.hbm, 18, rfl⟩
abbrev main_call2_cst_0 : Ref sig .tc := ⟨.hbm, 19, rfl⟩
abbrev main_call2_v4 : Ref sig .tc := ⟨.hbm, 20, rfl⟩
abbrev main_call2_v5 : Ref sig .tc := ⟨.hbm, 21, rfl⟩
abbrev main_v6 : Ref sig .tc := ⟨.hbm, 22, rfl⟩
abbrev main_v7 : Ref sig .tc := ⟨.hbm, 23, rfl⟩
abbrev main_call3_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel4.lean ====
abbrev S20480x2048 : Shape := ⟨2, ![20480, 2048]⟩
abbrev S4x8x1x12288 : Shape := ⟨4, ![4, 8, 1, 12288]⟩
abbrev S4x1x2048 : Shape := ⟨3, ![4, 1, 2048]⟩
abbrev S4x2048x3584 : Shape := ⟨3, ![4, 2048, 3584]⟩
abbrev S4x2048x128 : Shape := ⟨3, ![4, 2048, 128]⟩
abbrev S20480x3584 : Shape := ⟨2, ![20480, 3584]⟩
abbrev S20480x128 : Shape := ⟨2, ![20480, 128]⟩
abbrev S1024x2048 : Shape := ⟨2, ![1024, 2048]⟩
abbrev S1x1x1x2048 : Shape := ⟨4, ![1, 1, 1, 2048]⟩
abbrev S1x1x2048 : Shape := ⟨3, ![1, 1, 2048]⟩
abbrev S1x2048x512 : Shape := ⟨3, ![1, 2048, 512]⟩
abbrev S1x2048x128 : Shape := ⟨3, ![1, 2048, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x2048 : Shape := ⟨2, ![1, 2048]⟩
abbrev S2048x128 : Shape := ⟨2, ![2048, 128]⟩
abbrev S2048x512 : Shape := ⟨2, ![2048, 512]⟩

abbrev nBuf : Space → Nat
  | .hbm => 7
  | .vmem => 15
  | .smem => 0
  | _ => 0

abbrev bufTy : (tb : Table) → Fin (tcTables nBuf tb) → BufTy
  | .hbm, ⟨0, _⟩ => ⟨S20480x2048, .f32⟩
  | .hbm, ⟨1, _⟩ => ⟨S4x8x1x12288, .f32⟩
  | .hbm, ⟨2, _⟩ => ⟨S4x1x2048, .f32⟩
  | .hbm, ⟨3, _⟩ => ⟨S4x2048x3584, .bf16⟩
  | .hbm, ⟨4, _⟩ => ⟨S4x2048x128, .bf16⟩
  | .hbm, ⟨5, _⟩ => ⟨S20480x3584, .f32⟩
  | .hbm, ⟨6, _⟩ => ⟨S20480x128, .f32⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x128, .bf16⟩
  | .local _ .vmem, ⟨10, _⟩ => ⟨S1024x512, .f32⟩
  | .local _ .vmem, ⟨11, _⟩ => ⟨S1024x512, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![20, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c1_i32_6 : BitVec 32 := 1#32
  let c0_i32_7 : BitVec 32 := 0#32
  ![c0_i32_4.toNat, v17.toNat, c0_i32_5.toNat, c1_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S20480x2048 : Shape := ⟨2, ![20480, 2048]⟩
abbrev S4x8x1x12288 : Shape := ⟨4, ![4, 8, 1, 12288]⟩
abbrev S4x1x2048 : Shape := ⟨3, ![4, 1, 2048]⟩
abbrev S4x2048x3584 : Shape := ⟨3, ![4, 2048, 3584]⟩
abbrev S4x2048x128 : Shape := ⟨3, ![4, 2048, 128]⟩
abbrev S5x4096x2048 : Shape := ⟨3, ![5, 4096, 2048]⟩
abbrev S1x5x1x2048 : Shape := ⟨4, ![1, 5, 1, 2048]⟩
abbrev S5x1x2048 : Shape := ⟨3, ![5, 1, 2048]⟩
abbrev S1x1x2048 : Shape := ⟨3, ![1, 1, 2048]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩
abbrev S1x2048x3584 : Shape := ⟨3, ![1, 2048, 3584]⟩
abbrev S2048x3584 : Shape := ⟨2, ![2048, 3584]⟩
abbrev S20480x3584 : Shape := ⟨2, ![20480, 3584]⟩
abbrev S1x2048x128 : Shape := ⟨3, ![1, 2048, 128]⟩
abbrev S2048x128 : Shape := ⟨2, ![2048, 128]⟩
abbrev S20480x128 : Shape := ⟨2, ![20480, 128]⟩

abbrev nBuf : Space → Nat
  | .hbm => 44
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S4x8x1x12288, .f32⟩
  | .hbm, ⟨2, _⟩ => ⟨S4x1x2048, .f32⟩
  | .hbm, ⟨3, _⟩ => ⟨S4x2048x3584, .bf16⟩
  | .hbm, ⟨4, _⟩ => ⟨S4x2048x128, .bf16⟩
  | .hbm, ⟨5, _⟩ => ⟨S5x4096x2048, .f32⟩
  | .hbm, ⟨6, _⟩ => ⟨S1x5x1x2048, .f32⟩
  | .hbm, ⟨7, _⟩ => ⟨S5x1x2048, .f32⟩
  | .hbm, ⟨8, _⟩ => ⟨S1x5x1x2048, .f32⟩
  | .hbm, ⟨9, _⟩ => ⟨S5x1x2048, .f32⟩
  | .hbm, ⟨10, _⟩ => ⟨S1x1x2048, .f32⟩
  | .hbm, ⟨11, _⟩ => ⟨S2048, .f32⟩
  | .hbm, ⟨12, _⟩ => ⟨S5x4096x2048, .f32⟩
  | .hbm, ⟨13, _⟩ => ⟨S_, .f32⟩
  | .hbm, ⟨14, _⟩ => ⟨S5x4096, .f32⟩
  | .hbm, ⟨15, _⟩ => ⟨S5x4096x1, .f32⟩
  | .hbm, ⟨16, _⟩ => ⟨S_, .f32⟩
  | .hbm, ⟨17, _⟩ => ⟨S5x4096x1, .f32⟩
  | .hbm, ⟨18, _⟩ => ⟨S5x4096x1, .f32⟩
  | .hbm, ⟨19, _⟩ => ⟨S_, .f32⟩
  | .hbm, ⟨20, _⟩ => ⟨S5x4096x1, .f32⟩
  | .hbm, ⟨21, _⟩ => ⟨S5x4096x1, .f32⟩
  | .hbm, ⟨22, _⟩ => ⟨S5x4096x1, .f32⟩
  | .hbm, ⟨23, _⟩ => ⟨S5x4096x2048, .f32⟩
  | .hbm, ⟨24, _⟩ => ⟨S5x4096x2048, .f32⟩
  | .hbm, ⟨25, _⟩ => ⟨S1x1x2048, .f32⟩
  | .hbm, ⟨26, _⟩ => ⟨S5x4096x2048, .f32⟩
  | .hbm, ⟨27, _⟩ => ⟨S5x4096x2048, .f32⟩
  | .hbm, ⟨28, _⟩ => ⟨S_, .f32⟩
  | .hbm, ⟨29, _⟩ => ⟨S5x1x2048, .f32⟩
  | .hbm, ⟨30, _⟩ => ⟨S5x1x2048, .f32⟩
  | .hbm, ⟨31, _⟩ => ⟨S5x4096x2048, .f32⟩
  | .hbm, ⟨32, _⟩ => ⟨S5x4096x2048, .f32⟩
  | .hbm, ⟨33, _⟩ => ⟨S5x4096x2048, .f32⟩
  | .hbm, ⟨34, _⟩ => ⟨S5x4096x2048, .f32⟩
  | .hbm, ⟨35, _⟩ => ⟨S20480x2048, .f32⟩
  | .hbm, ⟨36, _⟩ => ⟨S1x2048x3584, .bf16⟩
  | .hbm, ⟨37, _⟩ => ⟨S2048x3584, .bf16⟩
  | .hbm, ⟨38, _⟩ => ⟨S2048x3584, .f32⟩
  | .hbm, ⟨39, _⟩ => ⟨S20480x3584, .f32⟩
  | .hbm, ⟨40, _⟩ => ⟨S1x2048x128, .bf16⟩
  | .hbm, ⟨41, _⟩ => ⟨S2048x128, .bf16⟩
  | .hbm, ⟨42, _⟩ => ⟨S2048x128, .f32⟩
  | .hbm, ⟨43, _⟩ => ⟨S20480x128, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel5.lean ====
abbrev S20480x2048 : Shape := ⟨2, ![20480, 2048]⟩
abbrev S4x8x1x12288 : Shape := ⟨4, ![4, 8, 1, 12288]⟩
abbrev S4x1x2048 : Shape := ⟨3, ![4, 1, 2048]⟩
abbrev S512x2048 : Shape := ⟨2, ![512, 2048]⟩
abbrev S1x1x1x2048 : Shape := ⟨4, ![1, 1, 1, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S4x8x1x12288, .f32⟩
  | .hbm, ⟨3, _⟩ => ⟨S4x1x2048, .f32⟩
  | .hbm, ⟨4, _⟩ => ⟨S20480x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c5_i32 : BitVec 32 := 5#32
  let c0_i32_6 : BitVec 32 := 0#32
  ![c0_i32_4.toNat, v17.toNat, c0_i32_5.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S20480x2048 : Shape := ⟨2, ![20480, 2048]⟩
abbrev S4x8x1x12288 : Shape := ⟨4, ![4, 8, 1, 12288]⟩
abbrev S4x1x2048 : Shape := ⟨3, ![4, 1, 2048]⟩
abbrev S5x4096x2048 : Shape := ⟨3, ![5, 4096, 2048]⟩
abbrev S1x5x1x2048 : Shape := ⟨4, ![1, 5, 1, 2048]⟩
abbrev S5x1x2048 : Shape := ⟨3, ![5, 1, 2048]⟩
abbrev S1x1x2048 : Shape := ⟨3, ![1, 1, 2048]⟩
abbrev S2048 : Shape := ⟨1, ![2048]⟩
abbrev S_ : Shape := ⟨0, ![]⟩
abbrev S5x4096 : Shape := ⟨2, ![5, 4096]⟩
abbrev S5x4096x1 : Shape := ⟨3, ![5, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S4x8x1x12288, .f32⟩
  | .hbm, ⟨3, _⟩ => ⟨S4x1x2048, .f32⟩
  | .hbm, ⟨4, _⟩ => ⟨S5x4096x2048, .f32⟩
  | .hbm, ⟨5, _⟩ => ⟨S5x4096x2048, .f32⟩
  | .hbm, ⟨6, _⟩ => ⟨S1x5x1x2048, .f32⟩
  | .hbm, ⟨7, _⟩ => ⟨S5x1x2048, .f32⟩
  | .hbm, ⟨8, _⟩ => ⟨S1x1x2048, .f32⟩
  | .hbm, ⟨9, _⟩ => ⟨S2048, .f32⟩
  | .hbm, ⟨10, _⟩ => ⟨S5x4096x2048, .f32⟩
  | .hbm, ⟨11, _⟩ => ⟨S_, .f32⟩
  | .hbm, ⟨12, _⟩ => ⟨S5x4096, .f32⟩
  | .hbm, ⟨13, _⟩ => ⟨S5x4096x1, .f32⟩
  | .hbm, ⟨14, _⟩ => ⟨S_, .f32⟩
  | .hbm, ⟨15, _⟩ => ⟨S5x4096x1, .f32⟩
  | .hbm, ⟨16, _⟩ => ⟨S5x4096x1, .f32⟩
  | .hbm, ⟨17, _⟩ => ⟨S_, .f32⟩
  | .hbm, ⟨18, _⟩ => ⟨S5x4096x1, .f32⟩
  | .hbm, ⟨19, _⟩ => ⟨S5x4096x1, .f32⟩
  | .hbm, ⟨20, _⟩ => ⟨S5x4096x1, .f32⟩
  | .hbm, ⟨21, _⟩ => ⟨S5x4096x2048, .f32⟩
  | .hbm, ⟨22, _⟩ => ⟨S5x4096x2048, .f32⟩
  | .hbm, ⟨23, _⟩ => ⟨S1x1x2048, .f32⟩
  | .hbm, ⟨24, _⟩ => ⟨S5x4096x2048, .f32⟩
  | .hbm, ⟨25, _⟩ => ⟨S5x4096x2048, .f32⟩
  | .hbm, ⟨26, _⟩ => ⟨S5x4096x2048, .f32⟩
  | .hbm, ⟨27, _⟩ => ⟨S5x4096x2048, .f32⟩
  | .hbm, ⟨28, _⟩ => ⟨S5x4096x2048, .f32⟩
  | .hbm, ⟨29, _⟩ => ⟨S20480x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel6.lean ====
abbrev S8x2048 : Shape := ⟨2, ![8, 2048]⟩
abbrev S4x2048x12288 : Shape := ⟨3, ![4, 2048, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x1x12288, .f32⟩
  | .hbm, ⟨3, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x2048 : Shape := ⟨2, ![8, 2048]⟩
abbrev S4x2048x12288 : Shape := ⟨3, ![4, 2048, 12288]⟩
abbrev S4x1x12288 : Shape := ⟨3, ![4, 1, 12288]⟩
abbrev S_ : Shape := ⟨0, ![]⟩
abbrev S4x12288x8 : Shape := ⟨3, ![4, 12288, 8]⟩
abbrev S4x8x12288 : Shape := ⟨3, ![4, 8, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x8x12288, .f32⟩
  | .hbm, ⟨15, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S20480x512 : Shape := ⟨2, ![20480, 512]⟩
abbrev S20480x1024 : Shape := ⟨2, ![20480, 1024]⟩
abbrev S20480x3584 : Shape := ⟨2, ![20480, 3584]⟩
abbrev S20480x2048 : Shape := ⟨2, ![20480, 2048]⟩
abbrev S4x8x1x12288 : Shape := ⟨4, ![4, 8, 1, 12288]⟩
abbrev S4x1x512 : Shape := ⟨3, ![4, 1, 512]⟩
abbrev S4x1x2048 : Shape := ⟨3, ![4, 1, 2048]⟩
abbrev S4x2048x2048 : Shape := ⟨3, ![4, 2048, 2048]⟩
abbrev S512x512 : Shape := ⟨2, ![512, 512]⟩
abbrev S512x1024 : Shape := ⟨2, ![512, 1024]⟩
abbrev S512x2048 : Shape := ⟨2, ![512, 2048]⟩
abbrev S1x1x1x2048 : Shape := ⟨4, ![1, 1, 1, 2048]⟩
abbrev S1x1x512 : Shape := ⟨3, ![1, 1, 512]⟩
abbrev S1x1x2048 : Shape := ⟨3, ![1, 1, 2048]⟩
abbrev S1x2048x512 : Shape := ⟨3, ![1, 2048, 512]⟩
abbrev S4x512x512 : Shape := ⟨3, ![4, 512, 512]⟩
abbrev S1x512 : Shape := ⟨2, ![1, 512]⟩
abbrev S512 : Shape := ⟨1, ![512]⟩
abbrev S512x1 : Shape := ⟨2, ![512, 1]⟩
abbrev S2048x512 : Shape := ⟨2, ![2048, 512]⟩
abbrev S1x512x512 : Shape := ⟨3, ![1, 512, 512]⟩
abbrev S1x1x1x512 : Shape := ⟨4, ![1, 1, 1, 512]⟩

abbrev nBuf : Space → Nat
  | .hbm => 15
  | .vmem => 32
  | .smem => 0
  | _ => 0

abbrev bufTy : (tb : Table) → Fin (tcTables nBuf tb) → BufTy
  | .hbm, ⟨0, _⟩ => ⟨S20480x512, .bf16⟩
  | .hbm, ⟨1, _⟩ => ⟨S20480x1024, .bf16⟩
  | .hbm, ⟨2, _⟩ => ⟨S20480x512, .f32⟩
  | .hbm, ⟨3, _⟩ => ⟨S20480x512, .f32⟩
  | .hbm, ⟨4, _⟩ => ⟨S20480x1024, .f32⟩
  | .hbm, ⟨5, _⟩ => ⟨S20480x3584, .f32⟩
  | .hbm, ⟨6, _⟩ => ⟨S20480x2048, .f32⟩
  | .hbm, ⟨7, _⟩ => ⟨S4x8x1x12288, .f32⟩
  | .hbm, ⟨8, _⟩ => ⟨S4x1x512, .f32⟩
  | .hbm, ⟨9, _⟩ => ⟨S4x1x512, .f32⟩
  | .hbm, ⟨10, _⟩ => ⟨S4x1x2048, .f32⟩
  | .hbm, ⟨11, _⟩ => ⟨S4x1x2048, .f32⟩
  | .hbm, ⟨12, _⟩ => ⟨S4x2048x2048, .bf16⟩
  | .hbm, ⟨13, _⟩ => ⟨S20480x2048, .f32⟩
  | .hbm, ⟨14, _⟩ => ⟨S20480x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x2048, .f32⟩
  | .local _ .vmem, ⟨13, _⟩ => ⟨S512x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S1x1x1x2048, .f32⟩
  | .local _ .vmem, ⟨19, _⟩ => ⟨S1x1x1x2048, .f32⟩
  | .local _ .vmem, ⟨20, _⟩ => ⟨S1x1x512, .f32⟩
  | .local _ .vmem, ⟨21, _⟩ => ⟨S1x1x512, .f32⟩
  | .local _ .vmem, ⟨22, _⟩ => ⟨S1x1x2048, .f32⟩
  | .local _ .vmem, ⟨23, _⟩ => ⟨S1x1x2048, .f32⟩
  | .local _ .vmem, ⟨24, _⟩ => ⟨S1x2048x512, .bf16⟩
  | .local _ .vmem, ⟨25, _⟩ => ⟨S1x2048x512, .bf16⟩
  | .local _ .vmem, ⟨26, _⟩ => ⟨S512x2048, .f32⟩
  | .local _ .vmem, ⟨27, _⟩ => ⟨S512x2048, .f32⟩
  | .local _ .vmem, ⟨28, _⟩ => ⟨S512x2048, .bf16⟩
  | .local _ .vmem, ⟨29, _⟩ => ⟨S512x2048, .bf16⟩
  | .local _ .vmem, ⟨30, _⟩ => ⟨S512x2048, .bf16⟩
  | .local _ .vmem, ⟨31, _⟩ => ⟨S4x512x512, .f32⟩
  | _, _ => ⟨S20480x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![40, 4], ![false, false]⟩

def k0_off1 (i : grid0.Coords) : Fin 3 → Nat :=
  let arg1 : BitVec 32 := BitVec.ofNat 32 (i 1).val
  let v7 : Index := Scalar.indexCast arg1
  let c0_5 : Index := 0#32
  let c0_6 : Index := 0#32
  ![v7.toNat, 0, 0]
def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c2_i32 : BitVec 32 := 2#32
  let c0_i32_6 : BitVec 32 := 0#32
  ![c0_i32_4.toNat, v17.toNat, c0_i32_5.toNat, c2_i32.toNat]

def cc0_transform_8 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c3_i32 : BitVec 32 := 3#32
  let c0_i32_6 : BitVec 32 := 0#32
  ![c0_i32_4.toNat, v17.toNat, c0_i32_5.toNat, c3_i32.toNat]

def cc0_transform_9 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c4_i32 : BitVec 32 := 4#32
  let c0_i32_6 : BitVec 32 := 0#32
  ![c0_i32_4.toNat, v17.toNat, c0_i32_5.toNat, c4_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x2048x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== Reference7Ideal.lean ====
abbrev S20480x512 : Shape := ⟨2, ![20480, 512]⟩
abbrev S20480x1024 : Shape := ⟨2, ![20480, 1024]⟩
abbrev S20480x3584 : Shape := ⟨2, ![20480, 3584]⟩
abbrev S20480x2048 : Shape := ⟨2, ![20480, 2048]⟩
abbrev S4x8x1x12288 : Shape := ⟨4, ![4, 8, 1, 12288]⟩
abbrev S4x1x512 : Shape := ⟨3, ![4, 1, 512]⟩
abbrev S4x1x2048 : Shape := ⟨3, ![4, 1, 2048]⟩
abbrev S4x2048x2048 : Shape := ⟨3, ![4, 2048, 2048]⟩
abbrev S1x1x512 : Shape := ⟨3, ![1, 1, 512]⟩
abbrev S512 : Shape := ⟨1, ![512]⟩
abbrev S1x512 : Shape := ⟨2, ![1, 512]⟩
abbrev S_ : Shape := ⟨0, ![]⟩
abbrev S20480 : Shape := ⟨1, ![20480]⟩
abbrev S20480x1 : Shape := ⟨2, ![20480, 1]⟩
abbrev S1x2048x2048 : Shape := ⟨3, ![1, 2048, 2048]⟩
abbrev S2048x2048 : Shape := ⟨2, ![2048, 2048]⟩
abbrev S5x4096x2048 : Shape := ⟨3, ![5, 4096, 2048]⟩
abbrev S1x5x1x6144 : Shape := ⟨4, ![1, 5, 1, 6144]⟩
abbrev S5x1x6144 : Shape := ⟨3, ![5, 1, 6144]⟩
abbrev S5x1x2048 : Shape := ⟨3, ![5, 1, 2048]⟩
abbrev S1x1x2048 : Shape := ⟨3, ![1, 1, 2048]⟩
abbrev S2048 : Shape := ⟨1, ![2048]⟩
abbrev S5x4096 : Shape := ⟨2, ![5, 4096]⟩
abbrev S5x4096x1 : Shape := ⟨3, ![5, 4096, 1]⟩

abbrev nBuf : Space → Nat
  | .hbm => 113
  | .vmem => 0
  | .smem => 0
  | _ => 0

abbrev bufTy : (tb : Table) → Fin (tcTables nBuf tb) → BufTy
  | .hbm, ⟨0, _⟩ => ⟨S20480x512, .bf16⟩
  | .hbm, ⟨1, _⟩ => ⟨S20480x1024, .bf16⟩
  | .hbm, ⟨2, _⟩ => ⟨S20480x512, .f32⟩
  | .hbm, ⟨3, _⟩ => ⟨S20480x512, .f32⟩
  | .hbm, ⟨4, _⟩ => ⟨S20480x1024, .f32⟩
  | .hbm, ⟨5, _⟩ => ⟨S20480x3584, .f32⟩
  | .hbm, ⟨6, _⟩ => ⟨S20480x2048, .f32⟩
  | .hbm, ⟨7, _⟩ => ⟨S4x8x1x12288, .f32⟩
  | .hbm, ⟨8, _⟩ => ⟨S4x1x512, .f32⟩
  | .hbm, ⟨9, _⟩ => ⟨S4x1x512, .f32⟩
  | .hbm, ⟨10, _⟩ => ⟨S4x1x2048, .f32⟩
  | .hbm, ⟨11, _⟩ => ⟨S4x1x2048, .f32⟩
  | .hbm, ⟨12, _⟩ => ⟨S4x2048x2048, .bf16⟩
  | .hbm, ⟨13, _⟩ => ⟨S20480x512, .f32⟩
  | .hbm, ⟨14, _⟩ => ⟨S20480x512, .f32⟩
  | .hbm, ⟨15, _⟩ => ⟨S1x1x512, .f32⟩
  | .hbm, ⟨16, _⟩ => ⟨S512, .f32⟩
  | .hbm, ⟨17, _⟩ => ⟨S1x512, .f32⟩
  | .hbm, ⟨18, _⟩ => ⟨S20480x512, .f32⟩
  | .hbm, ⟨19, _⟩ => ⟨S20480x512, .f32⟩
  | .hbm, ⟨20, _⟩ => ⟨S20480x512, .f32⟩
  | .hbm, ⟨21, _⟩ => ⟨S20480x512, .f32⟩
  | .hbm, ⟨22, _⟩ => ⟨S20480x512, .f32⟩
  | .hbm, ⟨23, _⟩ => ⟨S20480x512, .f32⟩
  | .hbm, ⟨24, _⟩ => ⟨S_, .f32⟩
  | .hbm, ⟨25, _⟩ => ⟨S20480x512, .f32⟩
  | .hbm, ⟨26, _⟩ => ⟨S20480x512, .f32⟩
  | .hbm, ⟨27, _⟩ => ⟨S_, .f32⟩
  | .hbm, ⟨28, _⟩ => ⟨S20480x512, .f32⟩
  | .hbm, ⟨29, _⟩ => ⟨S20480x512, .f32⟩
  | .hbm, ⟨30, _⟩ => ⟨S20480x512, .f32⟩
  | .hbm, ⟨31, _⟩ => ⟨S20480x512, .f32⟩
  | .hbm, ⟨32, _⟩ => ⟨S1x1x512, .f32⟩
  | .hbm, ⟨33, _⟩ => ⟨S512, .f32⟩
  | .hbm, ⟨34, _⟩ => ⟨S20480x512, .f32⟩
  | .hbm, ⟨35, _⟩ => ⟨S_, .f32⟩
  | .hbm, ⟨36, _⟩ => ⟨S20480, .f32⟩
  | .hbm, ⟨37, _⟩ => ⟨S20480x1, .f32⟩
  | .hbm, ⟨38, _⟩ => ⟨S_, .f32⟩
  | .hbm, ⟨39, _⟩ => ⟨S20480x1, .f32⟩
  | .hbm, ⟨40, _⟩ => ⟨S20480x1, .f32⟩
  | .hbm, ⟨41, _⟩ => ⟨S_, .f32⟩
  | .hbm, ⟨42, _⟩ => ⟨S20480x1, .f32⟩
  | .hbm, ⟨43, _⟩ => ⟨S20480x1, .f32⟩
  | .hbm, ⟨44, _⟩ => ⟨S20480x1, .f32⟩
  | .hbm, ⟨45, _⟩ => ⟨S20480x512, .f32⟩
  | .hbm, ⟨46, _⟩ => ⟨S20480x512, .f32⟩
  | .hbm, ⟨47, _⟩ => ⟨S1x512, .f32⟩
  | .hbm, ⟨48, _⟩ => ⟨S20480x512, .f32⟩
  | .hbm, ⟨49, _⟩ => ⟨S20480x512, .f32⟩
  | .hbm, ⟨50, _⟩ => ⟨S20480x512, .f32⟩
  | .hbm, ⟨51, _⟩ => ⟨S20480x1024, .f32⟩
  | .hbm, ⟨52, _⟩ => ⟨S20480x2048, .f32⟩
  | .hbm, ⟨53, _⟩ => ⟨S1x2048x2048, .bf16⟩
  | .hbm, ⟨54, _⟩ => ⟨S2048x2048, .bf16⟩
  | .hbm, ⟨55, _⟩ => ⟨S2048x2048, .f32⟩
  | .hbm, ⟨56, _⟩ => ⟨S20480x2048, .f32⟩
  | .hbm, ⟨57, _⟩ => ⟨S5x4096x2048, .f32⟩
  | .hbm, ⟨58, _⟩ => ⟨S5x4096x2048, .f32⟩
  | .hbm, ⟨59, _⟩ => ⟨S1x5x1x6144, .f32⟩
  | .hbm, ⟨60, _⟩ => ⟨S5x1x6144, .f32⟩
  | .hbm, ⟨61, _⟩ => ⟨S5x1x2048, .f32⟩
  | .hbm, ⟨62, _⟩ => ⟨S5x1x2048, .f32⟩
  | .hbm, ⟨63, _⟩ => ⟨S5x1x2048, .f32⟩
  | .hbm, ⟨64, _⟩ => ⟨S1x1x2048, .f32⟩
  | .hbm, ⟨65, _⟩ => ⟨S2048, .f32⟩
  | .hbm, ⟨66, _⟩ => ⟨S5x4096x2048, .f32⟩
  | .hbm, ⟨67, _⟩ => ⟨S_, .f32⟩
  | .hbm, ⟨68, _⟩ => ⟨S5x4096, .f32⟩
  | .hbm, ⟨69, _⟩ => ⟨S5x4096x1, .f32⟩
  | .hbm, ⟨70, _⟩ => ⟨S_, .f32⟩
  | .hbm, ⟨71, _⟩ => ⟨S5x4096x1, .f32⟩
  | .hbm, ⟨72, _⟩ => ⟨S5x4096x1, .f32⟩
  | .hbm, ⟨73, _⟩ => ⟨S_, .f32⟩
  | .hbm, ⟨74, _⟩ => ⟨S5x4096x1, .f32⟩
  | .hbm, ⟨75, _⟩ => ⟨S5x4096x1, .f32⟩
  | .hbm, ⟨76, _⟩ => ⟨S5x4096x1, .f32⟩
  | .hbm, ⟨77, _⟩ => ⟨S5x4096x2048, .f32⟩
  | .hbm, ⟨78, _⟩ => ⟨S5x4096x2048, .f32⟩
  | .hbm, ⟨79, _⟩ => ⟨S1x1x2048, .f32⟩
  | .hbm, ⟨80, _⟩ => ⟨S5x4096x2048, .f32⟩
  | .hbm, ⟨81, _⟩ => ⟨S5x4096x2048, .f32⟩
  | .hbm, ⟨82, _⟩ => ⟨S5x4096x2048, .f32⟩
  | .hbm, ⟨83, _⟩ => ⟨S5x4096x2048, .f32⟩
  | .hbm, ⟨84, _⟩ => ⟨S5x4096x2048, .f32⟩
  | .hbm, ⟨85, _⟩ => ⟨S1x1x2048, .f32⟩
  | .hbm, ⟨86, _⟩ => ⟨S2048, .f32⟩
  | .hbm, ⟨87, _⟩ => ⟨S5x4096x2048, .f32⟩
  | .hbm, ⟨88, _⟩ => ⟨S_, .f32⟩
  | .hbm, ⟨89, _⟩ => ⟨S5x4096, .f32⟩
  | .hbm, ⟨90, _⟩ => ⟨S5x4096x1, .f32⟩
  | .hbm, ⟨91, _⟩ => ⟨S_, .f32⟩
  | .hbm, ⟨92, _⟩ => ⟨S5x4096x1, .f32⟩
  | .hbm, ⟨93, _⟩ => ⟨S5x4096x1, .f32⟩
  | .hbm, ⟨94, _⟩ => ⟨S_, .f32⟩
  | .hbm, ⟨95, _⟩ => ⟨S5x4096x1, .f32⟩
  | .hbm, ⟨96, _⟩ => ⟨S5x4096x1, .f32⟩
  | .hbm, ⟨97, _⟩ => ⟨S5x4096x1, .f32⟩
  | .hbm, ⟨98, _⟩ => ⟨S5x4096x2048, .f32⟩
  | .hbm, ⟨99, _⟩ => ⟨S5x4096x2048, .f32⟩
  | .hbm, ⟨100, _⟩ => ⟨S1x1x2048, .f32⟩
  | .hbm, ⟨101, _⟩ => ⟨S5x4096x2048, .f32⟩
  | .hbm, ⟨102, _⟩ => ⟨S5x4096x2048, .f32⟩
  | .hbm, ⟨103, _⟩ => ⟨S_, .f32⟩
  | .hbm, ⟨104, _⟩ => ⟨S5x1x2048, .f32⟩
  | .hbm, ⟨105, _⟩ => ⟨S5x1x2048, .f32⟩
  | .hbm, ⟨106, _⟩ => ⟨S5x4096x2048, .f32⟩
  | .hbm, ⟨107, _⟩ => ⟨S5x4096x2048, .f32⟩
  | .hbm, ⟨108, _⟩ => ⟨S5x4096x2048, .f32⟩
  | .hbm, ⟨109, _⟩ => ⟨S5x4096x2048, .f32⟩
  | .hbm, ⟨110, _⟩ => ⟨S20480x2048, .f32⟩
  | .hbm, ⟨111, _⟩ => ⟨S20480x2048, .f32⟩
  | .hbm, ⟨112, _⟩ => ⟨S20480x2048, .bf16⟩
  | _, _ => ⟨S20480x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Proof.AttnMath.lean ====
/-
  Attention with a sink, on plain families of extended reals: one query row against all key rows of its head, the
  scores weighed by a softmax whose denominator also counts the sink, the weights against the value rows.
-/
module

public import Idealize.ShloMosaic.PureOps.Ideal

@[expose] public section

noncomputable section

namespace Cert.Attn

open Idealize.ShloMosaic

/-- The score of key row `k t` for the query row `q`: their product, times the program's scale. -/
def score {n T : Nat} (q : Fin n → EReal) (k : Fin T → Fin n → EReal) (t : Fin T) : EReal :=
  (∑ x, q x * k t x) * Ideal.ofBits .f32 0x3DB504F3#32

/-- The largest of the scores and the sink. -/
def top {T : Nat} (f : Fin T → EReal) (s : EReal) : EReal :=
  max (Finset.fold max (Ideal.ofBits .f32 0xFF800000#32) f Finset.univ) s

/-- The weight of position `t`. -/
def weight {T : Nat} (f : Fin T → EReal) (s : EReal) (t : Fin T) : EReal :=
  Ideal.div (Ideal.exp (f t - top f s)) (∑ u, Ideal.exp (f u - top f s) + Ideal.exp (s - top f s))

/-- One entry of the attention: the weights against a column of the value rows. -/
def out {n T : Nat} (q : Fin n → EReal) (k : Fin T → Fin n → EReal) (v : Fin T → EReal) (s : EReal) : EReal :=
  ∑ t, weight (score q k) s t * v t

/-- The score with the products' factors in the other order, -/
def scoreR {n T : Nat} (q : Fin n → EReal) (k : Fin T → Fin n → EReal) (t : Fin T) : EReal :=
  (∑ x, k t x * q x) * Ideal.ofBits .f32 0x3DB504F3#32

/-- which is the score; -/
theorem scoreR_eq {n T : Nat} (q : Fin n → EReal) (k : Fin T → Fin n → EReal) : scoreR q k = score q k := by
  funext t
  unfold score scoreR
  rw [Finset.sum_congr rfl fun x _ => mul_comm (k t x) (q x)]

/-- so too an entry. -/
theorem out_comm {n T : Nat} (q : Fin n → EReal) (k : Fin T → Fin n → EReal) (v : Fin T → EReal) (s : EReal) :
    ∑ t, v t * weight (scoreR q k) s t = out q k v s := by
  rw [scoreR_eq]
  exact Finset.sum_congr rfl fun t _ => mul_comm _ _

end Cert.Attn

end
-- ==== Proof.AttnRef.lean ====
/-
  The reference of the context tokens' attention, entry by entry: attention with a sink of the argument arrays.

  The reference works on arrays of rank five (sequence, key-value head, query head of it, query position, key
  position); its operations are read here in three stages: the scores, the weights, the products with the values.
-/
module

public import proofs.«01_k».proof.Proof.AttnMath
public import proofs.«01_k».proof.Proof.Gen.ReferenceIdeal.Run
public import Idealize.ShloMosaic.Lib.Pointwise
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen

/-- The context tokens' rows, by sequence. -/
def ctx (P : Vec Ideal S20480x3584 .f32) : FVec Ideal S16x256x3584 .f32 :=
  shapeCast _ (extractStridedSlice S4096x3584 ![0, 0] P slices_S20480x3584_S4096x3584_0_0) shapeCasts_S4096x3584_S16x256x3584

/-- The query rows by head, -/
def qs (P : Vec Ideal S20480x3584 .f32) : FVec Ideal S16x256x2x4x128 .f32 :=
  shapeCast S16x256x2x4x128 (extractStridedSlice S16x256x1024 ![0, 0, 512] (ctx P) slices_S16x256x3584_S16x256x1024_0_0_512)
    shapeCasts_S16x256x1024_S16x256x2x4x128

/-- and the key rows. -/
def ks (P : Vec Ideal S20480x3584 .f32) : FVec Ideal S16x256x2x128 .f32 :=
  shapeCast S16x256x2x128 (extractStridedSlice S16x256x256 ![0, 0, 1536] (ctx P) slices_S16x256x3584_S16x256x256_0_0_1536)
    shapeCasts_S16x256x256_S16x256x2x128

/-- The scores, scaled. -/
def scores (K : FVec Ideal S16x256x2x128 .f32) (Q : FVec Ideal S16x256x2x4x128 .f32) : FVec Ideal S16x2x4x256x256 .f32 :=
  mulf (transpose S16x2x4x256x256 [0, 1, 4, 3, 2]
      (Host.dotGeneral (φ₁ := .f32) (φ₂ := .f32) dot_S16x256x2x128_S16x256x2x4x128_S16x2x256x256x4_3_4_1_13_02_02 none K Q)
      transposes_S16x2x256x256x4_S16x2x4x256x256_0_1_4_3_2)
    (broadcastInDim S16x2x4x256x256 ![] bcast_S_S16x2x4x256x256 (constant S_ .f32 0x3DB504F3#32))

/-- The sinks, at every query. -/
def sinks (S : Vec Ideal S8 .f32) : FVec Ideal S16x2x4x256x1 .f32 :=
  broadcastInDim S16x2x4x256x1 ![0, 1, 2, 3, 4] bcast_S1x2x4x1x1_S16x2x4x256x1_0_1_2_3_4
    (broadcastInDim S1x2x4x1x1 ![1, 2] bcast_S2x4_S1x2x4x1x1_1_2 (shapeCast S2x4 S shapeCasts_S8_S2x4))

/-- Each query's largest score or sink. -/
def tops (f : FVec Ideal S16x2x4x256x256 .f32) (s : FVec Ideal S16x2x4x256x1 .f32) : FVec Ideal S16x2x4x256x1 .f32 :=
  maximumf (broadcastInDim S16x2x4x256x1 ![0, 1, 2, 3] bcast_S16x2x4x256_S16x2x4x256x1_0_1_2_3
    (Host.reduce FloatOps.maximumf f (constant S_ .f32 0xFF800000#32) reducesTo_S16x2x4x256x256_S16x2x4x256_d4 h_S_)) s

/-- The shifted scores' exponentials. -/
def exps (f : FVec Ideal S16x2x4x256x256 .f32) (s : FVec Ideal S16x2x4x256x1 .f32) : FVec Ideal S16x2x4x256x256 .f32 :=
  Host.exp (subf f (broadcastInDim S16x2x4x256x256 ![0, 1, 2, 3, 4] bcast_S16x2x4x256x1_S16x2x4x256x256_0_1_2_3_4 (tops f s)))

/-- The weights. -/
def weights (f : FVec Ideal S16x2x4x256x256 .f32) (s : FVec Ideal S16x2x4x256x1 .f32) : FVec Ideal S16x2x4x256x256 .f32 :=
  Host.divf (exps f s) (broadcastInDim S16x2x4x256x256 ![0, 1, 2, 3, 4] bcast_S16x2x4x256x1_S16x2x4x256x256_0_1_2_3_4
    (addf (broadcastInDim S16x2x4x256x1 ![0, 1, 2, 3] bcast_S16x2x4x256_S16x2x4x256x1_0_1_2_3
        (Host.reduceAdd (exps f s) (constant S_ .f32 0x00000000#32) reducesTo_S16x2x4x256x256_S16x2x4x256_d4 h_S_))
      (Host.exp (subf s (tops f s)))))

/-- The reference's result, from the weights. -/
def result (P : Vec Ideal S20480x3584 .f32) (w : FVec Ideal S16x2x4x256x256 .f32) : FVec Ideal S4096x1024 .bf16 :=
  truncf .bf16 (shapeCast S4096x1024 (transpose S16x256x2x4x128 [0, 4, 1, 3, 2]
    (Host.dotGeneral (φ₁ := .f32) (φ₂ := .f32) dot_S16x256x2x128_S16x2x4x256x256_S16x2x128x4x256_1_4_3_23_02_01 none
      (shapeCast S16x256x2x128 (extractStridedSlice S16x256x256 ![0, 0, 1792] (ctx P) slices_S16x256x3584_S16x256x256_0_0_1792)
        shapeCasts_S16x256x256_S16x256x2x128) w)
    transposes_S16x2x128x4x256_S16x256x2x4x128_0_4_1_3_2) shapeCasts_S16x256x2x4x128_S4096x1024) bitsLt_bf16_f32

/-- The run's composed term is these stages. -/
theorem res_eq (m : (ℓ : Loc nD τ sig) → Buf (Elt Ideal) ℓ) (c : Dev nD) :
    (Value.res_main_v32 m c : Vec Ideal S4096x1024 .bf16)
      = result (m ((c.tc : Thread nD τ).loc main_arg0))
          (weights (scores (ks (m ((c.tc : Thread nD τ).loc main_arg0))) (qs (m ((c.tc : Thread nD τ).loc main_arg0)))) (sinks (m ((c.tc : Thread nD τ).loc main_arg1)))) := by
  unfold Value.res_main_v32
  rfl

theorem qs_apply (P : Vec Ideal S20480x3584 .f32) (b : Fin 16) (q : Fin 256) (k : Fin 2) (g : Fin 4) (x : Fin 128) :
    qs P (ix5 b q k g x) = P (ix2 ⟨b.val * 256 + q.val, by omega⟩ ⟨512 + (k.val * 512 + g.val * 128 + x.val), by omega⟩) := by
  pointwise [qs, ctx]

theorem ks_apply (P : Vec Ideal S20480x3584 .f32) (b : Fin 16) (q : Fin 256) (k : Fin 2) (x : Fin 128) :
    ks P (ix4 b q k x) = P (ix2 ⟨b.val * 256 + q.val, by omega⟩ ⟨1536 + (k.val * 128 + x.val), by omega⟩) := by
  pointwise [ks, ctx]

theorem scores_apply (K : FVec Ideal S16x256x2x128 .f32) (Q : FVec Ideal S16x256x2x4x128 .f32) (b : Fin 16) (k : Fin 2)
    (g : Fin 4) (q t : Fin 256) :
    scores K Q (ix5 b k g q t)
      = Cert.Attn.scoreR (fun x : Fin 128 => Q (ix5 b q k g x)) (fun (t : Fin 256) x => K (ix4 b t k x)) t := by
  unfold Cert.Attn.scoreR
  pointwise [scores]

theorem sinks_apply (S : Vec Ideal S8 .f32) (b : Fin 16) (k : Fin 2) (g : Fin 4) (q : Fin 256) (z : Fin 1) :
    sinks S (ix5 b k g q z) = S (ix1 ⟨k.val * 4 + g.val, by omega⟩) := by
  pointwise [sinks]

/-- The last axis is the one the maxima run over. -/
theorem red : S16x2x4x256x256.Reduces [4] S16x2x4x256 := by decide

theorem lift_eq (b : Fin 16) (k : Fin 2) (g : Fin 4) (q t : Fin 256) :
    red.lift (ix4 b k g q) t = ix5 b k g q t := by
  funext a
  match a with
  | 0 => rfl
  | 1 => rfl
  | 2 => rfl
  | 3 => rfl
  | 4 => rfl

theorem rowMax_apply (f : FVec Ideal S16x2x4x256x256 .f32) (b : Fin 16) (k : Fin 2) (g : Fin 4) (q : Fin 256) :
    (Host.reduce FloatOps.maximumf f (constant S_ .f32 0xFF800000#32) reducesTo_S16x2x4x256x256_S16x2x4x256_d4 h_S_ : FVec Ideal S16x2x4x256 .f32) (ix4 b k g q)
      = Finset.fold (max : EReal → EReal → EReal) (Ideal.ofBits .f32 0xFF800000#32) (fun t : Fin 256 => (f (ix5 b k g q t) : EReal)) Finset.univ := by
  rw [Host.reduce_eq_fold_single FloatOps.maximumf f _ _ red]
  exact congrArg (fun z => Finset.fold (max : EReal → EReal → EReal) (Ideal.ofBits .f32 0xFF800000#32) z Finset.univ)
    (funext fun t => congrArg f (lift_eq b k g q t))

theorem perQuery_apply (R : FVec Ideal S16x2x4x256 .f32) (b : Fin 16) (k : Fin 2) (g : Fin 4) (q : Fin 256) (z : Fin 1) :
    (broadcastInDim S16x2x4x256x1 ![0, 1, 2, 3] bcast_S16x2x4x256_S16x2x4x256x1_0_1_2_3 R : FVec Ideal S16x2x4x256x1 .f32)
      (ix5 b k g q z) = R (ix4 b k g q) := by
  pointwise

theorem tops_apply (f : FVec Ideal S16x2x4x256x256 .f32) (s : FVec Ideal S16x2x4x256x1 .f32) (b : Fin 16) (k : Fin 2)
    (g : Fin 4) (q : Fin 256) (z : Fin 1) :
    tops f s (ix5 b k g q z) = Cert.Attn.top (fun t : Fin 256 => f (ix5 b k g q t)) (s (ix5 b k g q z)) := by
  have h : ∀ (A B : FVec Ideal S16x2x4x256x1 .f32) i, maximumf A B i = (max (A i) (B i) : EReal) := fun _ _ _ => rfl
  unfold tops Cert.Attn.top
  rw [h, perQuery_apply, rowMax_apply]

theorem exps_apply (f : FVec Ideal S16x2x4x256x256 .f32) (s : FVec Ideal S16x2x4x256x1 .f32) (b : Fin 16) (k : Fin 2) (g : Fin 4) (q t : Fin 256) :
    exps f s (ix5 b k g q t) = Ideal.exp (f (ix5 b k g q t) - tops f s (ix5 b k g q (0 : Fin 1))) := by
  pointwise [exps]

theorem weights_apply (f : FVec Ideal S16x2x4x256x256 .f32) (s : FVec Ideal S16x2x4x256x1 .f32) (b : Fin 16) (k : Fin 2) (g : Fin 4) (q t : Fin 256) :
    weights f s (ix5 b k g q t)
      = Cert.Attn.weight (fun t : Fin 256 => f (ix5 b k g q t)) (s (ix5 b k g q (0 : Fin 1))) t := by
  unfold Cert.Attn.weight
  rw [← tops_apply]
  simp only [← exps_apply f s b k g q]
  pointwise [weights]

theorem result_apply (P : Vec Ideal S20480x3584 .f32) (w : FVec Ideal S16x2x4x256x256 .f32) (r : Fin 4096) (l : Fin 1024) :
    result P w (ix2 r l)
      = ∑ t : Fin 256, P (ix2 ⟨r.val / 256 * 256 + t.val, by omega⟩ ⟨1792 + (l.val / 512 * 128 + l.val % 128), by omega⟩)
          * w (ix5 (⟨r.val / 256, by omega⟩ : Fin 16) (⟨l.val / 512, by omega⟩ : Fin 2) (⟨l.val / 128 % 4, by omega⟩ : Fin 4)
            (⟨r.val % 256, by omega⟩ : Fin 256) t) := by
  pointwise [result, ctx]

/-- The reference's result at row `r`, column `l`. -/
theorem ref_apply (m : (ℓ : Loc nD τ sig) → Buf (Elt Ideal) ℓ) (c : Dev nD) (P : Vec Ideal S20480x3584 .f32)
    (hP : P = m ((c.tc : Thread nD τ).loc main_arg0)) (S : Vec Ideal S8 .f32)
    (hS : S = m ((c.tc : Thread nD τ).loc main_arg1)) (r : Fin 4096) (l : Fin 1024) :
    (Value.res_main_v32 m c : Vec Ideal S4096x1024 .bf16) (ix2 r l)
      = Cert.Attn.out (fun x : Fin 128 => P (ix2 ⟨r.val, by omega⟩ ⟨512 + (l.val / 128 * 128 + x.val), by omega⟩))
          (fun (t : Fin 256) x => P (ix2 ⟨r.val / 256 * 256 + t.val, by omega⟩ ⟨1536 + (l.val / 512 * 128 + x.val), by omega⟩))
          (fun t => P (ix2 ⟨r.val / 256 * 256 + t.val, by omega⟩ ⟨1792 + (l.val / 512 * 128 + l.val % 128), by omega⟩))
          (S (ix1 ⟨l.val / 128, by omega⟩)) := by
  have hq : ∀ x : Fin 128, 512 + (l.val / 512 * 512 + l.val / 128 % 4 * 128 + x.val) = 512 + (l.val / 128 * 128 + x.val) := fun x => by omega
  have hs : l.val / 512 * 4 + l.val / 128 % 4 = l.val / 128 := by omega
  have hr : r.val / 256 * 256 + r.val % 256 = r.val := by omega
  rw [res_eq, ← hP, ← hS, result_apply, ← Cert.Attn.out_comm]
  simp only [weights_apply, sinks_apply, scores_apply, qs_apply, ks_apply, hq, hs, hr]

end Cert.ReferenceIdeal.Attn

end
-- ==== Proof.AttnKernel.lean ====
/-
  The attention call of the context tokens: the array it leaves is, head by head, attention with a sink.

  A grid point works on one sequence and one key-value head; its block holds the four query heads that share them, each
  stored as 128 columns.
-/
module

public import proofs.«01_k».proof.Proof.AttnMath
public import proofs.«01_k».proof.Proof.Gen.KernelIdeal.Value
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen

/-- One head's stored columns: attention of that head's queries, for each of the four heads' spellings. -/
theorem head0 (k v q : Vec Ideal S256x128 .f32) (s : Elt Ideal .f32) (r : Fin 256) (d : Fin 128) :
    (k0_pay5 (F := Ideal) k v q s : Vec Ideal S256x128 .bf16) (ix2 r d)
      = Cert.Attn.out (fun x : Fin 128 => q (ix2 r x)) (fun (t : Fin 256) x => k (ix2 t x)) (fun t => v (ix2 t d)) s := by
  unfold Cert.Attn.out Cert.Attn.weight Cert.Attn.top Cert.Attn.score
  pointwise [k0_pay5, k0_pay4, k0_pay3]

theorem head1 (k v q : Vec Ideal S256x128 .f32) (s : Elt Ideal .f32) (r : Fin 256) (d : Fin 128) :
    (k0_pay7 (F := Ideal) (k0_pay4 v) (k0_pay6 k q) s : Vec Ideal S256x128 .bf16) (ix2 r d)
      = Cert.Attn.out (fun x : Fin 128 => q (ix2 r x)) (fun (t : Fin 256) x => k (ix2 t x)) (fun t => v (ix2 t d)) s := by
  unfold Cert.Attn.out Cert.Attn.weight Cert.Attn.top Cert.Attn.score
  pointwise [k0_pay7, k0_pay6, k0_pay4, k0_pay3]

theorem head2 (k v q : Vec Ideal S256x128 .f32) (s : Elt Ideal .f32) (r : Fin 256) (d : Fin 128) :
    (k0_pay1 (F := Ideal) (k0_pay4 v) (k0_pay10 (k0_pay3 k) q s) (k0_pay11 (k0_pay3 k) q s) : Vec Ideal S256x128 .bf16) (ix2 r d)
      = Cert.Attn.out (fun x : Fin 128 => q (ix2 r x)) (fun (t : Fin 256) x => k (ix2 t x)) (fun t => v (ix2 t d)) s := by
  unfold Cert.Attn.out Cert.Attn.weight Cert.Attn.top Cert.Attn.score
  pointwise [k0_pay1, k0_pay11, k0_pay10, k0_pay9, k0_pay8, k0_pay4, k0_pay3]

theorem head3 (k v q : Vec Ideal S256x128 .f32) (s : Elt Ideal .f32) (r : Fin 256) (d : Fin 128) :
    (k0_pay2 (F := Ideal) (k0_pay3 k) (k0_pay4 v) q s : Vec Ideal S256x128 .bf16) (ix2 r d)
      = Cert.Attn.out (fun x : Fin 128 => q (ix2 r x)) (fun (t : Fin 256) x => k (ix2 t x)) (fun t => v (ix2 t d)) s := by
  unfold Cert.Attn.out Cert.Attn.weight Cert.Attn.top Cert.Attn.score
  pointwise [k0_pay2, k0_pay4, k0_pay3]

/-- A head's load of the query block and of the sink are the block's own entries at that head's offsets. -/
theorem q_load (X : Vec Ideal S256x512 .f32) (o : Nat) (inb : ∀ a, (![0, o] : Fin 2 → Nat) a + (![256, 128] : Fin 2 → Nat) a ≤ S256x512.size a)
    (r : Fin 256) (x : Fin 128) (l : Fin 512) (hl : l.val = o + x.val) :
    View.ld X (Rect.unit (s := S256x512) ![0, o] ![256, 128] inb) (ix2 r x) = X (ix2 r l) := by
  refine View.ld_unit_apply_of _ _ _ _ _ _ (fun a => ?_)
  match a with
  | 0 => simp
  | 1 => simpa using hl

theorem s_load (X : Vec Ideal S8 .f32) (i : grid0.Coords) (g : Fin 4) (h : S1.numel = 1)
    (inb : ∀ a, (k0_off1 i (BitVec.ofNat 32 g.val)) a + (![1] : Fin 1 → Nat) a ≤ S8.size a)
    (hf : 0 < (Rect.unit (s := S8) (k0_off1 i (BitVec.ofNat 32 g.val)) ![1] inb).shape.numel) (k : Fin 8) (hk : k.val = 4 * (i 1).val + g.val) :
    View.ld X (Rect.unit (s := S8) (k0_off1 i (BitVec.ofNat 32 g.val)) ![1] inb) (Shape.Idx.first hf) = X (ix1 k) := by
  refine View.ld_unit_apply_of _ _ _ _ _ _ (fun a => ?_)
  match a with
  | 0 => simp [k0_off1_eq, hk]

/-- A point's whole block: column `l` belongs to head `l / 128` of the point's four. -/
theorem block_apply (c : Dev nD) (i : grid0.Coords) (arg2 : Memref sig .tc .smem S8 .f32) (harg2 : arg2.IsWhole)
    (arg3 : Memref sig .tc .vmem S256x512 .f32) (harg3 : arg3.IsWhole) (arg4 : Memref sig .tc .vmem S256x128 .f32)
    (harg4 : arg4.IsWhole) (arg5 : Memref sig .tc .vmem S256x128 .f32) (harg5 : arg5.IsWhole)
    (arg6 : Memref sig .tc .vmem S256x512 .bf16) (harg6 : arg6.IsWhole)
    (X0 : Vec Ideal S8 .f32) (X1 : Vec Ideal S256x512 .f32) (X2 X3 : Vec Ideal S256x128 .f32) (r : Fin 256) (l : Fin 512)
    (hh : 4 * (i 1).val + l.val / 128 < 8) :
    out0_A_4 (F := Ideal) c i arg2 harg2 arg3 harg3 arg4 harg4 arg5 harg5 arg6 harg6 X0 X1 X2 X3 (ix2 r l)
      = Cert.Attn.out (fun x : Fin 128 => X1 (ix2 r ⟨l.val / 128 * 128 + x.val, by omega⟩))
          (fun (t : Fin 256) x => X2 (ix2 t x)) (fun t => X3 (ix2 t ⟨l.val % 128, by omega⟩))
          (X0 (ix1 ⟨4 * (i 1).val + l.val / 128, hh⟩)) := by
  frame_out
  canon_tiles x h
  · idx_vars x
    obtain rfl : r = x0 := Fin.ext h0
    refine (head3 _ _ _ _ _ _).trans ?_
    rw [show (⟨l.val % 128, by omega⟩ : Fin 128) = x1 from Fin.ext (show l.val % 128 = x1.val by omega)]
    congr 1
    · funext x; exact q_load _ _ _ _ _ _ (show l.val / 128 * 128 + x.val = _ by omega)
    · exact s_load _ i 3 rfl _ _ _ (show 4 * (i 1).val + l.val / 128 = 4 * (i 1).val + 3 by omega)
  · idx_vars x
    obtain rfl : r = x0 := Fin.ext h0
    refine (head2 _ _ _ _ _ _).trans ?_
    rw [show (⟨l.val % 128, by omega⟩ : Fin 128) = x1 from Fin.ext (show l.val % 128 = x1.val by omega)]
    congr 1
    · funext x; exact q_load _ _ _ _ _ _ (show l.val / 128 * 128 + x.val = _ by omega)
    · exact s_load _ i 2 rfl _ _ _ (show 4 * (i 1).val + l.val / 128 = 4 * (i 1).val + 2 by omega)
  · idx_vars x
    obtain rfl : r = x0 := Fin.ext h0
    refine (head1 _ _ _ _ _ _).trans ?_
    rw [show (⟨l.val % 128, by omega⟩ : Fin 128) = x1 from Fin.ext (show l.val % 128 = x1.val by omega)]
    congr 1
    · funext x; exact q_load _ _ _ _ _ _ (show l.val / 128 * 128 + x.val = _ by omega)
    · exact s_load _ i 1 rfl _ _ _ (show 4 * (i 1).val + l.val / 128 = 4 * (i 1).val + 1 by omega)
  · idx_vars x
    obtain rfl : r = x0 := Fin.ext h0
    refine (head0 _ _ _ _ _ _).trans ?_
    rw [show (⟨l.val % 128, by omega⟩ : Fin 128) = x1 from Fin.ext (show l.val % 128 = x1.val by omega)]
    congr 1
    · funext x; exact q_load _ _ _ _ _ _ (show l.val / 128 * 128 + x.val = _ by omega)
    · exact s_load _ i 0 rfl _ _ _ (show 4 * (i 1).val + l.val / 128 = 4 * (i 1).val + 0 by omega)

/-- Which block of each array a grid point works on. -/
theorem idx : ∀ t : Fin cfg0.N, win0_0.index t = ![0] ∧ win0_1.index t = ![t.val / 2, 1 + t.val % 2]
    ∧ win0_2.index t = ![t.val / 2, 12 + t.val % 2] ∧ win0_3.index t = ![t.val / 2, 14 + t.val % 2]
    ∧ win0_4.index t = ![t.val / 2, t.val % 2] ∧ (grid0.coords t 1).val = t.val % 2 :=
  (by decide +kernel : ∀ t : Fin grid0.N, _)

/-- The array the call leaves: at row `r`, column `l` the attention of row `r` over the 256 rows of its sequence, for
    query head `l / 128` and key-value head `l / 512`. -/
def attn (P : Vec Ideal S20480x3584 .f32) (S : Vec Ideal S8 .f32) : Vec Ideal S4096x1024 .bf16 := fun i =>
  let r : Fin 4096 := i 0
  let l : Fin 1024 := i 1
  Cert.Attn.out (fun x : Fin 128 => P (ix2 ⟨r.val, by omega⟩ ⟨512 + (l.val / 128 * 128 + x.val), by omega⟩))
    (fun (t : Fin 256) x => P (ix2 ⟨r.val / 256 * 256 + t.val, by omega⟩ ⟨1536 + (l.val / 512 * 128 + x.val), by omega⟩))
    (fun t => P (ix2 ⟨r.val / 256 * 256 + t.val, by omega⟩ ⟨1792 + (l.val / 512 * 128 + l.val % 128), by omega⟩))
    (S (ix1 ⟨l.val / 128, by omega⟩))

variable (m : (ℓ : Loc nD τ sig) → Buf (Elt Ideal) ℓ)

/-- The blocks a point finds, read off the argument arrays. -/
theorem blk0 (c : Dev nD) (t : Fin cfg0.N) (k : Fin 8) :
    (iblk m c 0 t : Vec Ideal S8 .f32) (ix1 k)
      = (m ((c.tc : Thread nD τ).loc main_arg1) : Vec Ideal S8 .f32) (ix1 k) := by
  blk_ext [iblk, V, idx t]

theorem blk1 (c : Dev nD) (t : Fin cfg0.N) (r : Fin 256) (l : Fin 512) (r' : Fin 20480) (l' : Fin 3584)
    (hr : r'.val = t.val / 2 * 256 + r.val) (hl : l'.val = (1 + t.val % 2) * 512 + l.val) :
    (iblk m c 1 t : Vec Ideal S256x512 .f32) (ix2 r l)
      = (m ((c.tc : Thread nD τ).loc main_arg0) : Vec Ideal S20480x3584 .f32) (ix2 r' l') := by
  blk_ext [iblk, V, idx t]

theorem blk2 (c : Dev nD) (t : Fin cfg0.N) (r : Fin 256) (l : Fin 128) (r' : Fin 20480) (l' : Fin 3584)
    (hr : r'.val = t.val / 2 * 256 + r.val) (hl : l'.val = (12 + t.val % 2) * 128 + l.val) :
    (iblk m c 2 t : Vec Ideal S256x128 .f32) (ix2 r l)
      = (m ((c.tc : Thread nD τ).loc main_arg0) : Vec Ideal S20480x3584 .f32) (ix2 r' l') := by
  blk_ext [iblk, V, idx t]

theorem blk3 (c : Dev nD) (t : Fin cfg0.N) (r : Fin 256) (l : Fin 128) (r' : Fin 20480) (l' : Fin 3584)
    (hr : r'.val = t.val / 2 * 256 + r.val) (hl : l'.val = (14 + t.val % 2) * 128 + l.val) :
    (iblk m c 3 t : Vec Ideal S256x128 .f32) (ix2 r l)
      = (m ((c.tc : Thread nD τ).loc main_arg0) : Vec Ideal S20480x3584 .f32) (ix2 r' l') := by
  blk_ext [iblk, V, idx t]

/-- The block a point leaves, at an index, is the array's entry there. -/
theorem tile_eq (c : Dev nD) (t : Fin cfg0.N) (r : Fin 256) (l : Fin 512) (r' : Fin 4096) (l' : Fin 1024)
    (hr' : r'.val = t.val / 2 * 256 + r.val) (hl' : l'.val = t.val % 2 * 512 + l.val) :
    (outsAt0 m c t : Vec Ideal S256x512 .bf16) (ix2 r l)
      = attn (m ((c.tc : Thread nD τ).loc main_arg0)) (m ((c.tc : Thread nD τ).loc main_arg1)) (ix2 r' l') := by
  have hg : (grid0.coords t 1).val = t.val % 2 := (idx t).2.2.2.2.2
  unfold outsAt0
  rw [block_apply _ _ _ _ _ _ _ _ _ _ _ _ _ _ _ _ _ _ (by omega)]
  unfold attn
  simp only [blk0]
  congr 1
  · funext x; exact blk1 m c t _ _ _ _ hr' (by simp; omega)
  · funext u x; exact blk2 m c t _ _ _ _ (by simp; omega) (by simp; omega)
  · funext u; exact blk3 m c t _ _ _ _ (by simp; omega) (by simp; omega)
  · exact congrArg _ (congrArg ix1 (Fin.ext (by simp; omega)))

/-- The output array after the run. -/
theorem arr_eq (c : Dev nD) :
    (dats m 0 c).arrAt 4 cfg0.N
      = attn (m ((c.tc : Thread nD τ).loc main_arg0)) (m ((c.tc : Thread nD τ).loc main_arg1)) := by
  refine (dats m 0 c).arrAt_eq_of_covers 4 _ (by decide +kernel) fun t hf y => ?_
  blk_simp
  rw [after0_4]
  revert y
  intro (y : S256x512.Idx)
  idx_vars y
  have ht : t.val < 32 := lt_of_lt_of_eq t.isLt N_0
  have h0 := y0.isLt
  have h1 := y1.isLt
  refine (tile_eq m c t y0 y1 ⟨t.val / 2 * 256 + y0.val, by omega⟩ ⟨t.val % 2 * 512 + y1.val, by omega⟩ rfl rfl).trans ?_
  congr 1
  blk_ext [idx t]

end Cert.KernelIdeal.Attn

end
-- ==== Proof.AttnClaim.lean ====
/-
  The attention call of the context tokens and its reference leave the same array.
-/
module

public import proofs.«01_k».proof.Defs
public import proofs.«01_k».proof.Proof.AttnRef
public import proofs.«01_k».proof.Proof.AttnKernel
public import Idealize.ShloMosaic.Lib.Quiescent

@[expose] public section

noncomputable section

open Idealize.ShloMosaic Idealize.ShloMosaic.TcCoe Idealize.SL.Sem

namespace Cert.Proof.Attn

/-- The reference's frame, from its run. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories with the same arguments, the call and the reference both end at attention of the arguments. -/
theorem algebraic : Cert.algebraic_KernelIdeal_ReferenceIdeal := by
  intro m ρ m' ρ' _ hagree
  refine ⟨fun c => Cert.KernelIdeal.Attn.attn (m ((c.tc : Thread _ _).loc Cert.KernelIdeal.main_arg0))
      (m ((c.tc : Thread _ _).loc Cert.KernelIdeal.main_arg1)), ?_, ?_⟩
  · exact (θ_run Cert.KernelIdeal.defs _ _).mono
      (fun _ h c => ⟨(h c).1.trans (Cert.KernelIdeal.Attn.arr_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1⟩ := hagree c
    funext j
    revert j
    intro (j : Cert.ReferenceIdeal.S4096x1024.Idx)
    idx_vars j
    exact Cert.ReferenceIdeal.Attn.ref_apply m' c _ e0.symm _ e1.symm j0 j1

end Cert.Proof.Attn

end
-- ==== Proof.SwigluMath.lean ====
/-
  The gated feed-forward map of the layer, on plain families of extended reals.

  A row of the input is multiplied with two weight matrices; the first product is passed through
  `x ↦ x · logistic x` and multiplied with the second; the outcome is multiplied with a third matrix.
-/
module

public import Idealize.ShloMosaic.PureOps.Ideal
public import Idealize.ShloMosaic.Lib.Pipeline.ValueKit

@[expose] public section

set_option maxRecDepth 16384

noncomputable section

namespace Cert.Swiglu

open Idealize.ShloMosaic

/-- One hidden entry: the row `x` against a column `u` of the first matrix, gated, times the row against a column
    `w` of the second. -/
def hidden {D : Nat} (x u w : Fin D → EReal) : EReal :=
  (∑ d, x d * u d) * Ideal.logistic (∑ d, x d * u d) * ∑ d, x d * w d

/-- One output entry: the hidden entries against a column `z` of the third matrix. -/
def out {D F : Nat} (x : Fin D → EReal) (u w : Fin F → Fin D → EReal) (z : Fin F → EReal) : EReal :=
  ∑ f, hidden x (u f) (w f) * z f

/-- The hidden columns may be walked in `S` consecutive blocks of `n`: the blocks' partial entries add up to the
    whole entry. -/
theorem out_blocks {D F : Nat} (S n : Nat) (hF : F = S * n) (x : Fin D → EReal) (u w : Fin F → Fin D → EReal)
    (z : Fin F → EReal) (xs : Fin S → Fin D → EReal) (us ws : Fin S → Fin n → Fin D → EReal) (zs : Fin S → Fin n → EReal)
    (hx : ∀ s, xs s = x)
    (hu : ∀ s k (h : s.val * n + k.val < F), us s k = u ⟨s.val * n + k.val, h⟩)
    (hw : ∀ s k (h : s.val * n + k.val < F), ws s k = w ⟨s.val * n + k.val, h⟩)
    (hz : ∀ s k (h : s.val * n + k.val < F), zs s k = z ⟨s.val * n + k.val, h⟩) :
    ∑ s, out (xs s) (us s) (ws s) (zs s) = out x u w z := by
  unfold out
  refine Fin.sum_mul_add_congr (S := S) (n := n) (f := fun f => hidden x (u f) (w f) * z f) (fun s k hl => ?_) hF
  rw [hx, hu s k hl, hw s k hl, hz s k hl]

end Cert.Swiglu

end
-- ==== Proof.FfnRef.lean ====
/-
  The reference of the dense feed-forward part, entry by entry: it is the gated map of the argument arrays.
-/
module

public import proofs.«01_k».proof.Proof.SwigluMath
public import proofs.«01_k».proof.Proof.Gen.Reference2Ideal.Run
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Reference2Ideal.Ffn
open Cert.Reference2Ideal Cert.Reference2Ideal.Gen

/-- The array the feed-forward part leaves: at row `r`, column `l` the gated map of row `r` of the input. -/
def ffn (X : Vec Ideal S20480x2048 .bf16) (W1 W3 : Vec Ideal S2048x7168 .f32) (W2 : Vec Ideal S7168x2048 .f32) :
    Vec Ideal S20480x2048 .f32 :=
  fun i => Swiglu.out (fun d : Fin 2048 => X (ix2 (i 0) d)) (fun (f : Fin 7168) d => W1 (ix2 d f))
    (fun f d => W3 (ix2 d f)) (fun f => W2 (ix2 f (i 1)))

/-- The reference's composed operations are that array. -/
theorem ref_eq (X : Vec Ideal S20480x2048 .bf16) (W1 W3 : Vec Ideal S2048x7168 .f32) (W2 : Vec Ideal S7168x2048 .f32) :
    (Host.dotGeneral (F := Ideal) (φ₁ := .f32) (φ₂ := .f32) dot_S20480x7168_S7168x2048_S20480x2048_1_0_0_1_n_n none (mulf (mulf (Host.dotGeneral (φ₁ := .f32) (φ₂ := .f32) dot_S20480x2048_S2048x7168_S20480x7168_1_0_0_1_n_n none (extf .f32 X bitsLt_bf16_f32) W1) (Host.divf (broadcastInDim S20480x7168 ![] bcast_S_S20480x7168 (constant S_ .f32 0x3F800000#32)) (addf (broadcastInDim S20480x7168 ![] bcast_S_S20480x7168 (constant S_ .f32 0x3F800000#32)) (Host.exp (Host.negf (Host.dotGeneral (φ₁ := .f32) (φ₂ := .f32) dot_S20480x2048_S2048x7168_S20480x7168_1_0_0_1_n_n none (extf .f32 X bitsLt_bf16_f32) W1)))))) (Host.dotGeneral (φ₁ := .f32) (φ₂ := .f32) dot_S20480x2048_S2048x7168_S20480x7168_1_0_0_1_n_n none (extf .f32 X bitsLt_bf16_f32) W3)) W2 : Vec Ideal S20480x2048 .f32)
      = ffn X W1 W3 W2 := by
  funext j
  idx_vars j
  pointwise [ffn]
  simp only [Swiglu.out, Swiglu.hidden, Ideal.logistic, Ideal.ofBits_one_f32]

end Cert.Reference2Ideal.Ffn

end
-- ==== Proof.FfnKernel.lean ====
/-
  The dense feed-forward call: the array it leaves is the gated map of its argument arrays.

  The grid walks, for each tile of 1024 rows, the 28 blocks of 256 hidden columns; the output tile is stored at the
  first block and added to at the others. So the tile's final contents are a sum of 28 partial entries, which is the
  whole entry.
-/
module

public import proofs.«01_k».proof.Proof.SwigluMath
public import proofs.«01_k».proof.Proof.Gen.Kernel2Ideal.Value
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Ffn
open Cert.Kernel2Ideal Cert.Kernel2Ideal.Gen

/-- One block's partial tile: the gated map over the block's 256 hidden columns. -/
theorem pay1_apply (v0 : Vec Ideal S1024x2048 .bf16) (v1 v4 : Vec Ideal S2048x256 .f32) (v11 : Vec Ideal S256x2048 .f32)
    (r : Fin 1024) (l : Fin 2048) :
    (k0_pay1 (F := Ideal) v0 v1 v4 v11 : Vec Ideal S1024x2048 .f32) (ix2 r l)
      = Swiglu.out (fun d : Fin 2048 => v0 (ix2 r d)) (fun (f : Fin 256) d => v1 (ix2 d f)) (fun f d => v4 (ix2 d f))
          (fun f => v11 (ix2 f l)) := by
  unfold Swiglu.out Swiglu.hidden
  pointwise [k0_pay1]

/-- At the later blocks the partial tile is added to what the tile holds. -/
theorem pay2_apply (v0 : Vec Ideal S1024x2048 .bf16) (v1 v4 : Vec Ideal S2048x256 .f32) (v11 : Vec Ideal S256x2048 .f32)
    (v20 : Vec Ideal S1024x2048 .f32) (j : S1024x2048.Idx) :
    (k0_pay2 (F := Ideal) v0 v1 v4 v11 v20 : Vec Ideal S1024x2048 .f32) j = v20 j + k0_pay1 v0 v1 v4 v11 j := by
  pointwise [k0_pay2]

/-- Which block of each array a grid point works on. -/
theorem idx : ∀ t : Fin cfg0.N, win0_0.index t = ![t.val / 28, 0] ∧ win0_1.index t = ![0, t.val % 28]
    ∧ win0_2.index t = ![0, t.val % 28] ∧ win0_3.index t = ![t.val % 28, 0] ∧ win0_4.index t = ![t.val / 28, 0] :=
  (by decide +kernel : ∀ t : Fin grid0.N, _)

variable (m : (ℓ : Loc nD τ sig) → Buf (Elt Ideal) ℓ)

/-- One point's partial tile, over the blocks the point finds. -/
def part (c : Dev nD) (t : Fin cfg0.N) : Vec Ideal S1024x2048 .f32 :=
  k0_pay1 (F := Ideal) (iblk m c 0 t) (iblk m c 1 t) (iblk m c 2 t) (iblk m c 3 t)

/-- At a tile's first block the tile becomes the partial tile, -/
theorem outs_first (c : Dev nD) (t : Fin cfg0.N) (h0 : t.val % 28 = 0) (j : S1024x2048.Idx) :
    outsAt0 m c t.val t.isLt j = (0 : EReal) + part m c t j := by
  rw [outsAt0_A m c t h0 (by omega)]; frame_out
  rw [zero_add]; rfl

/-- and at the others it grows by it. -/
theorem outs_step (c : Dev nD) (t : Fin cfg0.N) (h0 : ¬t.val % 28 = 0) (j : S1024x2048.Idx) :
    outsAt0 m c t.val t.isLt j
      = outsAt0 m c (t.val - 1) (Nat.lt_of_le_of_lt (Nat.sub_le _ _) t.isLt) j + part m c t j := by
  rw [outsAt0_B m c t h0 (by omega)]; frame_out
  rw [pay2_apply]; rfl

/-- So what a point that writes its tile back leaves is the sum of the tile's 28 partial tiles. -/
theorem outs_last (c : Dev nD) (t : Fin cfg0.N) (hr : t.val % 28 = 28 - 1) (j : S1024x2048.Idx) :
    outsAt0 m c t.val t.isLt j
      = ∑ s : Fin 28, part m c ⟨28 * (t.val / 28) + s.val, Pipeline.run_point_lt_of_flush t hr s⟩ j := by
  rw [Pipeline.eq_sum_fin_of_reset_step_apply_of_flush (fun n h => outsAt0 m c n h) 28 (fun _ => (0 : EReal))
    (fun t => part m c t) (fun t h j => outs_first m c t h j) (fun t h j => outs_step m c t h j) t hr j, zero_add]

/-- The blocks a point finds, read off the argument arrays. -/
theorem blk0 (c : Dev nD) (t : Fin cfg0.N) (r : Fin 1024) (d : Fin 2048) (r' : Fin 20480)
    (hr : r'.val = t.val / 28 * 1024 + r.val) :
    (iblk m c 0 t : Vec Ideal S1024x2048 .bf16) (ix2 r d)
      = (m ((c.tc : Thread nD τ).loc main_arg0) : Vec Ideal S20480x2048 .bf16) (ix2 r' d) := by
  blk_ext [iblk, V, idx t]

theorem blk1 (c : Dev nD) (t : Fin cfg0.N) (d : Fin 2048) (k : Fin 256) (f : Fin 7168)
    (hf : f.val = t.val % 28 * 256 + k.val) :
    (iblk m c 1 t : Vec Ideal S2048x256 .f32) (ix2 d k)
      = (m ((c.tc : Thread nD τ).loc main_arg1) : Vec Ideal S2048x7168 .f32) (ix2 d f) := by
  blk_ext [iblk, V, idx t]

theorem blk2 (c : Dev nD) (t : Fin cfg0.N) (d : Fin 2048) (k : Fin 256) (f : Fin 7168)
    (hf : f.val = t.val % 28 * 256 + k.val) :
    (iblk m c 2 t : Vec Ideal S2048x256 .f32) (ix2 d k)
      = (m ((c.tc : Thread nD τ).loc main_arg2) : Vec Ideal S2048x7168 .f32) (ix2 d f) := by
  blk_ext [iblk, V, idx t]

theorem blk3 (c : Dev nD) (t : Fin cfg0.N) (k : Fin 256) (l : Fin 2048) (f : Fin 7168)
    (hf : f.val = t.val % 28 * 256 + k.val) :
    (iblk m c 3 t : Vec Ideal S256x2048 .f32) (ix2 k l)
      = (m ((c.tc : Thread nD τ).loc main_arg3) : Vec Ideal S7168x2048 .f32) (ix2 f l) := by
  blk_ext [iblk, V, idx t]

/-- The array the call leaves: at row `r`, column `l` the gated map of row `r` of the input. -/
def ffn (X : Vec Ideal S20480x2048 .bf16) (W1 W3 : Vec Ideal S2048x7168 .f32) (W2 : Vec Ideal S7168x2048 .f32) :
    Vec Ideal S20480x2048 .f32 :=
  fun i => Swiglu.out (fun d : Fin 2048 => X (ix2 (i 0) d)) (fun (f : Fin 7168) d => W1 (ix2 d f))
    (fun f d => W3 (ix2 d f)) (fun f => W2 (ix2 f (i 1)))

/-- The tile a writing point leaves, at an index, is the array's entry there. -/
theorem tile_eq (c : Dev nD) (t : Fin cfg0.N) (hr : t.val % 28 = 28 - 1) (r : Fin 1024) (l : Fin 2048) (r' : Fin 20480)
    (hr' : r'.val = t.val / 28 * 1024 + r.val) :
    outsAt0 m c t.val t.isLt (ix2 r l)
      = ffn (m ((c.tc : Thread nD τ).loc main_arg0)) (m ((c.tc : Thread nD τ).loc main_arg1))
          (m ((c.tc : Thread nD τ).loc main_arg2)) (m ((c.tc : Thread nD τ).loc main_arg3)) (ix2 r' l) := by
  rw [outs_last m c t hr]
  simp only [part, pay1_apply]
  have e1 : ∀ s : Fin 28, (28 * (t.val / 28) + s.val) / 28 = t.val / 28 := fun s => by omega
  have e2 : ∀ s : Fin 28, (28 * (t.val / 28) + s.val) % 28 = s.val := fun s => by omega
  refine Swiglu.out_blocks 28 256 rfl _ _ _ _ _ _ _ _ (fun s => ?_) (fun s k h => ?_) (fun s k h => ?_) (fun s k h => ?_)
  · funext d; exact blk0 m c _ r d r' (by simp only [e1]; exact hr')
  · funext d; exact blk1 m c _ d k _ (by simp only [e2])
  · funext d; exact blk2 m c _ d k _ (by simp only [e2])
  · exact blk3 m c _ k l _ (by simp only [e2])

/-- The output array after the run. -/
theorem arr_eq (c : Dev nD) :
    (dats m 0 c).arrAt 4 cfg0.N
      = ffn (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 4 _ (by decide +kernel) fun t hf y => ?_
  have hr : t.val % 28 = 28 - 1 := (flush0_4 t).mp hf
  blk_simp
  rw [after0_4]
  revert y
  intro (y : S1024x2048.Idx)
  idx_vars y
  have hlt : t.val / 28 * 1024 + y0.val < 20480 := by
    have h : t.val < 560 := lt_of_lt_of_eq t.isLt N_0
    have := y0.isLt; omega
  refine (tile_eq m c t hr y0 y1 ⟨_, hlt⟩ rfl).trans ?_
  congr 1
  blk_ext [idx t]

end Cert.Kernel2Ideal.Ffn

end
-- ==== Proof.FfnClaim.lean ====
/-
  The dense feed-forward call and its reference leave the same array.
-/
module

public import proofs.«01_k».proof.Defs
public import proofs.«01_k».proof.Proof.FfnRef
public import proofs.«01_k».proof.Proof.FfnKernel
public import Idealize.ShloMosaic.Lib.Quiescent

@[expose] public section

noncomputable section

open Idealize.ShloMosaic Idealize.ShloMosaic.TcCoe Idealize.SL.Sem

namespace Cert.Proof.Ffn

/-- The reference's frame, from its run. -/
theorem frame_ref : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- From memories with the same arguments, the call and the reference both end at the gated map of the arguments. -/
theorem algebraic : Cert.algebraic_Kernel2Ideal_Reference2Ideal := by
  intro m ρ m' ρ' _ hagree
  refine ⟨fun c => Cert.Kernel2Ideal.Ffn.ffn (m ((c.tc : Thread _ _).loc Cert.Kernel2Ideal.main_arg0))
      (m ((c.tc : Thread _ _).loc Cert.Kernel2Ideal.main_arg1)) (m ((c.tc : Thread _ _).loc Cert.Kernel2Ideal.main_arg2))
      (m ((c.tc : Thread _ _).loc Cert.Kernel2Ideal.main_arg3)), ?_, ?_⟩
  · exact (θ_run Cert.Kernel2Ideal.defs _ _).mono
      (fun _ h c => ⟨(h c).1.trans (Cert.Kernel2Ideal.Ffn.arr_eq m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨e0, e1, e2, e3⟩ := hagree c
    rw [e0, e1, e2, e3]
    exact Cert.Reference2Ideal.Ffn.ref_eq _ _ _ _

end Cert.Proof.Ffn

end
-- ==== Proof.MoeTake.lean ====
/-
  Selecting one matrix out of a stack per tile: the entries of what is selected.
-/
module

public import Idealize.ShloMosaic.PureOps
public import Idealize.ShloMosaic.Lib.Pointwise
public import Idealize.ShloMosaic.Lib.Pipeline.ValueKit

@[expose] public section

set_option maxRecDepth 16384

noncomputable section

namespace Cert.Take

open Idealize.ShloMosaic Idealize.ShloMosaic.TcCoe

/-- The dimension numbers that select, for each of `n` words, one of `N` matrices of shape `[A, B]`. -/
abbrev dims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where tile `b`'s word is the number `e` of a matrix, the selected entries are that matrix's. -/
theorem gather_at {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (b : Fin n) (p : Fin A) (q : Fin B) (e : Fin N)
    (he : (idx (ix2 b (0 : Fin 1))).toInt.toNat = e.val) :
    Host.gather (dims N A B n wf) x idx (ix3 b p q) = x (ix3 e p q) := by
  unfold Host.gather
  refine congrArg x (funext fun a => Fin.ext ?_)
  show (dims N A B n wf).start (ix3 b p q) idx a + (dims N A B n wf).batchCoord (ix3 b p q) a
      + (dims N A B n wf).offCoord (ix3 b p q) a = (ix3 e p q a).val
  rw [GatherDims.batchCoord_eq_zero _ _ _ (show a ∉ [] from List.not_mem_nil), Nat.add_zero]
  match a with
  | ⟨0, _⟩ =>
    rw [GatherDims.offCoord_eq_zero _ _ _ fun h => ((GatherDims.mem_sKept _ _).mp h).1 (List.mem_singleton.mpr rfl), Nat.add_zero]
    have hm : (0 : Fin 3) ∈ (dims N A B n wf).startIndexMap := List.mem_singleton.mpr rfl
    have hs : (dims N A B n wf).siIdx (ix3 b p q) ⟨List.idxOf (0 : Fin 3) (dims N A B n wf).startIndexMap,
        List.idxOf_lt_length_iff.2 hm⟩ = ix2 b (0 : Fin 1) := by
      funext k
      refine Fin.ext ?_
      match k with
      | ⟨0, _⟩ => rfl
      | ⟨1, _⟩ => rfl
    have e0 : (dims N A B n wf).start (ix3 b p q) idx (0 : Fin 3)
        = min (idx ((dims N A B n wf).siIdx (ix3 b p q) ⟨List.idxOf (0 : Fin 3) (dims N A B n wf).startIndexMap,
            List.idxOf_lt_length_iff.2 hm⟩)).toInt.toNat (N - 1) := dif_pos hm
    refine e0.trans ?_
    rw [hs, he]
    have := e.isLt
    show min e.val (N - 1) = e.val
    omega
  | ⟨1, _⟩ =>
    have e0 : (dims N A B n wf).start (ix3 b p q) idx (1 : Fin 3) = 0 := dif_neg (show (1 : Fin 3) ∉ [0] by decide)
    have e1 : (dims N A B n wf).offCoord (ix3 b p q) (1 : Fin 3) = p.val :=
      (dif_pos ((GatherDims.mem_sKept _ _).2 ⟨show (1 : Fin 3) ∉ [0] by decide, List.not_mem_nil⟩)).trans rfl
    show (dims N A B n wf).start (ix3 b p q) idx (1 : Fin 3) + (dims N A B n wf).offCoord (ix3 b p q) (1 : Fin 3) = p.val
    rw [e0, e1, Nat.zero_add]
  | ⟨2, _⟩ =>
    have e0 : (dims N A B n wf).start (ix3 b p q) idx (2 : Fin 3) = 0 := dif_neg (show (2 : Fin 3) ∉ [0] by decide)
    have e1 : (dims N A B n wf).offCoord (ix3 b p q) (2 : Fin 3) = q.val :=
      (dif_pos ((GatherDims.mem_sKept _ _).2 ⟨show (2 : Fin 3) ∉ [0] by decide, List.not_mem_nil⟩)).trans rfl
    show (dims N A B n wf).start (ix3 b p q) idx (2 : Fin 3) + (dims N A B n wf).offCoord (ix3 b p q) (2 : Fin 3) = q.val
    rw [e0, e1, Nat.zero_add]

end Cert.Take

end
-- ==== Proof.MoeRef.lean ====
/-
  The reference of the expert part, entry by entry: on a tile in use the gated map of the tile's rows by the tile's
  expert, zero elsewhere.
-/
module

public import proofs.«01_k».proof.Proof.SwigluMath
public import proofs.«01_k».proof.Proof.MoeTake
public import proofs.«01_k».proof.Proof.Gen.Reference3Ideal.Run
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Reference3Ideal.Moe
open Cert.Reference3Ideal Cert.Reference3Ideal.Gen

/-- The tile a row lies in. -/
def tileOf (r : Fin 49152) : Fin 48 := ⟨r.val / 1024, by omega⟩

/-- A row's place in its tile. -/
def rowOf (r : Fin 49152) : Fin 1024 := ⟨r.val % 1024, by omega⟩

/-- The expert a table names for a tile. -/
def expertOf (be : IVec S48 32) (b : Fin 48) : Fin 8 := ⟨(be (ix1 b)).toNat % 8, by omega⟩

/-- The array the call leaves: on a tile in use, at row `r`, column `l` the gated map of row `r` of the input by the
    tile's expert, and zero on the other tiles. -/
def moe (X : Vec Ideal S49152x2048 .bf16) (be : IVec S48 32) (nv : IVec S1 32) (W1 W3 : Vec Ideal S8x2048x7168 .f32)
    (W2 : Vec Ideal S8x7168x2048 .f32) : Vec Ideal S49152x2048 .f32 :=
  fun i => if (BitVec.ofNat 32 (tileOf (i 0)).val).slt (nv (ix1 0)) = true then
      Swiglu.out (fun d : Fin 2048 => X (ix2 (i 0) d)) (fun (f : Fin 7168) d => W1 (ix3 (expertOf be (tileOf (i 0))) d f))
        (fun f d => W3 (ix3 (expertOf be (tileOf (i 0))) d f)) (fun f => W2 (ix3 (expertOf be (tileOf (i 0))) f (i 1)))
    else 0

/-- The table as a column of words. -/
abbrev col (be : IVec S48 32) : IVec S48x1 32 := broadcastInDim S48x1 ![0] bcast_S48_S48x1_0 be

theorem col_at (be : IVec S48 32) (hb : ∀ x, (be x).toNat < 8) (b : Fin 48) :
    (col be (ix2 b (0 : Fin 1))).toInt.toNat = (expertOf be b).val := by
  have e : col be (ix2 b (0 : Fin 1)) = be (ix1 b) := by
    pointwise [col]
  have h := hb (ix1 b)
  rw [e]
  show (be (ix1 b)).toInt.toNat = (be (ix1 b)).toNat % 8
  rw [BitVec.toInt_eq_toNat_of_lt (by omega), Int.toNat_natCast]
  omega

/-- The selected matrices' entries. -/
theorem take1 (be : IVec S48 32) (hb : ∀ x, (be x).toNat < 8) (W : Vec Ideal S8x2048x7168 .f32) (b : Fin 48) (d : Fin 2048) (f : Fin 7168) :
    (Host.gather gather_S8x2048x7168_S48x1_S48x2048x7168_12_0_n_n_0_1_120487168 W (col be) : Vec Ideal S48x2048x7168 .f32) (ix3 b d f)
      = W (ix3 (expertOf be b) d f) :=
  Take.gather_at gather_S8x2048x7168_S48x1_S48x2048x7168_12_0_n_n_0_1_120487168_wf W (col be) b d f _ (col_at be hb b)

theorem take2 (be : IVec S48 32) (hb : ∀ x, (be x).toNat < 8) (W : Vec Ideal S8x7168x2048 .f32) (b : Fin 48) (f : Fin 7168) (l : Fin 2048) :
    (Host.gather gather_S8x7168x2048_S48x1_S48x7168x2048_12_0_n_n_0_1_171682048 W (col be) : Vec Ideal S48x7168x2048 .f32) (ix3 b f l)
      = W (ix3 (expertOf be b) f l) :=
  Take.gather_at gather_S8x7168x2048_S48x1_S48x7168x2048_12_0_n_n_0_1_171682048_wf W (col be) b f l _ (col_at be hb b)

/-- The rows grouped into tiles. -/
abbrev tiles (X : FVec Ideal S49152x2048 .bf16) : FVec Ideal S48x1024x2048 .f32 :=
  shapeCast _ (extf (F := Ideal) .f32 X bitsLt_bf16_f32) shapeCasts_S49152x2048_S48x1024x2048

/-- A row's place in the flat array is its tile's and its own. -/
theorem flat_at (r : Fin 49152) (d : Fin 2048) :
    ((⟨2, ![49152, 2048]⟩ : Shape).rowMajor (ix2 r d)).val
      = ((⟨3, ![48, 1024, 2048]⟩ : Shape).rowMajor (ix3 (tileOf r) (rowOf r) d)).val := by
  rw [Shape.rowMajor_val_two, Shape.rowMajor_val_three]
  show r.val * 2048 + d.val = (r.val / 1024 * 1024 + r.val % 1024) * 2048 + d.val
  omega

theorem tiles_at (X : FVec Ideal S49152x2048 .bf16) (r : Fin 49152) (d : Fin 2048) :
    tiles X (ix3 (tileOf r) (rowOf r) d) = X (ix2 r d) :=
  (shapeCast_apply _ shapeCasts_S49152x2048_S48x1024x2048 _ (ix2 r d) (flat_at r d)).trans rfl

/-- Which tiles are in use. -/
abbrev mask (nv : IVec S1 32) : IVec S48x1024x2048 1 :=
  broadcastInDim S48x1024x2048 ![0, 1, 2] bcast_S48x1x1_S48x1024x2048_0_1_2 (broadcastInDim S48x1x1 ![0] bcast_S48_S48x1x1_0
    (cmpi .slt (iotaInDim S48 32 0) (broadcastInDim S48 ![] bcast_S_S48 (shapeCast _ nv shapeCasts_S1_S_))))

theorem mask_at (nv : IVec S1 32) (b : Fin 48) (r : Fin 1024) (l : Fin 2048) :
    mask nv (ix3 b r l) = BitVec.ofBool ((BitVec.ofNat 32 b.val).slt (nv (ix1 0))) := by
  pointwise [mask]
  rfl

/-- A tile's entries before the mask, over any selected matrices. -/
theorem core_at (x : Vec Ideal S48x1024x2048 .f32) (w1 w3 : Vec Ideal S48x2048x7168 .f32) (w2 : Vec Ideal S48x7168x2048 .f32)
    (b : Fin 48) (r : Fin 1024) (l : Fin 2048) :
    (Host.dotGeneral (F := Ideal) (φ₁ := .f32) (φ₂ := .f32) dot_S48x1024x7168_S48x7168x2048_S48x1024x2048_2_1_1_2_0_0 none (mulf (mulf (Host.dotGeneral (φ₁ := .f32) (φ₂ := .f32) dot_S48x1024x2048_S48x2048x7168_S48x1024x7168_2_1_1_2_0_0 none x w1) (Host.divf (broadcastInDim S48x1024x7168 ![] bcast_S_S48x1024x7168 (constant S_ .f32 0x3F800000#32)) (addf (broadcastInDim S48x1024x7168 ![] bcast_S_S48x1024x7168 (constant S_ .f32 0x3F800000#32)) (Host.exp (Host.negf (Host.dotGeneral (φ₁ := .f32) (φ₂ := .f32) dot_S48x1024x2048_S48x2048x7168_S48x1024x7168_2_1_1_2_0_0 none x w1)))))) (Host.dotGeneral (φ₁ := .f32) (φ₂ := .f32) dot_S48x1024x2048_S48x2048x7168_S48x1024x7168_2_1_1_2_0_0 none x w3)) w2 : Vec Ideal S48x1024x2048 .f32) (ix3 b r l)
      = Swiglu.out (fun d : Fin 2048 => x (ix3 b r d)) (fun (f : Fin 7168) d => w1 (ix3 b d f)) (fun f d => w3 (ix3 b d f))
          (fun f => w2 (ix3 b f l)) := by
  pointwise
  simp only [Swiglu.out, Swiglu.hidden, Ideal.logistic, Ideal.ofBits_one_f32]

/-- The zero of the tiles not in use. -/
theorem zero_at (j : S48x1024x2048.Idx) :
    (broadcastInDim S48x1024x2048 ![] bcast_S_S48x1024x2048 (id (constant (F := Ideal) S_ .f32 0x00000000#32)) : FVec Ideal S48x1024x2048 .f32) j
      = (0 : EReal) := by
  rw [id]
  pointwise

/-- The reference's composed operations are that array. -/
theorem ref_eq (X : FVec Ideal S49152x2048 .bf16) (be : IVec S48 32) (nv : IVec S1 32) (W1 W3 : Vec Ideal S8x2048x7168 .f32)
    (W2 : Vec Ideal S8x7168x2048 .f32) (hb : ∀ x, (be x).toNat < 8) :
    (shapeCast S49152x2048 (select (mask nv) (Host.dotGeneral (F := Ideal) (φ₁ := .f32) (φ₂ := .f32) dot_S48x1024x7168_S48x7168x2048_S48x1024x2048_2_1_1_2_0_0 none (mulf (mulf (Host.dotGeneral (φ₁ := .f32) (φ₂ := .f32) dot_S48x1024x2048_S48x2048x7168_S48x1024x7168_2_1_1_2_0_0 none (tiles X) (Host.gather gather_S8x2048x7168_S48x1_S48x2048x7168_12_0_n_n_0_1_120487168 W1 (col be))) (Host.divf (broadcastInDim S48x1024x7168 ![] bcast_S_S48x1024x7168 (constant S_ .f32 0x3F800000#32)) (addf (broadcastInDim S48x1024x7168 ![] bcast_S_S48x1024x7168 (constant S_ .f32 0x3F800000#32)) (Host.exp (Host.negf (Host.dotGeneral (φ₁ := .f32) (φ₂ := .f32) dot_S48x1024x2048_S48x2048x7168_S48x1024x7168_2_1_1_2_0_0 none (tiles X) (Host.gather gather_S8x2048x7168_S48x1_S48x2048x7168_12_0_n_n_0_1_120487168 W1 (col be)))))))) (Host.dotGeneral (φ₁ := .f32) (φ₂ := .f32) dot_S48x1024x2048_S48x2048x7168_S48x1024x7168_2_1_1_2_0_0 none (tiles X) (Host.gather gather_S8x2048x7168_S48x1_S48x2048x7168_12_0_n_n_0_1_120487168 W3 (col be)))) (Host.gather gather_S8x7168x2048_S48x1_S48x7168x2048_12_0_n_n_0_1_171682048 W2 (col be)))
      (broadcastInDim S48x1024x2048 ![] bcast_S_S48x1024x2048 (id (constant (F := Ideal) S_ .f32 0x00000000#32) : FVec Ideal S_ .f32))) shapeCasts_S48x1024x2048_S49152x2048 : Vec Ideal S49152x2048 .f32)
      = moe X be nv W1 W3 W2 := by
  funext j
  idx_vars j
  refine (shapeCast_apply _ shapeCasts_S48x1024x2048_S49152x2048 (ix2 j0 j1) (ix3 (tileOf j0) (rowOf j0) j1) (flat_at j0 j1).symm).trans ?_
  have hm := mask_at nv (tileOf j0) (rowOf j0) j1
  by_cases hl : (BitVec.ofNat 32 (tileOf j0).val).slt (nv (ix1 0)) = true
  · have e : mask nv (ix3 (tileOf j0) (rowOf j0) j1) = 1#1 := hm.trans (congrArg BitVec.ofBool hl)
    refine (if_pos e).trans ?_
    refine (core_at _ _ _ _ _ _ _).trans ?_
    simp only [take1 be hb, take2 be hb, tiles_at]
    exact (if_pos hl).symm
  · have e : mask nv (ix3 (tileOf j0) (rowOf j0) j1) ≠ 1#1 := by
      rw [hm, Bool.eq_false_iff.mpr hl]
      decide
    refine (if_neg e).trans ?_
    exact (zero_at _).trans (if_neg hl).symm

end Cert.Reference3Ideal.Moe

end
-- ==== Proof.MoeRuns.lean ====
/-
  The expert call: what its body does at one grid point.

  The body reads the number of row tiles in use off a table. On a tile in use it computes the block's partial tile and
  stores it (first block of hidden columns) or adds it to the output tile (the other blocks); on a tile not in use it
  stores zeros at the first block and does nothing at the others.
-/
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.ValueKit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables the body is handed: the tiles' experts and the number of tiles in use. -/
abbrev tabE : Memref sig .tc .smem S48 .i32 := Memref.whole main_arg1
abbrev tabN : Memref sig .tc .smem S1 .i32 := Memref.whole main_arg2

/-- The word the body loads from the second table. -/
abbrev word (T : S1.Idx → BitVec 32) : BitVec 32 :=
  View.readAt (Elt F) tabN.view (Rect.unit (s := S1) ![0] S1.size inb_S1_S1_0).toLoadRect T
    (Shape.Idx.first (numel1_S1.symm ▸ Nat.one_pos))

section
variable (c : Dev nD) (i : grid0.Coords)
  (a4 : Memref sig .tc .vmem S1024x2048 .bf16) (h4 : a4.IsWhole) (a5 : Memref sig .tc .vmem S1x2048x256 .f32) (h5 : a5.IsWhole)
  (a6 : Memref sig .tc .vmem S1x2048x256 .f32) (h6 : a6.IsWhole) (a7 : Memref sig .tc .vmem S1x256x2048 .f32) (h7 : a7.IsWhole)
  (a8 : Memref sig .tc .vmem S1024x2048 .f32) (h8 : a8.IsWhole)
  (T0 : S48.Idx → BitVec 32) (T1 : S1.Idx → BitVec 32)
  (x0 : Vec F S1024x2048 .bf16) (x1 x2 : Vec F S1x2048x256 .f32) (x3 : Vec F S1x256x2048 .f32)

/-- What the body is handed beside the output tile, and hands back: the input blocks and its halves of the tables. -/
def held : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (tabE.view.loc (c : Thread nD τ) ↦{fullShare.right} T0)
    ∗ (tabN.view.loc (c : Thread nD τ) ↦{fullShare.right} T1))

/-- The output tile after the body at point `i`, from what it held before. -/
def stepVal (y : Vec F S1024x2048 .f32) : Vec F S1024x2048 .f32 :=
  if k0_cond1 i (word (F := F) T1) = 1#1 then
    if k0_cond2 i = 1#1 then k0_pay1 x0 x1 x2 x3 else k0_pay2 x0 x1 x2 x3 y
  else if k0_cond2 i = 1#1 then k0_pay3 else y

set_option backward.proofsInPublic true in
set_option maxHeartbeats 4000000 in
/-- First block of a tile in use: the output tile becomes the partial tile. -/
theorem run_first (k1 : k0_cond1 i (word (F := F) T1) = 1#1) (k2 : k0_cond2 i = 1#1) (k3 : ¬k0_cond3 i = 1#1)
    (k4 : ¬k0_cond4 i (word (F := F) T1) = 1#1)
    (y : Vec F S1024x2048 .f32) (K : PUnit → sProp 𝕄) :
    iprop(held c a4 a5 a6 a7 T0 T1 x0 x1 x2 x3 ∗ owns (c : Thread nD τ) a8 fullShare y
        ∗ (iprop(held c a4 a5 a6 a7 T0 T1 x0 x1 x2 x3 ∗ owns (c : Thread nD τ) a8 fullShare (k0_pay1 x0 x1 x2 x3)) -∗ K ⟨⟩))
      ⊢ wp frame (wpE (defs₀ (F := F)) Variants.none c none) Set.univ
          (cc0_moe_swiglu i tabE (Memref.isWhole_whole _) tabN (Memref.isWhole_whole _) a4 h4 a5 h5 a6 h6 a7 h7 a8 h8) K := by
  unfold held owns
  rw [cc0_moe_swiglu_eq_skeleton]; unfold cc0_moe_swiglu_skel
  iintro ⟨⟨H0, H1, H2, H3, HT0, HT1⟩, ⟨%f4, %hf4, HO4⟩, Hk⟩
  obtain rfl := h8.eq_unread hf4
  have hT0 : tabE.IsWhole := Memref.isWhole_whole _
  have hT1 : tabN.IsWhole := Memref.isWhole_whole _
  sl_exec! (disch := first | exact k1 | exact k2 | exact k3 | exact k4)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexists _; isplitr
  swap; · iexact HO4
  ipureintro
  refine (View.read_writes_eq_canon _ _ _ (View.cover_of_tiledL _ S1024x2048.size (by sl_kernel_rfl))).trans ?_
  delta run_first.sl.HO4_1
  simp (disch := decide) only [View.canon_cons_unit_lit', View.ld_unit_lit', View.readAt_eq_ld, View.read_rep, hf4]

set_option backward.proofsInPublic true in
set_option maxHeartbeats 4000000 in
/-- Another block of a tile in use: the partial tile is added. -/
theorem run_next (k1 : k0_cond1 i (word (F := F) T1) = 1#1) (k2 : ¬k0_cond2 i = 1#1) (k3 : k0_cond3 i = 1#1)
    (k4 : ¬k0_cond4 i (word (F := F) T1) = 1#1)
    (y : Vec F S1024x2048 .f32) (K : PUnit → sProp 𝕄) :
    iprop(held c a4 a5 a6 a7 T0 T1 x0 x1 x2 x3 ∗ owns (c : Thread nD τ) a8 fullShare y
        ∗ (iprop(held c a4 a5 a6 a7 T0 T1 x0 x1 x2 x3 ∗ owns (c : Thread nD τ) a8 fullShare (k0_pay2 x0 x1 x2 x3 y)) -∗ K ⟨⟩))
      ⊢ wp frame (wpE (defs₀ (F := F)) Variants.none c none) Set.univ
          (cc0_moe_swiglu i tabE (Memref.isWhole_whole _) tabN (Memref.isWhole_whole _) a4 h4 a5 h5 a6 h6 a7 h7 a8 h8) K := by
  unfold held owns
  rw [cc0_moe_swiglu_eq_skeleton]; unfold cc0_moe_swiglu_skel
  iintro ⟨⟨H0, H1, H2, H3, HT0, HT1⟩, ⟨%f4, %hf4, HO4⟩, Hk⟩
  obtain rfl := h8.eq_unread hf4
  have hT0 : tabE.IsWhole := Memref.isWhole_whole _
  have hT1 : tabN.IsWhole := Memref.isWhole_whole _
  sl_exec! (disch := first | exact k1 | exact k2 | exact k3 | exact k4)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexists _; isplitr
  swap; · iexact HO4
  ipureintro
  refine (View.read_writes_eq_canon _ _ _ (View.cover_of_tiledL _ S1024x2048.size (by sl_kernel_rfl))).trans ?_
  delta run_next.sl.HO4_1
  simp (disch := decide) only [View.canon_cons_unit_lit', View.ld_unit_lit', View.readAt_eq_ld, View.read_rep, hf4]

set_option backward.proofsInPublic true in
set_option maxHeartbeats 4000000 in
/-- First block of a tile not in use: the output tile becomes zero. -/
theorem run_zero (k1 : ¬k0_cond1 i (word (F := F) T1) = 1#1)
    (k4 : k0_cond4 i (word (F := F) T1) = 1#1)
    (y : Vec F S1024x2048 .f32) (K : PUnit → sProp 𝕄) :
    iprop(held c a4 a5 a6 a7 T0 T1 x0 x1 x2 x3 ∗ owns (c : Thread nD τ) a8 fullShare y
        ∗ (iprop(held c a4 a5 a6 a7 T0 T1 x0 x1 x2 x3 ∗ owns (c : Thread nD τ) a8 fullShare k0_pay3) -∗ K ⟨⟩))
      ⊢ wp frame (wpE (defs₀ (F := F)) Variants.none c none) Set.univ
          (cc0_moe_swiglu i tabE (Memref.isWhole_whole _) tabN (Memref.isWhole_whole _) a4 h4 a5 h5 a6 h6 a7 h7 a8 h8) K := by
  unfold held owns
  rw [cc0_moe_swiglu_eq_skeleton]; unfold cc0_moe_swiglu_skel
  iintro ⟨⟨H0, H1, H2, H3, HT0, HT1⟩, ⟨%f4, %hf4, HO4⟩, Hk⟩
  obtain rfl := h8.eq_unread hf4
  have hT0 : tabE.IsWhole := Memref.isWhole_whole _
  have hT1 : tabN.IsWhole := Memref.isWhole_whole _
  sl_exec! (disch := first | exact k1 | exact k4)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexists _; isplitr
  swap; · iexact HO4
  ipureintro
  refine (View.read_writes_eq_canon _ _ _ (View.cover_of_tiledL _ S1024x2048.size (by sl_kernel_rfl))).trans ?_
  delta run_zero.sl.HO4_1
  simp (disch := decide) only [View.canon_cons_unit_lit', View.ld_unit_lit', View.readAt_eq_ld, View.read_rep, hf4]

set_option backward.proofsInPublic true in
set_option maxHeartbeats 4000000 in
/-- Another block of a tile not in use: nothing happens. -/
theorem run_skip (k1 : ¬k0_cond1 i (word (F := F) T1) = 1#1)
    (k4 : ¬k0_cond4 i (word (F := F) T1) = 1#1)
    (y : Vec F S1024x2048 .f32) (K : PUnit → sProp 𝕄) :
    iprop(held c a4 a5 a6 a7 T0 T1 x0 x1 x2 x3 ∗ owns (c : Thread nD τ) a8 fullShare y
        ∗ (iprop(held c a4 a5 a6 a7 T0 T1 x0 x1 x2 x3 ∗ owns (c : Thread nD τ) a8 fullShare y) -∗ K ⟨⟩))
      ⊢ wp frame (wpE (defs₀ (F := F)) Variants.none c none) Set.univ
          (cc0_moe_swiglu i tabE (Memref.isWhole_whole _) tabN (Memref.isWhole_whole _) a4 h4 a5 h5 a6 h6 a7 h7 a8 h8) K := by
  unfold held owns
  rw [cc0_moe_swiglu_eq_skeleton]; unfold cc0_moe_swiglu_skel
  iintro ⟨⟨H0, H1, H2, H3, HT0, HT1⟩, ⟨%f4, %hf4, HO4⟩, Hk⟩
  obtain rfl := h8.eq_unread hf4
  have hT0 : tabE.IsWhole := Memref.isWhole_whole _
  have hT1 : tabN.IsWhole := Memref.isWhole_whole _
  sl_exec! (disch := first | exact k1 | exact k4)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexists _; isplitr
  swap; · iexact HO4
  ipureintro
  exact hf4

end

end Cert.Kernel3Ideal.Moe

end
-- ==== Proof.MoePoints.lean ====
/-
  The expert call: its tables, the blocks they steer, and what each grid point does.

  The grid walks 48 tiles of rows, and for each tile 28 blocks of hidden columns. The first table names each tile's
  expert, the second the number of tiles in use. A tile's output is written back after its last block.
-/
module

public import proofs.«01_k».proof.Proof.MoeRuns
public import Idealize.ShloMosaic.Lib.Pipeline.TableIdle

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.ShloMosaic.Pipeline (Dat Cfg Window)

variable {F : FTy → Type} [FloatOps F]

/-! ## The conditions -/

theorem one_idx (x y : S1.Idx) : x = y := by
  funext a
  have h : ∀ a : Fin S1.rank, S1.size a = 1 := by decide
  exact Fin.ext (by have := (x a).isLt; have := (y a).isLt; have := h a; omega)

/-- The second table's one place. -/
abbrev one : S1.Idx := Shape.Idx.first (numel1_S1.symm ▸ Nat.one_pos)

/-- The word the body loads is the second table's one entry. -/
theorem word_eq (T : S1.Idx → BitVec 32) (x : S1.Idx) : word (F := F) T = T x := by
  show T _ = T _
  congr 1
  exact one_idx _ _

theorem cond2_iff (i : grid0.Coords) : k0_cond2 i = 1#1 ↔ (i 1).val = 0 :=
  (by decide : ∀ j : Fin 28, Scalar.cmpi .ne (Scalar.extui (Scalar.cmpi .eq (BitVec.ofNat 32 j.val) 0#32)) 0#32 = 1#1 ↔ j.val = 0) (i 1)

theorem cond3_iff (i : grid0.Coords) : k0_cond3 i = 1#1 ↔ (i 1).val ≠ 0 :=
  (by decide : ∀ j : Fin 28, Scalar.cmpi .ne (Scalar.extui (Scalar.cmpi .sgt (BitVec.ofNat 32 j.val) 0#32)) 0#32 = 1#1 ↔ j.val ≠ 0) (i 1)

theorem cond1_iff (i : grid0.Coords) (v : BitVec 32) : k0_cond1 i v = 1#1 ↔ (BitVec.ofNat 32 (i 0).val).slt v = true := by
  show Scalar.cmpi .ne (Scalar.extui (BitVec.ofBool ((BitVec.ofNat 32 (i 0).val).slt v))) 0#32 = 1#1 ↔ _
  cases (BitVec.ofNat 32 (i 0).val).slt v <;> decide

theorem cond4_iff (i : grid0.Coords) (v : BitVec 32) : k0_cond4 i v = 1#1 ↔ ¬k0_cond1 i v = 1#1 ∧ (i 1).val = 0 := by
  rw [cond1_iff, ← cond2_iff]
  show Scalar.cmpi .ne (Scalar.extui (Scalar.andi (BitVec.ofBool (v.sle (BitVec.ofNat 32 (i 0).val)))
      (Scalar.cmpi .eq (BitVec.ofNat 32 (i 1).val) 0#32))) 0#32 = 1#1
    ↔ _ ∧ Scalar.cmpi .ne (Scalar.extui (Scalar.cmpi .eq (BitVec.ofNat 32 (i 1).val) 0#32)) 0#32 = 1#1
  have h : v.sle (BitVec.ofNat 32 (i 0).val) = !(BitVec.ofNat 32 (i 0).val).slt v := BitVec.sle_eq_not_slt ..
  rw [h]
  generalize Scalar.cmpi .eq (BitVec.ofNat 32 (i 1).val) 0#32 = b
  cases (BitVec.ofNat 32 (i 0).val).slt v <;> revert b <;> decide

/-! ## The tables of a launch memory -/

variable (m : (ℓ : Loc nD τ sig) → Buf (Elt F) ℓ)

/-- The one core. -/
abbrev core : Dev nD := ⟨0, by decide⟩

theorem core_eq (c : Dev nD) : c = core := by
  have : ∀ c : Dev nD, c = core := by decide
  exact this c

/-- The tiles' experts and the number of tiles in use, as the launch memory has them. -/
def experts : S48.Idx → BitVec 32 := m ((core : Thread nD τ).loc main_arg1)
def used : S1.Idx → BitVec 32 := m ((core : Thread nD τ).loc main_arg2)

/-- Every tile's expert is one of the eight. -/
def InRange : Prop := ∀ x, (experts m x).toNat < 8

set_option backward.proofsInPublic true in
/-- The tables' contents. -/
def tables : pre0.Contents (Elt F) := fun | ⟨0, _⟩ => experts m | ⟨1, _⟩ => used m | ⟨_ + 2, h⟩ => absurd h (by simp)

/-- The block of hidden columns a point reads: its own on a tile in use, the last one elsewhere. -/
theorem block_lt (i : grid0.Coords) (v : BitVec 32) :
    (Scalar.select (Scalar.cmpi .slt (BitVec.ofNat 32 (i 0).val) v) (BitVec.ofNat 32 (i 1).val) 27#32).toNat < 28 := by
  have h : ∀ j : Fin 28, (BitVec.ofNat 32 j.val).toNat < 28 := by decide
  show (if _ then _ else _ : BitVec 32).toNat < 28
  split
  · exact h (i 1)
  · decide

theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a :=
  Fin.cases h0 hr

theorem expert_le {a : ℕ} (h : a < 8) : (a + 1) * 1 ≤ 8 := by omega
theorem block_le {a : ℕ} (h : a < 28) : (a + 1) * 256 ≤ 7168 := by omega

/-- The blocks the tables steer lie inside their arrays. -/
theorem ok (hr : InRange m) : ok0 (F := F) (tables m) :=
  ⟨fun i => ⟨inb_cons (expert_le (hr _)) (inb_cons (by decide) (inb_cons (block_le (block_lt i _)) fun a => a.elim0)), .inl rfl⟩,
   fun i => ⟨inb_cons (expert_le (hr _)) (inb_cons (by decide) (inb_cons (block_le (block_lt i _)) fun a => a.elim0)), .inl rfl⟩,
   fun i => ⟨inb_cons (expert_le (hr _)) (inb_cons (block_le (block_lt i _)) (inb_cons (by decide) fun a => a.elim0)), .inl rfl⟩⟩

variable (hr : InRange m)

/-- The tables as the region admits them, and the pipeline at them. -/
def adm : (pcfg0 (F := F)).Adm := ⟨tables m, ok m hr⟩
abbrev cfgA : Pipeline.Cfg sig Λ₀ := cfg0 (F := F) (adm m hr)
abbrev pcs : Fin 1 → Pipeline.Cfg sig Λ₀ := Pipeline.pin (pcfgs (F := F)) fun _ => adm m hr

/-- Point `t`'s coordinates: the tile and the block of hidden columns. -/
abbrev crd (t : Fin (cfgA m hr).N) : grid0.Coords := (cfgA m hr).grid.coords t

theorem crd_eq : ∀ t : Fin grid0.N, (grid0.coords t 0).val = t.val / 28 ∧ (grid0.coords t 1).val = t.val % 28 := by decide +kernel

/-- Tile of a point in use. -/
def live (t : Fin (cfgA m hr).N) : Prop := (BitVec.ofNat 32 (t.val / 28)).slt (used m one) = true

instance (t : Fin (cfgA m hr).N) : Decidable (live m hr t) := by unfold live; infer_instance

theorem cond1_at (t : Fin (cfgA m hr).N) : k0_cond1 (crd m hr t) (word (F := F) (used m)) = 1#1 ↔ live m hr t := by
  rw [cond1_iff, word_eq _ one, (crd_eq t).1]; rfl

theorem cond2_at (t : Fin (cfgA m hr).N) : k0_cond2 (crd m hr t) = 1#1 ↔ t.val % 28 = 0 := by
  rw [cond2_iff, (crd_eq t).2]

theorem cond3_at (t : Fin (cfgA m hr).N) : k0_cond3 (crd m hr t) = 1#1 ↔ t.val % 28 ≠ 0 := by
  rw [cond3_iff, (crd_eq t).2]

theorem cond4_at (t : Fin (cfgA m hr).N) :
    k0_cond4 (crd m hr t) (word (F := F) (used m)) = 1#1 ↔ ¬live m hr t ∧ t.val % 28 = 0 := by
  rw [cond4_iff, cond1_at, (crd_eq t).2]

theorem idle_bool {a b c d : BitVec 1} {L Z : Prop} [Decidable L] [Decidable Z] (ha : a = 1#1 ↔ L) (hb : b = 1#1 ↔ Z)
    (hc : c = 1#1 ↔ ¬Z) (hd : d = 1#1 ↔ ¬L ∧ Z) :
    (!(a == 1#1 && b == 1#1) && !(a == 1#1 && c == 1#1) && !(d == 1#1)) = decide (¬L ∧ ¬Z) := by
  rw [Bool.eq_iff_iff]
  simp only [Bool.and_eq_true, Bool.not_eq_true', Bool.and_eq_false_iff, beq_eq_false_iff_ne, ne_eq, decide_eq_true_eq,
    ha, hb, hc, hd]
  tauto

/-- The output is left alone exactly at the later blocks of a tile not in use. -/
theorem idle_at (t : Fin (cfgA m hr).N) :
    (cfgA m hr).idle (4 : Fin 5) (crd m hr t) = decide (¬live m hr t ∧ t.val % 28 ≠ 0) := by
  have e : (tables m).atD 1 ![0] = word (F := F) (used m) := by
    have h : ∀ a, (![0] : Fin 1 → ℕ) a + 1 ≤ S1.size a := by decide
    exact (dif_pos h).trans (word_eq _ _).symm
  show (!(k0_cond1 (crd m hr t) ((tables m).atD 1 ![0]) == 1#1 && k0_cond2 (crd m hr t) == 1#1)
    && !(k0_cond1 (crd m hr t) ((tables m).atD 1 ![0]) == 1#1 && k0_cond3 (crd m hr t) == 1#1)
    && !(k0_cond4 (crd m hr t) ((tables m).atD 1 ![0]) == 1#1)) = _
  rw [e]
  exact idle_bool (cond1_at m hr t) (cond2_at m hr t) (cond3_at m hr t) (cond4_at m hr t)

/-- The output is written back after a tile's last block. -/
theorem flush_at (t : Fin (cfgA m hr).N) : ((cfgA m hr).win (4 : Fin 5)).flush t = true ↔ t.val % 28 = 27 :=
  Pipeline.Window.flush_reads ((cfgA m hr).win (4 : Fin 5)) rfl 0 (show 1 < grid0.bound 0 by decide) (show grid0.fixedAfter (spec0 4).reads 0 = true by decide)
    (Pipeline.Window.sep_of_coord cc0_transform_4 0 0 (fun _ => rfl) (by decide)) (P := 28) (m := 27) (show grid0.stride 0 = 28 by decide) rfl t

theorem flush_eq (t : Fin (cfgA m hr).N) : ((cfgA m hr).win (4 : Fin 5)).flush t = decide (t.val % 28 = 27) := by
  rw [Bool.eq_iff_iff, decide_eq_true_eq]; exact flush_at m hr t

/-- Nothing of the tile has been stored yet exactly before its first block. -/
theorem fresh_at (t : Fin (cfgA m hr).N) : (cfgA m hr).fresh (4 : Fin 5) t.val = decide (t.val % 28 = 0) :=
  Pipeline.Cfg.fresh_tab (cfgA m hr) (4 : Fin 5) (fun n => decide (n % 28 = 0)) rfl (fun t => by
    rw [flush_eq, idle_at]
    rw [Bool.eq_iff_iff]
    simp only [Bool.or_eq_true, Bool.and_eq_true, decide_eq_true_eq]
    omega) t.val (Nat.le_of_lt t.isLt)

end Cert.Kernel3Ideal.Moe

end
-- ==== Proof.MoeFrame.lean ====
/-
  The expert call runs, ends and leaves its arguments alone, whatever experts its first table names.

  At every grid point the output tile holds what the points of its tile so far left; the body turns it into the next
  contents, and the pipeline writes the tile back after the last block.
-/
module

public import proofs.«01_k».proof.Proof.MoePoints
public import Idealize.ShloMosaic.Adequacy
public import Idealize.ShloMosaic.Init
public import Idealize.ShloMosaic.Lib.Claim
public import Idealize.ShloMosaic.Lib.Pipeline.Launch
public import Idealize.ShloMosaic.Lib.Pipeline.Quiescent
public import Idealize.ShloMosaic.Lib.Quiescent

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

section
variable (c : Dev nD) (i : grid0.Coords)
  (a4 : Memref sig .tc .vmem S1024x2048 .bf16) (h4 : a4.IsWhole) (a5 : Memref sig .tc .vmem S1x2048x256 .f32) (h5 : a5.IsWhole)
  (a6 : Memref sig .tc .vmem S1x2048x256 .f32) (h6 : a6.IsWhole) (a7 : Memref sig .tc .vmem S1x256x2048 .f32) (h7 : a7.IsWhole)
  (a8 : Memref sig .tc .vmem S1024x2048 .f32) (h8 : a8.IsWhole)
  (T0 : S48.Idx → BitVec 32) (T1 : S1.Idx → BitVec 32)
  (x0 : Vec F S1024x2048 .bf16) (x1 x2 : Vec F S1x2048x256 .f32) (x3 : Vec F S1x256x2048 .f32)

/-- The body at any point. -/
theorem run_step (y : Vec F S1024x2048 .f32) (K : PUnit → sProp 𝕄) :
    iprop(held c a4 a5 a6 a7 T0 T1 x0 x1 x2 x3 ∗ owns (c : Thread nD τ) a8 fullShare y
        ∗ (iprop(held c a4 a5 a6 a7 T0 T1 x0 x1 x2 x3 ∗ owns (c : Thread nD τ) a8 fullShare (stepVal i T1 x0 x1 x2 x3 y)) -∗ K ⟨⟩))
      ⊢ wp frame (wpE (defs₀ (F := F)) Variants.none c none) Set.univ
          (cc0_moe_swiglu i tabE (Memref.isWhole_whole _) tabN (Memref.isWhole_whole _) a4 h4 a5 h5 a6 h6 a7 h7 a8 h8) K := by
  have h3 := (cond3_iff i).trans (not_congr (cond2_iff i)).symm
  have h4' := (cond4_iff i (word (F := F) T1)).trans (and_congr_right' (cond2_iff i).symm)
  unfold stepVal
  by_cases k1 : k0_cond1 i (word (F := F) T1) = 1#1 <;> by_cases k2 : k0_cond2 i = 1#1
  · rw [if_pos k1, if_pos k2]
    exact run_first c i a4 h4 a5 h5 a6 h6 a7 h7 a8 h8 T0 T1 x0 x1 x2 x3 k1 k2 (fun h => h3.1 h k2) (fun h => (h4'.1 h).1 k1) y K
  · rw [if_pos k1, if_neg k2]
    exact run_next c i a4 h4 a5 h5 a6 h6 a7 h7 a8 h8 T0 T1 x0 x1 x2 x3 k1 k2 (h3.2 k2) (fun h => (h4'.1 h).1 k1) y K
  · rw [if_neg k1, if_pos k2]
    exact run_zero c i a4 h4 a5 h5 a6 h6 a7 h7 a8 h8 T0 T1 x0 x1 x2 x3 k1 (h4'.2 ⟨k1, k2⟩) y K
  · rw [if_neg k1, if_neg k2]
    exact run_skip c i a4 h4 a5 h5 a6 h6 a7 h7 a8 h8 T0 T1 x0 x1 x2 x3 k1 (fun h => k2 (h4'.1 h).2) y K

end

variable (m : (ℓ : Loc nD τ sig) → Buf (Elt F) ℓ) (ρ : Dev nD → PrngReg) (hr : InRange m)

/-! ## What the staging buffers hold -/

abbrev ms0 (t : Fin (cfgA m hr).N) : Memref sig .tc .vmem S1024x2048 .bf16 := spec0_0.stage ((cfgA m hr).slots t (0 : Fin 5))
abbrev hs0 (t : Fin (cfgA m hr).N) : (ms0 m hr t).IsWhole := hstage0_0 (((cfgA m hr).slots t (0 : Fin 5)).cast nbuf0_0)
abbrev ms1 (t : Fin (cfgA m hr).N) : Memref sig .tc .vmem S1x2048x256 .f32 := spec0_1.stage ((cfgA m hr).slots t (1 : Fin 5))
abbrev hs1 (t : Fin (cfgA m hr).N) : (ms1 m hr t).IsWhole := hstage0_1 (((cfgA m hr).slots t (1 : Fin 5)).cast nbuf0_1)
abbrev ms2 (t : Fin (cfgA m hr).N) : Memref sig .tc .vmem S1x2048x256 .f32 := spec0_2.stage ((cfgA m hr).slots t (2 : Fin 5))
abbrev hs2 (t : Fin (cfgA m hr).N) : (ms2 m hr t).IsWhole := hstage0_2 (((cfgA m hr).slots t (2 : Fin 5)).cast nbuf0_2)
abbrev ms3 (t : Fin (cfgA m hr).N) : Memref sig .tc .vmem S1x256x2048 .f32 := spec0_3.stage ((cfgA m hr).slots t (3 : Fin 5))
abbrev hs3 (t : Fin (cfgA m hr).N) : (ms3 m hr t).IsWhole := hstage0_3 (((cfgA m hr).slots t (3 : Fin 5)).cast nbuf0_3)
abbrev ms4 (t : Fin (cfgA m hr).N) : Memref sig .tc .vmem S1024x2048 .f32 := spec0_4.stage ((cfgA m hr).slots t (4 : Fin 5))
abbrev hs4 (t : Fin (cfgA m hr).N) : (ms4 m hr t).IsWhole := hstage0_4 (((cfgA m hr).slots t (4 : Fin 5)).cast nbuf0_4)

/-- Window `w`'s block at point `t`, read off its array at launch. -/
def iblk (c : Dev nD) (w : Fin (cfgA m hr).W) (t : Fin (cfgA m hr).N) :
    (((cfgA m hr).win w).xblock (crd m hr t)).Idx → Elt F ((cfgA m hr).win w).elt :=
  (((cfgA m hr).win w).blk t).view.read (Elt F) (m (((cfgA m hr).win w).arr.view.loc (c : Thread nD τ)))

/-- The output tile after point `t`, from what it held before. -/
def stepAt (c : Dev nD) (t : Fin (cfgA m hr).N) (y : Vec F S1024x2048 .f32) : Vec F S1024x2048 .f32 :=
  stepVal (crd m hr t) (used m) (iblk m hr c (0 : Fin 5) t) (iblk m hr c (1 : Fin 5) t) (iblk m hr c (2 : Fin 5) t) (iblk m hr c (3 : Fin 5) t) y

/-- The output tile after point `n`. -/
def outs (c : Dev nD) : (n : ℕ) → n < (cfgA m hr).N → Vec F S1024x2048 .f32
  | 0, h => stepAt m hr c ⟨0, h⟩ k0_pay3
  | n + 1, h => stepAt m hr c ⟨n + 1, h⟩ (outs c n (Nat.lt_of_succ_lt h))

/-- and before point `t`. -/
def prev (c : Dev nD) (t : Fin (cfgA m hr).N) : Vec F S1024x2048 .f32 :=
  if h : t.val = 0 then k0_pay3 else outs m hr c (t.val - 1) (by omega)

theorem outs_eq (c : Dev nD) (t : Fin (cfgA m hr).N) : outs m hr c t.val t.isLt = stepAt m hr c t (prev m hr c t) := by
  obtain ⟨n, hn⟩ := t
  cases n with
  | zero => rfl
  | succ n => unfold prev; simp only [Nat.add_one_ne_zero, dif_neg, not_false_eq_true]; rfl

/-- At a tile's first block it does not matter what the buffer held. -/
theorem stepAt_first (c : Dev nD) (t : Fin (cfgA m hr).N) (h : t.val % 28 = 0) (y y' : Vec F S1024x2048 .f32) :
    stepAt m hr c t y = stepAt m hr c t y' := by
  have k2 := (cond2_at m hr t).2 h
  unfold stepAt stepVal
  simp only [if_pos k2]

/-- At a later block of a tile not in use it stays. -/
theorem stepAt_idle (c : Dev nD) (t : Fin (cfgA m hr).N) (h : ¬live m hr t ∧ t.val % 28 ≠ 0) (y : Vec F S1024x2048 .f32) :
    stepAt m hr c t y = y := by
  unfold stepAt stepVal
  rw [if_neg fun k => h.1 ((cond1_at m hr t).1 k), if_neg fun k => h.2 ((cond2_at m hr t).1 k)]

/-! ## The pipeline's proof data -/

/-- Between the points: the body's halves of the tables. -/
def Phi (c : Dev nD) : sProp 𝕄 :=
  iprop((tabE.view.loc (c : Thread nD τ) ↦{fullShare.right} experts m) ∗ (tabN.view.loc (c : Thread nD τ) ↦{fullShare.right} used m))

def dats (_ : Fin 1) (c : Dev nD) : Dat τ (Elt F) Unit ℕ (UR sig nD τ) ℕ (cfgA m hr) c where
  A w := m (((cfgA m hr).win w).arr.view.loc (c : Thread nD τ))
  after w t := match w with
    | ⟨0, _⟩ => iblk m hr c (0 : Fin 5) t
    | ⟨1, _⟩ => iblk m hr c (1 : Fin 5) t
    | ⟨2, _⟩ => iblk m hr c (2 : Fin 5) t
    | ⟨3, _⟩ => iblk m hr c (3 : Fin 5) t
    | ⟨4, _⟩ => outs m hr c t.val t.isLt
  Φ _ := Phi m c
  q _ := fullShare
  owed _ := 0

theorem after_0 (c : Dev nD) (t : Fin (cfgA m hr).N) : (dats m hr 0 c).after (0 : Fin 5) t = iblk m hr c (0 : Fin 5) t := rfl
theorem after_1 (c : Dev nD) (t : Fin (cfgA m hr).N) : (dats m hr 0 c).after (1 : Fin 5) t = iblk m hr c (1 : Fin 5) t := rfl
theorem after_2 (c : Dev nD) (t : Fin (cfgA m hr).N) : (dats m hr 0 c).after (2 : Fin 5) t = iblk m hr c (2 : Fin 5) t := rfl
theorem after_3 (c : Dev nD) (t : Fin (cfgA m hr).N) : (dats m hr 0 c).after (3 : Fin 5) t = iblk m hr c (3 : Fin 5) t := rfl
theorem after_4 (c : Dev nD) (t : Fin (cfgA m hr).N) : (dats m hr 0 c).after (4 : Fin 5) t = outs m hr c t.val t.isLt := rfl

theorem before_0 (c : Dev nD) (t : Fin (cfgA m hr).N) (d) : (dats m hr 0 c).before (0 : Fin 5) t d = iblk m hr c (0 : Fin 5) t :=
  ((dats m hr 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hr).N) (d) : (dats m hr 0 c).before (1 : Fin 5) t d = iblk m hr c (1 : Fin 5) t :=
  ((dats m hr 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hr).N) (d) : (dats m hr 0 c).before (2 : Fin 5) t d = iblk m hr c (2 : Fin 5) t :=
  ((dats m hr 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m hr).N) (d) : (dats m hr 0 c).before (3 : Fin 5) t d = iblk m hr c (3 : Fin 5) t :=
  ((dats m hr 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output's contents carry through the points that leave it alone. -/
theorem carry_4 (c : Dev nD) : ∀ (t : Fin (cfgA m hr).N) (ht : t.val ≠ 0), (cfgA m hr).idle (4 : Fin 5) ((cfgA m hr).grid.coords t) = true →
    (cfgA m hr).fresh (4 : Fin 5) t.val = false →
    (dats m hr 0 c).after (4 : Fin 5) t = (dats m hr 0 c).after (4 : Fin 5) ⟨t.val - 1, by omega⟩ := by
  intro t ht hi hf
  rw [idle_at, decide_eq_true_eq] at hi
  rw [after_4, after_4, outs_eq, stepAt_idle m hr c t hi]
  unfold prev; rw [dif_neg ht]

/-- Before point `t` the output's buffer holds anything at a tile's first block, else what the point before left. -/
theorem before_4 (c : Dev nD) (t : Fin (cfgA m hr).N) (d) :
    (dats m hr 0 c).before (4 : Fin 5) t d = if t.val % 28 = 0 then d else prev m hr c t := by
  rw [(dats m hr 0 c).before_out_traj (4 : Fin 5) rfl (fun _ _ => rfl) (carry_4 m hr c) t.val t rfl d, fresh_at]
  by_cases h : t.val % 28 = 0
  · simp only [h, decide_true, ↓reduceIte]
  · have h0 : t.val ≠ 0 := fun h0 => h (by rw [h0])
    simp only [h, decide_false, Bool.false_eq_true, ↓reduceIte, after_4]; unfold prev; rw [dif_neg h0]

/-- So the body turns it into the contents after the point. -/
theorem step_before (c : Dev nD) (t : Fin (cfgA m hr).N) (d) :
    stepAt m hr c t ((dats m hr 0 c).before (4 : Fin 5) t d) = outs m hr c t.val t.isLt := by
  rw [outs_eq, before_4]
  by_cases h : t.val % 28 = 0
  · exact stepAt_first m hr c t h _ _
  · rw [if_neg h]

/-! ## The body at every point -/

/-- The body at point `t`, as the pipeline calls it. -/
abbrev bodyAt (t : Fin (cfgA m hr).N) : Prog (TpuEff nD τ sig (Elt F) Λ₀ .tc) PUnit :=
  cc0_moe_swiglu (crd m hr t) (Memref.whole main_arg1) (Memref.isWhole_whole _) (Memref.whole main_arg2) (Memref.isWhole_whole _)
    (ms0 m hr t) (hs0 m hr t) (ms1 m hr t) (hs1 m hr t) (ms2 m hr t) (hs2 m hr t) (ms3 m hr t) (hs3 m hr t) (ms4 m hr t) (hs4 m hr t)

/-- The output's buffer as a point hands it on. -/
theorem post_4 (c : Dev nD) (t : Fin (cfgA m hr).N) (d : Vec F S1024x2048 .f32) :
    owns (c : Thread nD τ) (ms4 m hr t) fullShare (outs m hr c t.val t.isLt)
      ⊢ (match (cfgA m hr).idle (4 : Fin 5) ((cfgA m hr).grid.coords t) with
          | true =>
            match ((cfgA m hr).win (4 : Fin 5)).flush t with
            | false => iprop(∃ d, owns (c : Thread nD τ) (((cfgA m hr).win (4 : Fin 5)).stage ((cfgA m hr).slots t (4 : Fin 5))) fullShare ((dats m hr 0 c).before (4 : Fin 5) t d))
            | true => owns (c : Thread nD τ) (((cfgA m hr).win (4 : Fin 5)).stage ((cfgA m hr).slots t (4 : Fin 5))) fullShare ((dats m hr 0 c).after (4 : Fin 5) t)
          | false => owns (c : Thread nD τ) (((cfgA m hr).win (4 : Fin 5)).stage ((cfgA m hr).slots t (4 : Fin 5))) fullShare ((dats m hr 0 c).after (4 : Fin 5) t) : sProp 𝕄) := by
  rcases hi : (cfgA m hr).idle (4 : Fin 5) ((cfgA m hr).grid.coords t) with _ | _
  · exact .rfl
  · rcases hf : ((cfgA m hr).win (4 : Fin 5)).flush t with _ | _
    · have hi' : ¬live m hr t ∧ t.val % 28 ≠ 0 := by rw [idle_at, decide_eq_true_eq] at hi; exact hi
      rw [← step_before m hr c t d, stepAt_idle m hr c t hi']
      iintro H; iexists d; iexact H
    · exact .rfl

set_option maxHeartbeats 4000000 in
theorem sound_body (c : Dev nD) (t : Fin (cfgA m hr).N) :
    iprop((dats m hr 0 c).Φ t.castSucc ∗ (dats m hr 0 c).owesAt () t.castSucc
        ∗ (∃ d, owns (c : Thread nD τ) (ms0 m hr t) fullShare ((dats m hr 0 c).before (0 : Fin 5) t d))
        ∗ (∃ d, owns (c : Thread nD τ) (ms1 m hr t) fullShare ((dats m hr 0 c).before (1 : Fin 5) t d))
        ∗ (∃ d, owns (c : Thread nD τ) (ms2 m hr t) fullShare ((dats m hr 0 c).before (2 : Fin 5) t d))
        ∗ (∃ d, owns (c : Thread nD τ) (ms3 m hr t) fullShare ((dats m hr 0 c).before (3 : Fin 5) t d))
        ∗ (∃ d, owns (c : Thread nD τ) (ms4 m hr t) fullShare ((dats m hr 0 c).before (4 : Fin 5) t d)))
      ⊢ wp frame (wpE (defs₀ (F := F)) Variants.none c none) Set.univ (bodyAt m hr t) fun _ =>
          iprop((dats m hr 0 c).Φ t.succ ∗ (dats m hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m hr 0 c).before w t d))
                  | true => owns (c : Thread nD τ) (((cfgA m hr).win w).stage ((cfgA m hr).slots t w)) fullShare ((dats m hr 0 c).after w t)
                | false => owns (c : Thread nD τ) (((cfgA m hr).win w).stage ((cfgA m hr).slots t w)) fullShare ((dats m hr 0 c).after w t)) := by
  rw [bigSep_W0]
  simp only [before_0, before_1, before_2, before_3]
  rewrite [show (dats m hr 0 c).Φ t.succ = Phi m c from rfl, show (dats m hr 0 c).Φ t.castSucc = Phi m c from rfl,
    show (dats m hr 0 c).owesAt () t.succ = (dats m hr 0 c).owesAt () t.castSucc from rfl]
  iintro ⟨HT, Ho, ⟨%d0, H0⟩, ⟨%d1, H1⟩, ⟨%d2, H2⟩, ⟨%d3, H3⟩, ⟨%d4, H4⟩⟩
  iapply (run_step c (crd m hr t) (ms0 m hr t) (hs0 m hr t) (ms1 m hr t) (hs1 m hr t) (ms2 m hr t) (hs2 m hr t) (ms3 m hr t) (hs3 m hr t) (ms4 m hr t) (hs4 m hr t) (experts m) (used m) (iblk m hr c (0 : Fin 5) t) (iblk m hr c (1 : Fin 5) t) (iblk m hr c (2 : Fin 5) t) (iblk m hr c (3 : Fin 5) t) ((dats m hr 0 c).before (4 : Fin 5) t d4) _)
  unfold held Phi
  icases HT with ⟨HT0, HT1⟩
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexact H4
  iintro ⟨⟨H0, H1, H2, H3, HT0, HT1⟩, H4⟩
  isplitl [HT0 HT1]
  · isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iapply (post_4 m hr c t d4)
  rw [← step_before m hr c t d4]
  iexact H4

theorem body_obligation (c : Dev nD) : BodyObligation (dats m hr 0 c) (defs₀ (F := F)) Variants.none () Set.univ := fun t => by
  rw [bigSep_W0]
  exact sound_body m hr c t

/-! ## The launch -/

def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_eq (c : Dev nD) (w : Fin (cfgA m hr).W) : (dats m hr 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) (adm m hr).1 ∗ Pipeline.scopedRest spec0 c) ⊢ (dats m hr 0 c).Φ 0 := by
  rw [prefHeld_eq, scopedRest0_eq, show (dats m hr 0 c).Φ 0 = Phi m c from rfl]
  unfold Phi
  iintro ⟨-, ⟨HT0, HT1⟩, -⟩
  isplitl [HT0]
  · iexact HT0
  iexact HT1

theorem phi_exit (c : Dev nD) : (dats m hr 0 c).Φ (Fin.last (cfgA m hr).N) ⊢ iprop(BI.emp ∗ Pipeline.scopedRest spec0 c) := by
  rw [scopedRest0_eq, show (dats m hr 0 c).Φ (Fin.last (cfgA m hr).N) = Phi m c from rfl]
  unfold Phi
  iintro ⟨-, -⟩
  isplitr; · iempintro
  iempintro

/-- What a run leaves: every array at the computed contents, every table as it was. -/
def Post : PUnit × MemSt nD τ sig (Elt F) → Prop := fun r =>
  ∀ c : Dev nD, (∀ w : Fin (cfgA m hr).W, r.2.mem (((cfgA m hr).win w).arr.view.loc (c : Thread nD τ)) = (dats m hr 0 c).arrAt w (cfgA m hr).N)
    ∧ ∀ j, r.2.mem ((c : Thread nD τ).loc (pre0.ref j)) = (adm m hr).1 j

theorem tables_eq (c : Dev nD) (j : Fin 2) : m ((c : Thread nD τ).loc (pre0.ref j)) = (adm m hr).1 j := by
  obtain rfl := core_eq c
  fin_cases j
  · rfl
  · rfl

set_option backward.isDefEq.respectTransparency.types false in
set_option maxHeartbeats 4000000 in
theorem run_main : θ_run (defs (F := F)) (onTc (τ := τ) (main (F := F))) ⟨m, fun _ => 0, ρ⟩ (fun r => Post m hr r ∧ r.2.sem = fun _ => 0) :=
  Pipeline.θ_run_region_noSem_pf_quiescent pcfgs (fun _ => adm m hr) (dats m hr) () ((launch0 (F := F)).cellOf_inj fun _ => adm m hr) (0 : Fin 1)
    (launch0 (F := F)).win.to₀ (launch0 (F := F)).pre EP defs₀ Variants.none m ρ main
    (hbody := fun c => (body_obligation m hr c).loose) (hne := (launch0 (F := F)).block_pos)
    (harr := (launch0 (F := F)).arr_whole) (hstage := (launch0 (F := F)).stage_whole) (howed := fun _ _ => rfl)
    (u₀ := u₀ m hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m hr) 0 (launch0 (F := F)).win.arr_inj c (launch0 (F := F)).arr_whole
      (share_eq m hr c) _ _ fun _ => rfl)
    (hpf := tables_eq m hr)
    (X := fun _ => iprop(emp)) (Y := fun _ => iprop(emp)) (Z := fun _ => iprop(emp))
    (hX := fun c => by rw [unscopedRestP0_eq]; iintro -; isplitr <;> iempintro)
    (hin := phi_intro m hr)
    (hout := phi_exit m hr)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with the argument arrays unchanged, the counters at zero and the result at the computed contents. -/
theorem run_all : θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
      ∧ ∀ c : Dev nD, r.2.mem ((c.tc : Thread nD τ).loc main_v0) = (dats m hr 0 c).arrAt (4 : Fin 5) (cfgA m hr).N) :=
  (θ_run defs _ _).mono (fun _ h => ⟨⟨fun c => ⟨((h.1 c).1 (0 : Fin 5)).trans ((dats m hr 0 c).arrAt_in (0 : Fin 5) rfl _),
      ((h.1 c).2 0).trans (tables_eq m hr c 0).symm, ((h.1 c).2 1).trans (tables_eq m hr c 1).symm,
      ((h.1 c).1 (1 : Fin 5)).trans ((dats m hr 0 c).arrAt_in (1 : Fin 5) rfl _),
      ((h.1 c).1 (2 : Fin 5)).trans ((dats m hr 0 c).arrAt_in (2 : Fin 5) rfl _),
      ((h.1 c).1 (3 : Fin 5)).trans ((dats m hr 0 c).arrAt_in (3 : Fin 5) rfl _)⟩, h.2⟩, fun c => (h.1 c).1 (4 : Fin 5)⟩) (run_main m ρ hr)

include hr in
/-- The run ends, the argument arrays and the counters as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => h.1) (run_all m ρ hr)

end Cert.Kernel3Ideal.Moe

end
-- ==== Proof.MoeKernel.lean ====
/-
  The expert call: the array it leaves is, tile by tile, the gated map of the tile's rows by the tile's expert.

  A tile in use is the sum of its 28 partial tiles, one per block of 256 hidden columns, which is the whole map; a tile
  not in use is zero.
-/
module

public import proofs.«01_k».proof.Proof.SwigluMath
public import proofs.«01_k».proof.Proof.MoeFrame
public import Idealize.ShloMosaic.Lib.Pointwise
public import Idealize.ShloMosaic.Lib.Tactic
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Kernel3Ideal.Moe
open Cert.Kernel3Ideal Cert.Kernel3Ideal.Gen

/-- One block's partial tile: the gated map over the block's 256 hidden columns. -/
theorem pay1_apply (v0 : Vec Ideal S1024x2048 .bf16) (v1 v4 : Vec Ideal S1x2048x256 .f32) (v11 : Vec Ideal S1x256x2048 .f32)
    (r : Fin 1024) (l : Fin 2048) :
    (k0_pay1 (F := Ideal) v0 v1 v4 v11 : Vec Ideal S1024x2048 .f32) (ix2 r l)
      = Swiglu.out (fun d : Fin 2048 => v0 (ix2 r d)) (fun (f : Fin 256) d => v1 (ix3 0 d f)) (fun f d => v4 (ix3 0 d f))
          (fun f => v11 (ix3 0 f l)) := by
  unfold Swiglu.out Swiglu.hidden
  pointwise [k0_pay1]

/-- At the later blocks the partial tile is added to what the tile holds. -/
theorem pay2_apply (v0 : Vec Ideal S1024x2048 .bf16) (v1 v4 : Vec Ideal S1x2048x256 .f32) (v11 : Vec Ideal S1x256x2048 .f32)
    (v20 : Vec Ideal S1024x2048 .f32) (j : S1024x2048.Idx) :
    (k0_pay2 (F := Ideal) v0 v1 v4 v11 v20 : Vec Ideal S1024x2048 .f32) j = v20 j + k0_pay1 v0 v1 v4 v11 j := by
  pointwise [k0_pay2]

theorem pay3_apply (j : S1024x2048.Idx) : (k0_pay3 (F := Ideal) : Vec Ideal S1024x2048 .f32) j = (0 : EReal) := by
  pointwise [k0_pay3]

variable (m : (ℓ : Loc nD τ sig) → Buf (Elt Ideal) ℓ) (hr : InRange (F := Ideal) m)

/-- One point's partial tile, zero on a tile not in use. -/
def part (c : Dev nD) (t : Fin (cfgA m hr).N) (j : S1024x2048.Idx) : EReal :=
  if live m hr t then
    (k0_pay1 (F := Ideal) (iblk m hr c (0 : Fin 5) t) (iblk m hr c (1 : Fin 5) t) (iblk m hr c (2 : Fin 5) t) (iblk m hr c (3 : Fin 5) t) : Vec Ideal S1024x2048 .f32) j
  else 0

/-- At a tile's first block the tile becomes the partial tile, -/
theorem outs_first (c : Dev nD) (t : Fin (cfgA m hr).N) (h0 : t.val % 28 = 0) (j : S1024x2048.Idx) :
    outs m hr c t.val t.isLt j = (0 : EReal) + part m hr c t j := by
  rw [outs_eq, zero_add]
  unfold stepAt stepVal part
  by_cases hl : live m hr t
  · rw [if_pos ((cond1_at m hr t).2 hl), if_pos ((cond2_at m hr t).2 h0), if_pos hl]
  · rw [if_neg fun k => hl ((cond1_at m hr t).1 k), if_pos ((cond2_at m hr t).2 h0), if_neg hl]
    exact pay3_apply j

/-- and at the others it grows by it. -/
theorem outs_step (c : Dev nD) (t : Fin (cfgA m hr).N) (h0 : ¬t.val % 28 = 0) (j : S1024x2048.Idx) :
    outs m hr c t.val t.isLt j
      = outs m hr c (t.val - 1) (Nat.lt_of_le_of_lt (Nat.sub_le _ _) t.isLt) j + part m hr c t j := by
  have ht : t.val ≠ 0 := fun h => h0 (by rw [h])
  rw [outs_eq]
  unfold prev
  rw [dif_neg ht]
  unfold stepAt stepVal part
  by_cases hl : live m hr t
  · rw [if_pos ((cond1_at m hr t).2 hl), if_neg fun k => h0 ((cond2_at m hr t).1 k), if_pos hl]
    exact pay2_apply _ _ _ _ _ j
  · rw [if_neg fun k => hl ((cond1_at m hr t).1 k), if_neg fun k => h0 ((cond2_at m hr t).1 k), if_neg hl, add_zero]

/-- So what a point that writes its tile back leaves is the sum of the tile's 28 partial tiles. -/
theorem outs_last (c : Dev nD) (t : Fin (cfgA m hr).N) (h : t.val % 28 = 28 - 1) (j : S1024x2048.Idx) :
    outs m hr c t.val t.isLt j
      = ∑ s : Fin 28, part m hr c ⟨28 * (t.val / 28) + s.val, Pipeline.run_point_lt_of_flush t h s⟩ j := by
  rw [Pipeline.eq_sum_fin_of_reset_step_apply_of_flush (fun n h => outs m hr c n h) 28 (fun _ => (0 : EReal))
    (fun t => part m hr c t) (fun t h j => outs_first m hr c t h j) (fun t h j => outs_step m hr c t h j) t h j, zero_add]

/-! ## The blocks a point finds -/

theorem index_0 (t : Fin (cfgA m hr).N) : ((cfgA m hr).win (0 : Fin 5)).index t = ![t.val / 28, 0] :=
  (by decide +kernel : ∀ t : Fin grid0.N, cc0_transform_0 (grid0.coords t) = ![t.val / 28, 0]) t

theorem index_4 (t : Fin (cfgA m hr).N) : ((cfgA m hr).win (4 : Fin 5)).index t = ![t.val / 28, 0] :=
  (by decide +kernel : ∀ t : Fin grid0.N, cc0_transform_4 (grid0.coords t) = ![t.val / 28, 0]) t

theorem block_at (t : Fin (cfgA m hr).N) (hl : live m hr t) (v : BitVec 32) (hv : v = used m one) :
    (Scalar.select (Scalar.cmpi .slt (BitVec.ofNat 32 (crd m hr t 0).val) v) (BitVec.ofNat 32 (crd m hr t 1).val) 27#32).toNat
      = t.val % 28 := by
  subst hv
  have e : Scalar.cmpi .slt (BitVec.ofNat 32 (crd m hr t 0).val) (used m one) = 1#1 := by
    show BitVec.ofBool ((BitVec.ofNat 32 (grid0.coords t 0).val).slt (used m one)) = 1#1
    rw [(crd_eq t).1]
    exact congrArg BitVec.ofBool hl
  rw [e, (crd_eq t).2]
  show (BitVec.ofNat 32 (t.val % 28)).toNat = t.val % 28
  rw [BitVec.toNat_ofNat]
  omega

/-- A point's tile. -/
def tile (t : Fin (cfgA m hr).N) : Fin 48 := ⟨t.val / 28, by have h : t.val < 1344 := lt_of_lt_of_eq t.isLt N_0; omega⟩

/-- The place of the first table a point reads is its tile's. -/
theorem expert_at (t : Fin (cfgA m hr).N) (x : S48.Idx) (hx : (x 0).val = (BitVec.ofNat 32 (crd m hr t 0).val).toNat) :
    experts m x = experts m (ix1 (tile m hr t)) := by
  congr 1
  have e : (x 0).val = t.val / 28 := by
    rw [hx, (crd_eq t).1, BitVec.toNat_ofNat]
    have h : t.val < 1344 := lt_of_lt_of_eq t.isLt N_0
    omega
  funext a
  have ha : a = 0 := Subsingleton.elim (α := Fin 1) a 0
  subst ha
  exact Fin.ext e

theorem vec3_congr {a b c a' b' c' : ℕ} (ha : a = a') (hb : b = b') (hc : c = c') : ![a, b, c] = ![a', b', c'] := by
  rw [ha, hb, hc]

theorem index_1 (t : Fin (cfgA m hr).N) (hl : live m hr t) :
    ((cfgA m hr).win (1 : Fin 5)).index t = ![(experts m (ix1 (tile m hr t))).toNat, 0, t.val % 28] :=
  vec3_congr (congrArg BitVec.toNat (expert_at m hr t _ (by simp [Rect.unit]; rfl))) rfl (block_at m hr t hl _ (congrArg (used m) (one_idx _ _)))

theorem index_2 (t : Fin (cfgA m hr).N) (hl : live m hr t) :
    ((cfgA m hr).win (2 : Fin 5)).index t = ![(experts m (ix1 (tile m hr t))).toNat, 0, t.val % 28] :=
  vec3_congr (congrArg BitVec.toNat (expert_at m hr t _ (by simp [Rect.unit]; rfl))) rfl (block_at m hr t hl _ (congrArg (used m) (one_idx _ _)))

theorem index_3 (t : Fin (cfgA m hr).N) (hl : live m hr t) :
    ((cfgA m hr).win (3 : Fin 5)).index t = ![(experts m (ix1 (tile m hr t))).toNat, t.val % 28, 0] :=
  vec3_congr (congrArg BitVec.toNat (expert_at m hr t _ (by simp [Rect.unit]; rfl))) (block_at m hr t hl _ (congrArg (used m) (one_idx _ _))) rfl

/-- The blocks a point finds, read off the argument arrays. -/
theorem blk0 (c : Dev nD) (t : Fin (cfgA m hr).N) (r : Fin 1024) (d : Fin 2048) (r' : Fin 49152)
    (h : r'.val = t.val / 28 * 1024 + r.val) :
    (iblk m hr c (0 : Fin 5) t : Vec Ideal S1024x2048 .bf16) (ix2 r d)
      = (m ((c.tc : Thread nD τ).loc main_arg0) : Vec Ideal S49152x2048 .bf16) (ix2 r' d) := by
  blk_ext [iblk, index_0 m hr t]

theorem blk1 (c : Dev nD) (t : Fin (cfgA m hr).N) (hl : live m hr t) (d : Fin 2048) (k : Fin 256) (e : Fin 8) (f : Fin 7168)
    (he : e.val = (experts m (ix1 (tile m hr t))).toNat) (hf : f.val = t.val % 28 * 256 + k.val) :
    (iblk m hr c (1 : Fin 5) t : Vec Ideal S1x2048x256 .f32) (ix3 0 d k)
      = (m ((c.tc : Thread nD τ).loc main_arg3) : Vec Ideal S8x2048x7168 .f32) (ix3 e d f) := by
  blk_ext [iblk, index_1 m hr t hl]

theorem blk2 (c : Dev nD) (t : Fin (cfgA m hr).N) (hl : live m hr t) (d : Fin 2048) (k : Fin 256) (e : Fin 8) (f : Fin 7168)
    (he : e.val = (experts m (ix1 (tile m hr t))).toNat) (hf : f.val = t.val % 28 * 256 + k.val) :
    (iblk m hr c (2 : Fin 5) t : Vec Ideal S1x2048x256 .f32) (ix3 0 d k)
      = (m ((c.tc : Thread nD τ).loc main_arg4) : Vec Ideal S8x2048x7168 .f32) (ix3 e d f) := by
  blk_ext [iblk, index_2 m hr t hl]

theorem blk3 (c : Dev nD) (t : Fin (cfgA m hr).N) (hl : live m hr t) (k : Fin 256) (l : Fin 2048) (e : Fin 8) (f : Fin 7168)
    (he : e.val = (experts m (ix1 (tile m hr t))).toNat) (hf : f.val = t.val % 28 * 256 + k.val) :
    (iblk m hr c (3 : Fin 5) t : Vec Ideal S1x256x2048 .f32) (ix3 0 k l)
      = (m ((c.tc : Thread nD τ).loc main_arg5) : Vec Ideal S8x7168x2048 .f32) (ix3 e f l) := by
  blk_ext [iblk, index_3 m hr t hl]

/-! ## The array the call leaves -/

/-- The tile a row lies in. -/
def tileOf (r : Fin 49152) : Fin 48 := ⟨r.val / 1024, by omega⟩

/-- The expert a table names for a tile. -/
def expertOf (be : IVec S48 32) (b : Fin 48) : Fin 8 := ⟨(be (ix1 b)).toNat % 8, by omega⟩

/-- The array the call leaves: on a tile in use, at row `r`, column `l` the gated map of row `r` of the input by the
    tile's expert, and zero on the other tiles. -/
def moe (X : Vec Ideal S49152x2048 .bf16) (be : IVec S48 32) (nv : IVec S1 32) (W1 W3 : Vec Ideal S8x2048x7168 .f32)
    (W2 : Vec Ideal S8x7168x2048 .f32) : Vec Ideal S49152x2048 .f32 :=
  fun i => if (BitVec.ofNat 32 (tileOf (i 0)).val).slt (nv (ix1 0)) = true then
      Swiglu.out (fun d : Fin 2048 => X (ix2 (i 0) d)) (fun (f : Fin 7168) d => W1 (ix3 (expertOf be (tileOf (i 0))) d f))
        (fun f d => W3 (ix3 (expertOf be (tileOf (i 0))) d f)) (fun f => W2 (ix3 (expertOf be (tileOf (i 0))) f (i 1)))
    else 0

/-- The tile a writing point leaves, at an index, is the array's entry there. -/
theorem tile_eq (c : Dev nD) (t : Fin (cfgA m hr).N) (h : t.val % 28 = 28 - 1) (r : Fin 1024) (l : Fin 2048) (r' : Fin 49152)
    (hr' : r'.val = t.val / 28 * 1024 + r.val) :
    outs m hr c t.val t.isLt (ix2 r l)
      = moe (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (ix2 r' l) := by
  have hc : c = core := core_eq c
  rw [outs_last m hr c t h]
  have e1 : ∀ s : Fin 28, (28 * (t.val / 28) + s.val) / 28 = t.val / 28 := fun s => by omega
  have e2 : ∀ s : Fin 28, (28 * (t.val / 28) + s.val) % 28 = s.val := fun s => by omega
  have ht : tileOf r' = tile m hr t := by
    refine Fin.ext ?_
    show r'.val / 1024 = t.val / 28
    omega
  have hls : ∀ s : Fin 28, live m hr ⟨28 * (t.val / 28) + s.val, Pipeline.run_point_lt_of_flush t h s⟩ ↔ live m hr t := fun s => by
    unfold live
    rw [e1]
  have hts : ∀ s : Fin 28, tile m hr ⟨28 * (t.val / 28) + s.val, Pipeline.run_point_lt_of_flush t h s⟩ = tile m hr t := fun s =>
    Fin.ext (e1 s)
  have hu : (m ((c.tc : Thread nD τ).loc main_arg2) : IVec S1 32) (ix1 0) = used m one := by
    subst hc
    exact congrArg (used m) (one_idx _ _)
  have he : (expertOf (m ((c.tc : Thread nD τ).loc main_arg1)) (tile m hr t)).val = (experts m (ix1 (tile m hr t))).toNat := by
    subst hc
    exact Nat.mod_eq_of_lt (hr _)
  have hR : moe (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (ix2 r' l)
      = if live m hr t then
          Swiglu.out (fun d : Fin 2048 => (m ((c.tc : Thread nD τ).loc main_arg0) : Vec Ideal S49152x2048 .bf16) (ix2 r' d))
            (fun (f : Fin 7168) d => (m ((c.tc : Thread nD τ).loc main_arg3) : Vec Ideal S8x2048x7168 .f32)
              (ix3 (expertOf (m ((c.tc : Thread nD τ).loc main_arg1)) (tile m hr t)) d f))
            (fun f d => (m ((c.tc : Thread nD τ).loc main_arg4) : Vec Ideal S8x2048x7168 .f32)
              (ix3 (expertOf (m ((c.tc : Thread nD τ).loc main_arg1)) (tile m hr t)) d f))
            (fun f => (m ((c.tc : Thread nD τ).loc main_arg5) : Vec Ideal S8x7168x2048 .f32)
              (ix3 (expertOf (m ((c.tc : Thread nD τ).loc main_arg1)) (tile m hr t)) f l))
        else 0 := by
    show (if (BitVec.ofNat 32 (tileOf r').val).slt ((m ((c.tc : Thread nD τ).loc main_arg2) : IVec S1 32) (ix1 0)) = true then
      Swiglu.out (fun d : Fin 2048 => (m ((c.tc : Thread nD τ).loc main_arg0) : Vec Ideal S49152x2048 .bf16) (ix2 r' d))
            (fun (f : Fin 7168) d => (m ((c.tc : Thread nD τ).loc main_arg3) : Vec Ideal S8x2048x7168 .f32)
              (ix3 (expertOf (m ((c.tc : Thread nD τ).loc main_arg1)) (tileOf r')) d f))
            (fun f d => (m ((c.tc : Thread nD τ).loc main_arg4) : Vec Ideal S8x2048x7168 .f32)
              (ix3 (expertOf (m ((c.tc : Thread nD τ).loc main_arg1)) (tileOf r')) d f))
            (fun f => (m ((c.tc : Thread nD τ).loc main_arg5) : Vec Ideal S8x7168x2048 .f32)
              (ix3 (expertOf (m ((c.tc : Thread nD τ).loc main_arg1)) (tileOf r')) f l)) else 0) = _
    rw [hu, ht]
    rfl
  rw [hR]
  by_cases hl : live m hr t
  · rw [if_pos hl]
    simp only [part, if_pos ((hls _).2 hl), pay1_apply]
    refine Swiglu.out_blocks 28 256 rfl _ _ _ _ _ _ _ _ (fun s => ?_) (fun s k h => ?_) (fun s k h => ?_) (fun s k h => ?_)
    · funext d; exact blk0 m hr c _ r d r' (by simp only [e1]; exact hr')
    · funext d; exact blk1 m hr c _ ((hls s).2 hl) d k _ _ (by rw [hts]; exact he) (by simp only [e2])
    · funext d; exact blk2 m hr c _ ((hls s).2 hl) d k _ _ (by rw [hts]; exact he) (by simp only [e2])
    · exact blk3 m hr c _ ((hls s).2 hl) k l _ _ (by rw [hts]; exact he) (by simp only [e2])
  · rw [if_neg hl]
    refine Finset.sum_eq_zero fun s _ => ?_
    exact if_neg fun k => hl ((hls s).1 k)

/-- Every tile of the output is written by the 28th point that visits it. -/
theorem covers : ((cfgA m hr).win (4 : Fin 5)).Covers := by
  refine ((cfgA m hr).win (4 : Fin 5)).covers_of_index_surj rfl
    (show ∀ a : Fin 2, 0 < (![1024, 2048] : Fin 2 → ℕ) a by decide) fun β => ?_
  have h0 : (β (0 : Fin 2)).val < (49152 + 1024 - 1) / 1024 := (β (0 : Fin 2)).isLt
  have h1 : (β (1 : Fin 2)).val < (2048 + 2048 - 1) / 2048 := (β (1 : Fin 2)).isLt
  have hN : (β (0 : Fin 2)).val * 28 < (cfgA m hr).N := lt_of_lt_of_eq (b := 1344) (by omega) N_0.symm
  refine ⟨⟨_, hN⟩, fun a => ?_⟩
  rw [index_4]
  revert a
  refine Fin.forall_fin_two.mpr ⟨?_, ?_⟩
  · show (β (0 : Fin 2)).val * 28 / 28 = (β (0 : Fin 2)).val
    omega
  · show 0 = (β (1 : Fin 2)).val
    omega

/-- The output array after the run. -/
theorem arr_eq (c : Dev nD) :
    (dats m hr 0 c).arrAt (4 : Fin 5) (cfgA m hr).N
      = moe (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (dats m hr 0 c).arrAt_eq_of_covers (4 : Fin 5) _ (covers m hr) fun t hf y => ?_
  have h : t.val % 28 = 28 - 1 := (flush_at m hr t).mp hf
  blk_simp
  rw [after_4]
  revert y
  intro (y : S1024x2048.Idx)
  idx_vars y
  have hlt : t.val / 28 * 1024 + y0.val < 49152 := by
    have h : t.val < 1344 := lt_of_lt_of_eq t.isLt N_0
    have := y0.isLt; omega
  refine (tile_eq m hr c t h y0 y1 ⟨_, hlt⟩ rfl).trans ?_
  congr 1
  blk_ext [index_4 m hr t]

end Cert.Kernel3Ideal.Moe

end
-- ==== Proof.MoeBits.lean ====
/-
  The expert call as written, at the machine's own numbers: it is the same program as the one read over the extended
  reals, so it runs, ends and leaves its arguments alone likewise.
-/
module

public import proofs.«01_k».proof.Defs
public import proofs.«01_k».proof.Proof.MoeFrame
public import proofs.«01_k».proof.Proof.Gen.Kernel3

@[expose] public section

set_option maxRecDepth 16384

noncomputable section

open Idealize.ShloMosaic Idealize.ShloMosaic.TcCoe Idealize.SL.Sem

namespace Cert.Kernel3.Moe

variable {F : FTy → Type} [FloatOps F]

/-- The two programs' body tables are equal. -/
theorem defs₀_eq : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel3.defs (F := F) = Cert.Kernel3Ideal.defs (F := F) := by
  unfold Cert.Kernel3.defs
  rw [defs₀_eq]
  rfl

theorem frame (m : (ℓ : Loc nD τ sig) → Buf (Elt F) ℓ) (ρ : Dev nD → PrngReg) (hr : Cert.Kernel3Ideal.Moe.InRange (F := F) m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.Kernel3Ideal.Moe.frame m ρ hr

end Cert.Kernel3.Moe

end
-- ==== Proof.MoeClaim.lean ====
/-
  The expert call and its reference leave the same array, whatever the tables, as long as every tile's expert is one of
  the eight.
-/
module

public import proofs.«01_k».proof.Defs
public import proofs.«01_k».proof.Proof.MoeRef
public import proofs.«01_k».proof.Proof.MoeKernel
public import proofs.«01_k».proof.Proof.MoeBits
public import Idealize.ShloMosaic.Lib.Quiescent

@[expose] public section

set_option maxRecDepth 16384

noncomputable section

open Idealize.ShloMosaic Idealize.ShloMosaic.TcCoe Idealize.SL.Sem

namespace Cert.Proof.Moe

instance preFacts : Cert.Pre_experts_in_range.Facts := ⟨by decide⟩

/-- A word that is at least zero and below eight, read signed, is below eight. -/
theorem word_range (v : BitVec 32) (h : BitVec.ofBool ((0#32).sle v) &&& BitVec.ofBool (v.slt 8#32) = 1#1) : v.toNat < 8 := by
  have h1 : (0#32).sle v = true ∧ v.slt 8#32 = true := by
    revert h
    cases (0#32).sle v <;> cases v.slt 8#32 <;> decide
  have ha : (0 : ℤ) ≤ v.toInt := by simpa [BitVec.sle] using h1.1
  have hb : v.toInt < 8 := by simpa [BitVec.slt] using h1.2
  have hv := v.isLt
  rw [BitVec.toInt_eq_toNat_cond] at ha hb
  split at ha <;> omega

/-- What the precondition says: every word of the table is below eight. -/
theorem range {F : FTy → Type} [FloatOps F] (X : FVec F Cert.Pre_experts_in_range.S49152x2048 .bf16) (be : IVec Cert.Pre_experts_in_range.S48 32)
    (nv : IVec Cert.Pre_experts_in_range.S1 32) (W1 W3 : FVec F Cert.Pre_experts_in_range.S8x2048x7168 .f32)
    (W2 : FVec F Cert.Pre_experts_in_range.S8x7168x2048 .f32) (h : Cert.Pre_experts_in_range.fn X be nv W1 W3 W2 = fun _ => 1#1)
    (x : Cert.Pre_experts_in_range.S48.Idx) : (be x).toNat < 8 :=
  word_range _ (congrFun h x)

theorem frame_kernel : Cert.quiescent_Kernel3 := fun m ρ h =>
  Cert.Kernel3.Moe.frame m ρ fun x => range _ _ _ _ _ _ (h Cert.Kernel3Ideal.Moe.core) x

theorem frame_ideal : Cert.quiescent_Kernel3Ideal := fun m ρ h =>
  Cert.Kernel3Ideal.Moe.frame m ρ fun x => range _ _ _ _ _ _ (h Cert.Kernel3Ideal.Moe.core) x

/-- The reference's frame, from its run. -/
theorem frame_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_ref_pre : Cert.quiescent_Reference3Ideal_pre_experts_in_range := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- From memories with the same arguments, the call and the reference both end at the tiles' gated maps. -/
theorem algebraic : Cert.algebraic_Kernel3Ideal_Reference3Ideal := by
  intro m ρ m' ρ' hp hagree
  have hr : Cert.Kernel3Ideal.Moe.InRange (F := Ideal) m := fun x => range _ _ _ _ _ _ (hp Cert.Kernel3Ideal.Moe.core) x
  refine ⟨fun c => Cert.Kernel3Ideal.Moe.moe (m ((c.tc : Thread _ _).loc Cert.Kernel3Ideal.main_arg0))
      (m ((c.tc : Thread _ _).loc Cert.Kernel3Ideal.main_arg1)) (m ((c.tc : Thread _ _).loc Cert.Kernel3Ideal.main_arg2))
      (m ((c.tc : Thread _ _).loc Cert.Kernel3Ideal.main_arg3)) (m ((c.tc : Thread _ _).loc Cert.Kernel3Ideal.main_arg4))
      (m ((c.tc : Thread _ _).loc Cert.Kernel3Ideal.main_arg5)), ?_, ?_⟩
  · exact (θ_run Cert.Kernel3Ideal.defs _ _).mono
      (fun _ h c => ⟨(h.2 c).trans (Cert.Kernel3Ideal.Moe.arr_eq m hr c), h.1.1 c⟩)
      (Cert.Kernel3Ideal.Moe.run_all (F := Ideal) m ρ hr)
  · refine (θ_run Cert.Reference3Ideal.defs _ _).mono (fun _ h c => ⟨(h c).1.trans ?_, (h c).2⟩)
      (Cert.Reference3Ideal.Value.run (F := Ideal) m' ρ')
    obtain ⟨e0, e1, e2, e3, e4, e5⟩ := hagree c
    rw [e0, e1, e2, e3, e4, e5]
    exact Cert.Reference3Ideal.Moe.ref_eq _ _ _ _ _ _ fun x => range _ _ _ _ _ _ (hp c) x

end Cert.Proof.Moe

end
-- ==== Proof.InMath.lean ====
/-
  The rows the projection into the layer's streams works on, on plain families of extended reals.

  A row is normalised to unit mean square, scaled by a weight vector and modulated by a scale and a shift.
-/
module

public import Idealize.ShloMosaic.PureOps.Ideal
public import Idealize.ShloMosaic.Lib.Pipeline.ValueKit

@[expose] public section

noncomputable section

namespace Cert.Inp

open Idealize.ShloMosaic

/-- The normalised and modulated row: entry `d` of the row `x`, under weights `g`, scale `c` and shift `s`. -/
def row (x g c s : Fin 2048 → EReal) (d : Fin 2048) : EReal :=
  x d * Ideal.rsqrt (Ideal.div (∑ e, x e * x e) (Ideal.ofBits .f32 0x45000000#32) + Ideal.ofBits .f32 0x358637BD#32) * g d
    * (Ideal.ofBits .f32 0x3F800000#32 + c d) + s d

end Cert.Inp

end
-- ==== Proof.InRef.lean ====
/-
  The reference of the projection into the layer's streams, entry by entry.

  The reference works on the rows by blocks of 4096 that share a modulation row; its operations are read here in
  stages: the normalised and modulated rows, then the products with the two matrices.
-/
module

public import proofs.«01_k».proof.Proof.InMath
public import proofs.«01_k».proof.Proof.Gen.Reference4Ideal.Run
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Reference4Ideal.Inp
open Cert.Reference4Ideal Cert.Reference4Ideal.Gen

/-- The rows by block. -/
def byBlock (X : Vec Ideal S20480x2048 .f32) : FVec Ideal S5x4096x2048 .f32 := shapeCast _ X shapeCasts_S20480x2048_S5x4096x2048

/-- Each row's factor: one over the root of its mean square. -/
def factor (x : FVec Ideal S5x4096x2048 .f32) : FVec Ideal S5x4096x1 .f32 :=
  Host.rsqrt (addf (Host.divf (broadcastInDim S5x4096x1 ![0, 1] bcast_S5x4096_S5x4096x1_0_1 (Host.reduceAdd (mulf x x) (constant S_ .f32 0x00000000#32) reducesTo_S5x4096x2048_S5x4096_d2 h_S_)) (broadcastInDim S5x4096x1 ![] bcast_S_S5x4096x1 (constant S_ .f32 0x45000000#32))) (broadcastInDim S5x4096x1 ![] bcast_S_S5x4096x1 (constant S_ .f32 0x358637BD#32)))

/-- The weight vector. -/
def gain (G : Vec Ideal S4x1x2048 .f32) : FVec Ideal S2048 .f32 :=
  shapeCast _ (extractStridedSlice S1x1x2048 ![0, 0, 0] G slices_S4x1x2048_S1x1x2048_0_0_0) shapeCasts_S1x1x2048_S2048

/-- The blocks' scale rows, -/
def scale (M : Vec Ideal S4x8x1x12288 .f32) : FVec Ideal S5x1x2048 .f32 :=
  shapeCast _ (extractStridedSlice S1x5x1x2048 ![0, 0, 0, 2048] M slices_S4x8x1x12288_S1x5x1x2048_0_0_0_2048) shapeCasts_S1x5x1x2048_S5x1x2048

/-- and their shift rows. -/
def shift (M : Vec Ideal S4x8x1x12288 .f32) : FVec Ideal S5x1x2048 .f32 :=
  shapeCast _ (extractStridedSlice S1x5x1x2048 ![0, 0, 0, 0] M slices_S4x8x1x12288_S1x5x1x2048_0_0_0_0) shapeCasts_S1x5x1x2048_S5x1x2048

/-- The normalised and modulated rows, in one array again. -/
def normed (x : FVec Ideal S5x4096x2048 .f32) (g : FVec Ideal S2048 .f32) (c s : FVec Ideal S5x1x2048 .f32) :
    FVec Ideal S20480x2048 .f32 :=
  shapeCast _ (addf (mulf (mulf (mulf x (broadcastInDim S5x4096x2048 ![0, 1, 2] bcast_S5x4096x1_S5x4096x2048_0_1_2 (factor x))) (broadcastInDim S5x4096x2048 ![0, 1, 2] bcast_S1x1x2048_S5x4096x2048_0_1_2 (broadcastInDim S1x1x2048 ![2] bcast_S2048_S1x1x2048_2 g))) (broadcastInDim S5x4096x2048 ![0, 1, 2] bcast_S5x1x2048_S5x4096x2048_0_1_2 (addf (broadcastInDim S5x1x2048 ![] bcast_S_S5x1x2048 (constant S_ .f32 0x3F800000#32)) c))) (broadcastInDim S5x4096x2048 ![0, 1, 2] bcast_S5x1x2048_S5x4096x2048_0_1_2 s)) shapeCasts_S5x4096x2048_S20480x2048

theorem byBlock_apply (X : Vec Ideal S20480x2048 .f32) (b : Fin 5) (p : Fin 4096) (d : Fin 2048) :
    byBlock X (ix3 b p d) = X (ix2 ⟨b.val * 4096 + p.val, by omega⟩ d) := by
  pointwise [byBlock]

theorem factor_apply (x : FVec Ideal S5x4096x2048 .f32) (b : Fin 5) (p : Fin 4096) (z : Fin 1) :
    factor x (ix3 b p z)
      = Ideal.rsqrt (Ideal.div (∑ e : Fin 2048, (x (ix3 b p e) * x (ix3 b p e) : EReal)) (Ideal.ofBits .f32 0x45000000#32)
          + Ideal.ofBits .f32 0x358637BD#32) := by
  pointwise [factor]

theorem gain_apply (G : Vec Ideal S4x1x2048 .f32) (d : Fin 2048) : gain G (ix1 d) = G (ix3 (0 : Fin 4) (0 : Fin 1) d) := by
  pointwise [gain]

theorem scale_apply (M : Vec Ideal S4x8x1x12288 .f32) (b : Fin 5) (z : Fin 1) (d : Fin 2048) :
    scale M (ix3 b z d) = M (ix4 (0 : Fin 4) (⟨b.val, by omega⟩ : Fin 8) (0 : Fin 1) (⟨2048 + d.val, by omega⟩ : Fin 12288)) := by
  pointwise [scale]

theorem shift_apply (M : Vec Ideal S4x8x1x12288 .f32) (b : Fin 5) (z : Fin 1) (d : Fin 2048) :
    shift M (ix3 b z d) = M (ix4 (0 : Fin 4) (⟨b.val, by omega⟩ : Fin 8) (0 : Fin 1) (⟨d.val, by omega⟩ : Fin 12288)) := by
  pointwise [shift]

theorem normed_apply (x : FVec Ideal S5x4096x2048 .f32) (g : FVec Ideal S2048 .f32) (c s : FVec Ideal S5x1x2048 .f32)
    (r : Fin 20480) (d : Fin 2048) :
    normed x g c s (ix2 r d)
      = Cert.Inp.row (fun e : Fin 2048 => x (ix3 (⟨r.val / 4096, by omega⟩ : Fin 5) (⟨r.val % 4096, by omega⟩ : Fin 4096) e))
          (fun e => g (ix1 e)) (fun e => c (ix3 (⟨r.val / 4096, by omega⟩ : Fin 5) (0 : Fin 1) e))
          (fun e => s (ix3 (⟨r.val / 4096, by omega⟩ : Fin 5) (0 : Fin 1) e)) d := by
  unfold Cert.Inp.row
  rw [← factor_apply x _ _ (0 : Fin 1)]
  pointwise [normed]

/-- Row `r` of the input, normalised and modulated by the row of its block of 4096. -/
def hrow (X : Vec Ideal S20480x2048 .f32) (M : Vec Ideal S4x8x1x12288 .f32) (G : Vec Ideal S4x1x2048 .f32) (r : Fin 20480) :
    Fin 2048 → EReal :=
  Cert.Inp.row (fun e => X (ix2 r e)) (fun e => G (ix3 (0 : Fin 4) (0 : Fin 1) e))
    (fun e => M (ix4 (0 : Fin 4) (⟨r.val / 4096, by omega⟩ : Fin 8) (0 : Fin 1) (⟨2048 + e.val, by omega⟩ : Fin 12288)))
    (fun e => M (ix4 (0 : Fin 4) (⟨r.val / 4096, by omega⟩ : Fin 8) (0 : Fin 1) (⟨e.val, by omega⟩ : Fin 12288)))

theorem rows_apply (X : Vec Ideal S20480x2048 .f32) (M : Vec Ideal S4x8x1x12288 .f32) (G : Vec Ideal S4x1x2048 .f32)
    (r : Fin 20480) (d : Fin 2048) :
    normed (byBlock X) (gain G) (scale M) (shift M) (ix2 r d) = hrow X M G r d := by
  have hr : r.val / 4096 * 4096 + r.val % 4096 = r.val := by omega
  rw [normed_apply]
  unfold hrow
  simp only [byBlock_apply, gain_apply, scale_apply, shift_apply, hr]

/-- The two arrays of the layer's streams. -/
def main6 (X : Vec Ideal S20480x2048 .f32) (M : Vec Ideal S4x8x1x12288 .f32) (G : Vec Ideal S4x1x2048 .f32)
    (W : Vec Ideal S4x2048x3584 .bf16) : Vec Ideal S20480x3584 .f32 :=
  fun i => ∑ d : Fin 2048, (hrow X M G (i 0) d * W (ix3 (0 : Fin 4) d (i 1)) : EReal)

def main7 (X : Vec Ideal S20480x2048 .f32) (M : Vec Ideal S4x8x1x12288 .f32) (G : Vec Ideal S4x1x2048 .f32)
    (W : Vec Ideal S4x2048x128 .bf16) : Vec Ideal S20480x128 .f32 :=
  fun i => ∑ d : Fin 2048, (hrow X M G (i 0) d * W (ix3 (0 : Fin 4) d (i 1)) : EReal)

/-- The products with the two matrices, from the rows. -/
def times6 (H : FVec Ideal S20480x2048 .f32) (W : Vec Ideal S4x2048x3584 .bf16) : FVec Ideal S20480x3584 .f32 :=
  Host.dotGeneral (φ₁ := .f32) (φ₂ := .f32) dot_S20480x2048_S2048x3584_S20480x3584_1_0_0_1_n_n none H (extf (F := Ideal) (φ := .bf16) .f32 (shapeCast _ (extractStridedSlice S1x2048x3584 ![0, 0, 0] W slices_S4x2048x3584_S1x2048x3584_0_0_0) shapeCasts_S1x2048x3584_S2048x3584) bitsLt_bf16_f32)

def times7 (H : FVec Ideal S20480x2048 .f32) (W : Vec Ideal S4x2048x128 .bf16) : FVec Ideal S20480x128 .f32 :=
  Host.dotGeneral (φ₁ := .f32) (φ₂ := .f32) dot_S20480x2048_S2048x128_S20480x128_1_0_0_1_n_n none H (extf (F := Ideal) (φ := .bf16) .f32 (shapeCast _ (extractStridedSlice S1x2048x128 ![0, 0, 0] W slices_S4x2048x128_S1x2048x128_0_0_0) shapeCasts_S1x2048x128_S2048x128) bitsLt_bf16_f32)

theorem times6_apply (H : FVec Ideal S20480x2048 .f32) (W : Vec Ideal S4x2048x3584 .bf16) (r : Fin 20480) (l : Fin 3584) :
    times6 H W (ix2 r l) = (∑ d : Fin 2048, (H (ix2 r d) * W (ix3 (0 : Fin 4) d l) : EReal)) := by
  pointwise [times6]

theorem times7_apply (H : FVec Ideal S20480x2048 .f32) (W : Vec Ideal S4x2048x128 .bf16) (r : Fin 20480) (l : Fin 128) :
    times7 H W (ix2 r l) = (∑ d : Fin 2048, (H (ix2 r d) * W (ix3 (0 : Fin 4) d l) : EReal)) := by
  pointwise [times7]

theorem ref6 (X : Vec Ideal S20480x2048 .f32) (M : Vec Ideal S4x8x1x12288 .f32) (G : Vec Ideal S4x1x2048 .f32)
    (W : Vec Ideal S4x2048x3584 .bf16) :
    times6 (normed (byBlock X) (gain G) (scale M) (shift M)) W = main6 X M G W := by
  funext j
  idx_vars j
  rw [times6_apply]
  simp only [rows_apply]
  rfl

theorem ref7 (X : Vec Ideal S20480x2048 .f32) (M : Vec Ideal S4x8x1x12288 .f32) (G : Vec Ideal S4x1x2048 .f32)
    (W : Vec Ideal S4x2048x128 .bf16) :
    times7 (normed (byBlock X) (gain G) (scale M) (shift M)) W = main7 X M G W := by
  funext j
  idx_vars j
  rw [times7_apply]
  simp only [rows_apply]
  rfl

end Cert.Reference4Ideal.Inp

end
-- ==== Proof.InRuns.lean ====
/-
  The projection into the layer's streams: what its body does at one grid point.

  At the first block of columns of a row tile the body normalises and modulates the tile's rows, keeps them, and stores
  the tile of time-step columns. At every block it multiplies the kept rows by the block's weights.
-/
module

public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.ValueKit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Kernel4Ideal.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (a2 : Memref sig .tc .vmem S1024x2048 .f32) (h2 : a2.IsWhole) (a3 : Memref sig .tc .vmem S1x1x1x2048 .f32) (h3 : a3.IsWhole)
  (a4 : Memref sig .tc .vmem S1x1x1x2048 .f32) (h4 : a4.IsWhole) (a5 : Memref sig .tc .vmem S1x1x2048 .f32) (h5 : a5.IsWhole)
  (a6 : Memref sig .tc .vmem S1x2048x512 .bf16) (h6 : a6.IsWhole) (a7 : Memref sig .tc .vmem S1x2048x128 .bf16) (h7 : a7.IsWhole)
  (a8 : Memref sig .tc .vmem S1024x512 .f32) (h8 : a8.IsWhole) (a9 : Memref sig .tc .vmem S1024x128 .f32) (h9 : a9.IsWhole)
  (a10 : Memref sig .tc .vmem S1024x2048 .bf16) (h10 : a10.IsWhole)
  (x0 : Vec F S1024x2048 .f32) (x1 x2 : Vec F S1x1x1x2048 .f32) (x3 : Vec F S1x1x2048 .f32)
  (x4 : Vec F S1x2048x512 .bf16) (x5 : Vec F S1x2048x128 .bf16)

/-- The input blocks the body is handed and hands back. -/
def held : sProp 𝕄 :=
  iprop((a2.view.loc (c : Thread nD τ) ↦[a2.view.set]{fullShare} a2.view.rep x0)
    ∗ (a3.view.loc (c : Thread nD τ) ↦[a3.view.set]{fullShare} a3.view.rep x1)
    ∗ (a4.view.loc (c : Thread nD τ) ↦[a4.view.set]{fullShare} a4.view.rep x2)
    ∗ (a5.view.loc (c : Thread nD τ) ↦[a5.view.set]{fullShare} a5.view.rep x3)
    ∗ (a6.view.loc (c : Thread nD τ) ↦[a6.view.set]{fullShare} a6.view.rep x4)
    ∗ (a7.view.loc (c : Thread nD τ) ↦[a7.view.set]{fullShare} a7.view.rep x5))

set_option backward.proofsInPublic true in
set_option maxHeartbeats 4000000 in
/-- First block of a row tile: the rows are kept, both output tiles stored. -/
theorem run_first (k1 : k0_cond1 i = 1#1)
    (y : Vec F S1024x512 .f32) (z : Vec F S1024x128 .f32) (s : Vec F S1024x2048 .bf16) (K : PUnit → sProp 𝕄) :
    iprop(held c a2 a3 a4 a5 a6 a7 x0 x1 x2 x3 x4 x5 ∗ owns (c : Thread nD τ) a8 fullShare y ∗ owns (c : Thread nD τ) a9 fullShare z
        ∗ owns (c : Thread nD τ) a10 fullShare s
        ∗ (iprop(held c a2 a3 a4 a5 a6 a7 x0 x1 x2 x3 x4 x5 ∗ owns (c : Thread nD τ) a8 fullShare (k0_pay1 (k0_pay3 x0 x3 x2 x1) x4)
            ∗ owns (c : Thread nD τ) a9 fullShare (k0_pay4 x0 x3 x2 x1 x5)
            ∗ owns (c : Thread nD τ) a10 fullShare (k0_pay3 x0 x3 x2 x1)) -∗ K ⟨⟩))
      ⊢ wp frame (wpE (defs₀ (F := F)) Variants.none c none) Set.univ
          (cc0_in_proj i a2 h2 a3 h3 a4 h4 a5 h5 a6 h6 a7 h7 a8 h8 a9 h9 a10 h10) K := by
  unfold held owns
  rw [cc0_in_proj_eq_skeleton]; unfold cc0_in_proj_skel
  rw [k0_part1_eq_skeleton]; unfold k0_part1_skel
  iintro ⟨⟨H0, H1, H2, H3, H4, H5⟩, ⟨%f8, %hf8, HO8⟩, ⟨%f9, %hf9, HO9⟩, ⟨%f10, %hf10, HO10⟩, Hk⟩
  obtain rfl := h8.eq_unread hf8
  obtain rfl := h9.eq_unread hf9
  obtain rfl := h10.eq_unread hf10
  sl_exec! (disch := first | exact k1)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HO8]
  · iexists _; isplitr
    swap; · iexact HO8
    ipureintro
    refine (View.read_writes_eq_canon _ _ _ (View.cover_of_tiledL _ S1024x512.size (by sl_kernel_rfl))).trans ?_
    delta run_first.sl.HO8_1
    simp (disch := decide) only [View.canon_cons_unit_lit', View.ld_unit_lit', View.readAt_eq_ld, View.read_rep, hf8, hf10]
    refine congrArg (fun v => k0_pay1 v x4) ?_
    delta run_first.sl.v3
    delta run_first.sl.HO10_1
    simp (disch := decide) only [View.readCov_unit_lit', View.ld_unit_lit', View.readAt_eq_ld, View.read_rep]
  isplitl [HO9]
  · iexists _; isplitr
    swap; · iexact HO9
    ipureintro
    refine (View.read_writes_eq_canon _ _ _ (View.cover_of_tiledL _ S1024x128.size (by sl_kernel_rfl))).trans ?_
    delta run_first.sl.HO9_1
    simp (disch := decide) only [View.canon_cons_unit_lit', View.ld_unit_lit', View.readAt_eq_ld, View.read_rep, hf9]
  iexists _; isplitr
  swap; · iexact HO10
  ipureintro
  refine (View.read_writes_eq_canon _ _ _ (View.cover_of_tiledL _ S1024x2048.size (by sl_kernel_rfl))).trans ?_
  delta run_first.sl.HO10_1
  simp (disch := decide) only [View.canon_cons_unit_lit', View.ld_unit_lit', View.readAt_eq_ld, View.read_rep, hf10]

set_option backward.proofsInPublic true in
set_option maxHeartbeats 4000000 in
/-- Another block: the kept rows times the block's weights. -/
theorem run_next (k1 : ¬k0_cond1 i = 1#1)
    (y : Vec F S1024x512 .f32) (s : Vec F S1024x2048 .bf16) (K : PUnit → sProp 𝕄) :
    iprop(held c a2 a3 a4 a5 a6 a7 x0 x1 x2 x3 x4 x5 ∗ owns (c : Thread nD τ) a8 fullShare y
        ∗ owns (c : Thread nD τ) a10 fullShare s
        ∗ (iprop(held c a2 a3 a4 a5 a6 a7 x0 x1 x2 x3 x4 x5 ∗ owns (c : Thread nD τ) a8 fullShare (k0_pay1 s x4)
            ∗ owns (c : Thread nD τ) a10 fullShare s) -∗ K ⟨⟩))
      ⊢ wp frame (wpE (defs₀ (F := F)) Variants.none c none) Set.univ
          (cc0_in_proj i a2 h2 a3 h3 a4 h4 a5 h5 a6 h6 a7 h7 a8 h8 a9 h9 a10 h10) K := by
  unfold held owns
  rw [cc0_in_proj_eq_skeleton]; unfold cc0_in_proj_skel
  iintro ⟨⟨H0, H1, H2, H3, H4, H5⟩, ⟨%f8, %hf8, HO8⟩, ⟨%f10, %hf10, HO10⟩, Hk⟩
  obtain rfl := h8.eq_unread hf8
  obtain rfl := h10.eq_unread hf10
  sl_exec! (disch := first | exact k1)
  sl_step
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HO8]
  · iexists _; isplitr
    swap; · iexact HO8
    ipureintro
    refine (View.read_writes_eq_canon _ _ _ (View.cover_of_tiledL _ S1024x512.size (by sl_kernel_rfl))).trans ?_
    delta run_next.sl.HO8_1
    simp (disch := decide) only [View.canon_cons_unit_lit', View.ld_unit_lit', View.readAt_eq_ld, View.read_rep, hf8, hf10]
  iexists _; isplitr
  swap; · iexact HO10
  ipureintro
  exact hf10

end

end Cert.Kernel4Ideal.Inp

end
-- ==== Proof.InFrame.lean ====
/-
  The projection into the layer's streams runs, ends and leaves its arguments alone.

  The grid walks 20 tiles of rows, and for each tile 7 blocks of columns. Between the points of a tile the kept rows are
  those its first point computed; the tile of time-step columns is stored there too and written back after the last.
-/
module

public import proofs.«01_k».proof.Proof.InRuns
public import proofs.«01_k».proof.Proof.Gen.Kernel4Ideal.Frame
public import Idealize.ShloMosaic.Lib.Pipeline.TableIdle
public import Idealize.ShloMosaic.Adequacy
public import Idealize.ShloMosaic.Init
public import Idealize.ShloMosaic.Lib.Claim
public import Idealize.ShloMosaic.Lib.Pipeline.Launch
public import Idealize.ShloMosaic.Lib.Pipeline.Frame
public import Idealize.ShloMosaic.Lib.Pipeline.Quiescent
public import Idealize.ShloMosaic.Lib.Quiescent

@[expose] public section

set_option maxRecDepth 16384

noncomputable section

namespace Cert.Kernel4Ideal.Inp

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The schedule -/

theorem crd_eq : ∀ t : Fin grid0.N, (grid0.coords t 0).val = t.val / 7 ∧ (grid0.coords t 1).val = t.val % 7 := by decide +kernel

theorem cond1_iff (i : grid0.Coords) : k0_cond1 i = 1#1 ↔ (i 1).val = 0 :=
  (by decide : ∀ j : Fin 7, Scalar.cmpi .ne (Scalar.extui (Scalar.cmpi .eq (BitVec.ofNat 32 j.val) 0#32)) 0#32 = 1#1 ↔ j.val = 0) (i 1)

theorem cond1_at (t : Fin cfg0.N) : k0_cond1 (grid0.coords t) = 1#1 ↔ t.val % 7 = 0 := by
  rw [cond1_iff, (crd_eq t).2]

/-- The tile of time-step columns is left alone at every block but the first. -/
theorem idle_at (t : Fin cfg0.N) : cfg0.idle 7 (cfg0.grid.coords t) = decide (t.val % 7 ≠ 0) := by
  show (!(k0_cond1 (grid0.coords t) == 1#1)) = _
  rw [Bool.eq_iff_iff]
  simp only [Bool.not_eq_true', beq_eq_false_iff_ne, ne_eq, decide_eq_true_eq, cond1_at]

theorem flush_eq (t : Fin cfg0.N) : (cfg0.win 7).flush t = decide (t.val % 7 = 6) := by
  rw [Bool.eq_iff_iff, decide_eq_true_eq]; exact flush0_7 t

theorem fresh_at (t : Fin cfg0.N) : cfg0.fresh 7 t.val = decide (t.val % 7 = 0) :=
  Pipeline.Cfg.fresh_tab cfg0 7 (fun n => decide (n % 7 = 0)) rfl (fun t => by
    rw [flush_eq, idle_at]
    rw [Bool.eq_iff_iff]
    simp only [Bool.or_eq_true, Bool.and_eq_true, decide_eq_true_eq]
    omega) t.val (Nat.le_of_lt t.isLt)

/-- The first point of `t`'s row tile. -/
def base (t : Fin cfg0.N) : Fin cfg0.N := ⟨7 * (t.val / 7), lt_of_le_of_lt (Nat.mul_div_le t.val 7) t.isLt⟩

theorem base_first (t : Fin cfg0.N) (h : t.val % 7 = 0) : base t = t := Fin.ext (by show 7 * (t.val / 7) = t.val; omega)

theorem base_succ (t t' : Fin cfg0.N) (h : t'.val % 7 ≠ 0) (e : t'.val = t.val + 1) : base t' = base t :=
  Fin.ext (by show 7 * (t'.val / 7) = 7 * (t.val / 7); omega)

/-! ## What the buffers hold -/

variable (m : (ℓ : Loc nD τ sig) → Buf (Elt F) ℓ) (ρ : Dev nD → PrngReg)

/-- The rows a tile keeps, computed at point `t`. -/
def rows (c : Dev nD) (t : Fin cfg0.N) : Vec F S1024x2048 .bf16 :=
  k0_pay3 (iblk m c 0 t) (iblk m c 3 t) (iblk m c 2 t) (iblk m c 1 t)

/-- The tile of time-step columns, computed at point `t`. -/
def steps (c : Dev nD) (t : Fin cfg0.N) : Vec F S1024x128 .f32 :=
  k0_pay4 (iblk m c 0 t) (iblk m c 3 t) (iblk m c 2 t) (iblk m c 1 t) (iblk m c 5 t)

/-- The block of columns computed at point `t`, the kept rows those of the tile's first point. -/
def cols (c : Dev nD) (t : Fin cfg0.N) : Vec F S1024x512 .f32 :=
  k0_pay1 (rows m c (base t)) (iblk m c 4 t)

/-- The kept rows' buffer. -/
abbrev kept : Memref sig .tc .vmem S1024x2048 .bf16 := Memref.whole cc0_scratch0

/-- Before point `n`: the kept rows are those of the tile, if a point of the tile has run. -/
def Phi (c : Dev nD) (n : ℕ) : sProp 𝕄 :=
  iprop(∃ s, ⌜∀ t : Fin cfg0.N, t.val = n → n % 7 ≠ 0 → s = rows m c (base t)⌝ ∗ owns (c : Thread nD τ) kept fullShare s
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cols m c t
    | ⟨7, _⟩ => steps m c (base t)
  Φ t := Phi m c t.val
  q w := Pipeline.shareOf spec0 w
  owed _ := 0

theorem A_eq (c : Dev nD) (w) : (dats m 0 c).A w = V m c (Pipeline.arrRef spec0 w) := rfl
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = cols m c t := rfl
theorem after_7 (c : Dev nD) (t : Fin cfg0.N) : (dats m 0 c).after 7 t = steps m c (base t) := rfl

theorem before_0 (c : Dev nD) (t : Fin cfg0.N) (d) : (dats m 0 c).before 0 t d = iblk m c 0 t := before0_0_of m _ rfl (after_0 m c) t d
theorem before_1 (c : Dev nD) (t : Fin cfg0.N) (d) : (dats m 0 c).before 1 t d = iblk m c 1 t := before0_1_of m _ rfl (after_1 m c) t d
theorem before_2 (c : Dev nD) (t : Fin cfg0.N) (d) : (dats m 0 c).before 2 t d = iblk m c 2 t := before0_2_of m _ rfl (after_2 m c) t d
theorem before_3 (c : Dev nD) (t : Fin cfg0.N) (d) : (dats m 0 c).before 3 t d = iblk m c 3 t := before0_3_of m _ rfl (after_3 m c) t d
theorem before_4 (c : Dev nD) (t : Fin cfg0.N) (d) : (dats m 0 c).before 4 t d = iblk m c 4 t := before0_4_of m _ rfl (after_4 m c) t d
theorem before_5 (c : Dev nD) (t : Fin cfg0.N) (d) : (dats m 0 c).before 5 t d = iblk m c 5 t := before0_5_of m _ rfl (after_5 m c) t d

/-- The time-step columns carry through the points that leave them alone. -/
theorem carry_7 (c : Dev nD) : ∀ (t : Fin cfg0.N) (ht : t.val ≠ 0), cfg0.idle 7 (cfg0.grid.coords t) = true →
    cfg0.fresh 7 t.val = false → (dats m 0 c).after 7 t = (dats m 0 c).after 7 ⟨t.val - 1, by omega⟩ := by
  intro t ht hi hf
  rw [idle_at, decide_eq_true_eq] at hi
  rw [after_7, after_7, base_succ ⟨t.val - 1, by omega⟩ t hi (by show t.val = t.val - 1 + 1; omega)]

/-- Before a later point of a tile their buffer holds what the first point stored. -/
theorem before_7 (c : Dev nD) (t : Fin cfg0.N) (h : t.val % 7 ≠ 0) (d) : (dats m 0 c).before 7 t d = steps m c (base t) := by
  rw [(dats m 0 c).before_out_traj 7 rfl (fun _ _ => rfl) (carry_7 m c) t.val t rfl d, fresh_at]
  simp only [h, decide_false, Bool.false_eq_true, ↓reduceIte, after_7]
  rw [base_succ ⟨t.val - 1, by omega⟩ t h (by show t.val = t.val - 1 + 1; omega)]

/-! ## The body at every point -/

abbrev leaves7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem post_7_first (c : Dev nD) (t : Fin cfg0.N) (h : t.val % 7 = 0) :
    owns (c : Thread nD τ) (st0_7 t) fullShare (steps m c t) ⊢ leaves7 m c t := by
  unfold leaves7
  rw [show cfg0.idle 7 (cfg0.grid.coords t) = false by rw [idle_at]; simp [h]]
  dsimp only
  rw [after_7, base_first t h]

theorem post_7_next (c : Dev nD) (t : Fin cfg0.N) (h : t.val % 7 ≠ 0) (d) :
    owns (c : Thread nD τ) (st0_7 t) fullShare ((dats m 0 c).before 7 t d) ⊢ leaves7 m c t := by
  unfold leaves7
  rw [show cfg0.idle 7 (cfg0.grid.coords t) = true by rw [idle_at]; simp [h]]
  dsimp only
  rcases hf : (cfg0.win 7).flush t with _ | _
  · dsimp only
    iintro H; iexists d; iexact H
  · dsimp only
    rw [after_7, before_7 m c t h]

set_option maxHeartbeats 4000000 in
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)
            ∗ leaves7 m c t) := by
  simp only [before_0, before_1, before_2, before_3, before_4, before_5]
  rewrite [show (dats m 0 c).Φ t.succ = Phi m c (t.val + 1) from rfl, show (dats m 0 c).Φ t.castSucc = Phi m c t.val from rfl,
    show (dats m 0 c).owesAt () t.succ = (dats m 0 c).owesAt () t.castSucc from rfl,
    after_0, after_1, after_2, after_3, after_4, after_5, after_6]
  unfold Phi
  iintro ⟨⟨%s, %hs, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h : t.val % 7 = 0
  · iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) kept (Memref.isWhole_whole _)
      (iblk m c 0 t) (iblk m c 1 t) (iblk m c 2 t) (iblk m c 3 t) (iblk m c 4 t) (iblk m c 5 t) ((cond1_at t).2 h) ((dats m 0 c).before 6 t d6) ((dats m 0 c).before 7 t d7) s _)
    unfold held
    isplitl [H0 H1 H2 H3 H4 H5]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      iapply rep_of_owns; iexact H5
    isplitl [H6]; · iexact H6
    isplitl [H7]; · iexact H7
    isplitl [HS]; · iexact HS
    iintro ⟨⟨H0, H1, H2, H3, H4, H5⟩, H6, H7, HS⟩
    isplitl [HS HR]
    · iexists (rows m c t)
      isplitr
      · ipureintro
        intro t' e h'
        rw [base_succ t t' (by rw [e]; exact h') e, base_first t h]
      isplitl [HS]; · iexact HS
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]
    · rw [show cols m c t = k0_pay1 (rows m c t) (iblk m c 4 t) by unfold cols; rw [base_first t h]]
      iexact H6
    iapply (post_7_first m c t h)
    iexact H7
  · iapply (run_next c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) kept (Memref.isWhole_whole _)
      (iblk m c 0 t) (iblk m c 1 t) (iblk m c 2 t) (iblk m c 3 t) (iblk m c 4 t) (iblk m c 5 t) (fun k => h ((cond1_at t).1 k)) ((dats m 0 c).before 6 t d6) s _)
    unfold held
    isplitl [H0 H1 H2 H3 H4 H5]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      iapply rep_of_owns; iexact H5
    isplitl [H6]; · iexact H6
    isplitl [HS]; · iexact HS
    iintro ⟨⟨H0, H1, H2, H3, H4, H5⟩, H6, HS⟩
    have hs' := hs t rfl h
    isplitl [HS HR]
    · iexists s
      isplitr
      · ipureintro
        intro t' e h'
        rw [base_succ t t' (by rw [e]; exact h') e]; exact hs'
      isplitl [HS]; · iexact HS
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]
    · rw [show cols m c t = k0_pay1 s (iblk m c 4 t) by unfold cols; rw [hs']]
      iexact H6
    iapply (post_7_next m c t h d7)
    iexact H7

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The launch -/

theorem phi_intro (c : Dev nD) (n : ℕ) (h : n % 7 = 0) : (Pipeline.ΦA spec0 c : sProp 𝕄) ⊢ Phi m c n := by
  unfold Pipeline.ΦA Phi
  rw [scopedRest0_eq]
  iintro ⟨⟨%f, HS⟩, HR⟩
  iexists f
  isplitr
  · ipureintro
    intro t e h'; exact absurd h h'
  isplitl [HS]
  · iapply (Entails.of_eq (owns_whole (c : Thread nD τ) cc0_scratch0 fullShare f).symm)
    iexact HS
  iexact HR

theorem phi_exit (c : Dev nD) (n : ℕ) : Phi m c n ⊢ (Pipeline.ΦA spec0 c : sProp 𝕄) := by
  unfold Pipeline.ΦA Phi
  rw [scopedRest0_eq]
  iintro ⟨%s, -, HS, HR⟩
  isplitl [HS]
  · iexists s
    iapply (Entails.of_eq (owns_whole (c : Thread nD τ) cc0_scratch0 fullShare s))
    iexact HS
  iexact HR

set_option backward.isDefEq.respectTransparency.types false in
set_option maxHeartbeats 4000000 in
theorem run_quiet : θ_run (defs (F := F)) (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m)
    (hin := fun c => phi_intro m c 0 rfl) (hout := fun c => phi_exit m c _)

theorem run_main : θ_run (defs (F := F)) (onTc (τ := τ) (main (F := F))) (s₀ m ρ) (Pipeline.FramePost cfgs (dats m) 0 (V m)) :=
  (θ_run defs _ _).mono (fun _ h => h.1) (run_quiet m ρ)

theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run ends, the argument arrays and the counters as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_quiet m ρ))

/-- and both results at the computed contents. -/
theorem run_all : θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem ((c.tc : Thread nD τ).loc main_v0_0) = (dats m 0 c).arrAt 6 cfg0.N
        ∧ r.2.mem ((c.tc : Thread nD τ).loc main_v0_1) = (dats m 0 c).arrAt 7 cfg0.N) :=
  θ_run_and (frame m ρ) ((θ_run defs _ _).mono (fun _ h c => ⟨(h c).1 6, (h c).1 7⟩) (run_main m ρ))

end Cert.Kernel4Ideal.Inp

end
-- ==== Proof.InKernel.lean ====
/-
  The projection into the layer's streams: the two arrays it leaves, entry by entry.

  A row tile's 1024 rows lie in one of the five blocks of 4096 rows that share a modulation row, so every row of the
  tile is modulated by the row its block names.
-/
module

public import proofs.«01_k».proof.Proof.InMath
public import proofs.«01_k».proof.Proof.InFrame
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Inp
open Cert.Kernel4Ideal Cert.Kernel4Ideal.Gen

/-- The kept rows are the normalised and modulated ones. -/
theorem pay2_apply (x : Vec Ideal S1024x2048 .f32) (g : Vec Ideal S1x1x2048 .f32) (c s : Vec Ideal S1x1x1x2048 .f32)
    (r : Fin 1024) (d : Fin 2048) :
    (k0_pay2 (F := Ideal) x g c s : Vec Ideal S1024x2048 .bf16) (ix2 r d)
      = Cert.Inp.row (fun e : Fin 2048 => x (ix2 r e)) (fun e => g (ix3 (0 : Fin 1) (0 : Fin 1) e))
          (fun e => c (ix4 (0 : Fin 1) (0 : Fin 1) (0 : Fin 1) e)) (fun e => s (ix4 (0 : Fin 1) (0 : Fin 1) (0 : Fin 1) e)) d := by
  unfold Cert.Inp.row
  pointwise [k0_pay2]

theorem pay3_apply (x : Vec Ideal S1024x2048 .f32) (g : Vec Ideal S1x1x2048 .f32) (c s : Vec Ideal S1x1x1x2048 .f32)
    (j : S1024x2048.Idx) :
    (k0_pay3 (F := Ideal) x g c s : Vec Ideal S1024x2048 .bf16) j = k0_pay2 (F := Ideal) x g c s j := by
  pointwise [k0_pay3]

theorem pay1_apply (h : Vec Ideal S1024x2048 .bf16) (w : Vec Ideal S1x2048x512 .bf16) (r : Fin 1024) (l : Fin 512) :
    (k0_pay1 (F := Ideal) h w : Vec Ideal S1024x512 .f32) (ix2 r l)
      = (∑ d : Fin 2048, (h (ix2 r d) * w (ix3 (0 : Fin 1) d l) : EReal)) := by
  pointwise [k0_pay1]

theorem pay4_apply (x : Vec Ideal S1024x2048 .f32) (g : Vec Ideal S1x1x2048 .f32) (c s : Vec Ideal S1x1x1x2048 .f32)
    (w : Vec Ideal S1x2048x128 .bf16) (r : Fin 1024) (l : Fin 128) :
    (k0_pay4 (F := Ideal) x g c s w : Vec Ideal S1024x128 .f32) (ix2 r l)
      = (∑ d : Fin 2048, (k0_pay2 (F := Ideal) x g c s (ix2 r d) * w (ix3 (0 : Fin 1) d l) : EReal)) := by
  pointwise [k0_pay4]

/-- Which block of each array a grid point works on. -/
theorem idx : ∀ t : Fin cfg0.N, win0_0.index t = ![t.val / 7, 0] ∧ win0_1.index t = ![0, t.val / 28, 0, 0]
    ∧ win0_2.index t = ![0, t.val / 28, 0, 1] ∧ win0_3.index t = ![0, 0, 0] ∧ win0_4.index t = ![0, 0, t.val % 7]
    ∧ win0_5.index t = ![0, 0, 0] ∧ win0_6.index t = ![t.val / 7, t.val % 7] ∧ win0_7.index t = ![t.val / 7, 0] :=
  (by decide +kernel : ∀ t : Fin grid0.N, _)

variable (m : (ℓ : Loc nD τ sig) → Buf (Elt Ideal) ℓ)

/-- The blocks a point finds, read off the argument arrays. -/
theorem blk0 (c : Dev nD) (t : Fin cfg0.N) (r : Fin 1024) (d : Fin 2048) (r' : Fin 20480)
    (hr : r'.val = t.val / 7 * 1024 + r.val) :
    (iblk m c 0 t : Vec Ideal S1024x2048 .f32) (ix2 r d)
      = (m ((c.tc : Thread nD τ).loc main_arg0) : Vec Ideal S20480x2048 .f32) (ix2 r' d) := by
  blk_ext [iblk, V, idx t]

theorem blk1 (c : Dev nD) (t : Fin cfg0.N) (d : Fin 2048) (b : Fin 8) (k : Fin 12288)
    (hb : b.val = t.val / 28) (hk : k.val = d.val) :
    (iblk m c 1 t : Vec Ideal S1x1x1x2048 .f32) (ix4 (0 : Fin 1) (0 : Fin 1) (0 : Fin 1) d)
      = (m ((c.tc : Thread nD τ).loc main_arg1) : Vec Ideal S4x8x1x12288 .f32) (ix4 (0 : Fin 4) b (0 : Fin 1) k) := by
  blk_ext [iblk, V, idx t]

theorem blk2 (c : Dev nD) (t : Fin cfg0.N) (d : Fin 2048) (b : Fin 8) (k : Fin 12288)
    (hb : b.val = t.val / 28) (hk : k.val = 2048 + d.val) :
    (iblk m c 2 t : Vec Ideal S1x1x1x2048 .f32) (ix4 (0 : Fin 1) (0 : Fin 1) (0 : Fin 1) d)
      = (m ((c.tc : Thread nD τ).loc main_arg1) : Vec Ideal S4x8x1x12288 .f32) (ix4 (0 : Fin 4) b (0 : Fin 1) k) := by
  blk_ext [iblk, V, idx t]

theorem blk3 (c : Dev nD) (t : Fin cfg0.N) (d : Fin 2048) :
    (iblk m c 3 t : Vec Ideal S1x1x2048 .f32) (ix3 (0 : Fin 1) (0 : Fin 1) d)
      = (m ((c.tc : Thread nD τ).loc main_arg2) : Vec Ideal S4x1x2048 .f32) (ix3 (0 : Fin 4) (0 : Fin 1) d) := by
  blk_ext [iblk, V, idx t]

theorem blk4 (c : Dev nD) (t : Fin cfg0.N) (d : Fin 2048) (l : Fin 512) (l' : Fin 3584) (hl : l'.val = t.val % 7 * 512 + l.val) :
    (iblk m c 4 t : Vec Ideal S1x2048x512 .bf16) (ix3 (0 : Fin 1) d l)
      = (m ((c.tc : Thread nD τ).loc main_arg3) : Vec Ideal S4x2048x3584 .bf16) (ix3 (0 : Fin 4) d l') := by
  blk_ext [iblk, V, idx t]

theorem blk5 (c : Dev nD) (t : Fin cfg0.N) (d : Fin 2048) (l : Fin 128) :
    (iblk m c 5 t : Vec Ideal S1x2048x128 .bf16) (ix3 (0 : Fin 1) d l)
      = (m ((c.tc : Thread nD τ).loc main_arg4) : Vec Ideal S4x2048x128 .bf16) (ix3 (0 : Fin 4) d l) := by
  blk_ext [iblk, V, idx t]

/-- Row `r` of the input, normalised and modulated by the row of its block of 4096. -/
def hrow (X : Vec Ideal S20480x2048 .f32) (M : Vec Ideal S4x8x1x12288 .f32) (G : Vec Ideal S4x1x2048 .f32) (r : Fin 20480) :
    Fin 2048 → EReal :=
  Cert.Inp.row (fun e => X (ix2 r e)) (fun e => G (ix3 (0 : Fin 4) (0 : Fin 1) e))
    (fun e => M (ix4 (0 : Fin 4) (⟨r.val / 4096, by omega⟩ : Fin 8) (0 : Fin 1) (⟨2048 + e.val, by omega⟩ : Fin 12288)))
    (fun e => M (ix4 (0 : Fin 4) (⟨r.val / 4096, by omega⟩ : Fin 8) (0 : Fin 1) (⟨e.val, by omega⟩ : Fin 12288)))

/-- The two arrays the call leaves. -/
def main6 (X : Vec Ideal S20480x2048 .f32) (M : Vec Ideal S4x8x1x12288 .f32) (G : Vec Ideal S4x1x2048 .f32)
    (W : Vec Ideal S4x2048x3584 .bf16) : Vec Ideal S20480x3584 .f32 :=
  fun i => ∑ d : Fin 2048, (hrow X M G (i 0) d * W (ix3 (0 : Fin 4) d (i 1)) : EReal)

def main7 (X : Vec Ideal S20480x2048 .f32) (M : Vec Ideal S4x8x1x12288 .f32) (G : Vec Ideal S4x1x2048 .f32)
    (W : Vec Ideal S4x2048x128 .bf16) : Vec Ideal S20480x128 .f32 :=
  fun i => ∑ d : Fin 2048, (hrow X M G (i 0) d * W (ix3 (0 : Fin 4) d (i 1)) : EReal)

/-- A point's computed rows are the array's rows of its tile. -/
theorem row_eq (c : Dev nD) (t : Fin cfg0.N) (r : Fin 1024) (d : Fin 2048) (r' : Fin 20480)
    (hr : r'.val = t.val / 7 * 1024 + r.val) :
    k0_pay2 (F := Ideal) (iblk m c 0 t) (iblk m c 3 t) (iblk m c 2 t) (iblk m c 1 t) (ix2 r d)
      = hrow (m ((c.tc : Thread nD τ).loc main_arg0)) (m ((c.tc : Thread nD τ).loc main_arg1))
          (m ((c.tc : Thread nD τ).loc main_arg2)) r' d := by
  have ht : t.val < 140 := lt_of_lt_of_eq t.isLt N_0
  rw [pay2_apply]
  unfold hrow
  have hb : r'.val / 4096 = t.val / 28 := by omega
  congr 1
  · funext e; exact blk0 m c t r e r' hr
  · funext e; exact blk3 m c t e
  · funext e; exact blk2 m c t e _ _ hb rfl
  · funext e; exact blk1 m c t e _ _ hb rfl

theorem base_tile (t : Fin cfg0.N) : (base t).val / 7 = t.val / 7 := by show 7 * (t.val / 7) / 7 = _; omega

theorem tile6 (c : Dev nD) (t : Fin cfg0.N) (r : Fin 1024) (l : Fin 512) (r' : Fin 20480) (l' : Fin 3584)
    (hr : r'.val = t.val / 7 * 1024 + r.val) (hl : l'.val = t.val % 7 * 512 + l.val) :
    cols m c t (ix2 r l)
      = main6 (m ((c.tc : Thread nD τ).loc main_arg0)) (m ((c.tc : Thread nD τ).loc main_arg1))
          (m ((c.tc : Thread nD τ).loc main_arg2)) (m ((c.tc : Thread nD τ).loc main_arg3)) (ix2 r' l') := by
  unfold cols rows
  rw [pay1_apply]
  refine Finset.sum_congr rfl fun d _ => ?_
  rw [pay3_apply, row_eq m c (base t) r d r' (by rw [base_tile]; exact hr), blk4 m c t d l l' hl]
  rfl

theorem tile7 (c : Dev nD) (t : Fin cfg0.N) (r : Fin 1024) (l : Fin 128) (r' : Fin 20480)
    (hr : r'.val = t.val / 7 * 1024 + r.val) :
    steps m c (base t) (ix2 r l)
      = main7 (m ((c.tc : Thread nD τ).loc main_arg0)) (m ((c.tc : Thread nD τ).loc main_arg1))
          (m ((c.tc : Thread nD τ).loc main_arg2)) (m ((c.tc : Thread nD τ).loc main_arg4)) (ix2 r' l) := by
  unfold steps
  rw [pay4_apply]
  refine Finset.sum_congr rfl fun d _ => ?_
  rw [row_eq m c (base t) r d r' (by rw [base_tile]; exact hr), blk5 m c (base t) d l]
  rfl

/-- The output arrays after the run. -/
theorem arr6 (c : Dev nD) :
    (dats m 0 c).arrAt 6 cfg0.N
      = main6 (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 6 _ (by decide +kernel) fun t hf y => ?_
  blk_simp
  rw [after_6]
  revert y
  intro (y : S1024x512.Idx)
  idx_vars y
  have h : t.val < 140 := lt_of_lt_of_eq t.isLt N_0
  have h0 : t.val / 7 * 1024 + y0.val < 20480 := by have := y0.isLt; omega
  have h1 : t.val % 7 * 512 + y1.val < 3584 := by have := y1.isLt; omega
  refine (tile6 m c t y0 y1 ⟨_, h0⟩ ⟨_, h1⟩ rfl rfl).trans ?_
  congr 1
  blk_ext [idx t]

theorem arr7 (c : Dev nD) :
    (dats m 0 c).arrAt 7 cfg0.N
      = main7 (m ((c.tc : Thread nD τ).loc main_arg0)) (m ((c.tc : Thread nD τ).loc main_arg1))
          (m ((c.tc : Thread nD τ).loc main_arg2)) (m ((c.tc : Thread nD τ).loc main_arg4)) := by
  refine (dats m 0 c).arrAt_eq_of_covers 7 _ (by decide +kernel) fun t hf y => ?_
  blk_simp
  rw [after_7]
  revert y
  intro (y : S1024x128.Idx)
  idx_vars y
  have h : t.val < 140 := lt_of_lt_of_eq t.isLt N_0
  have h0 : t.val / 7 * 1024 + y0.val < 20480 := by have := y0.isLt; omega
  refine (tile7 m c t y0 y1 ⟨_, h0⟩ rfl).trans ?_
  congr 1
  blk_ext [idx t]

end Cert.Kernel4Ideal.Inp

end
-- ==== Proof.InBits.lean ====
/-
  The projection into the layer's streams as written, at the machine's own numbers: it is the same program as the one
  read over the extended reals, so it runs, ends and leaves its arguments alone likewise.
-/
module

public import proofs.«01_k».proof.Defs
public import proofs.«01_k».proof.Proof.InFrame
public import proofs.«01_k».proof.Proof.Gen.Kernel4

@[expose] public section

set_option maxRecDepth 16384

noncomputable section

open Idealize.ShloMosaic Idealize.ShloMosaic.TcCoe Idealize.SL.Sem

namespace Cert.Kernel4.Inp

variable {F : FTy → Type} [FloatOps F]

/-- The two programs' body tables are equal. -/
theorem defs₀_eq : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel4.defs (F := F) = Cert.Kernel4Ideal.defs (F := F) := by
  unfold Cert.Kernel4.defs
  rw [defs₀_eq]
  rfl

theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.Kernel4Ideal.Inp.frame m ρ

end Cert.Kernel4.Inp

end
-- ==== Proof.InClaim.lean ====
/-
  The projection into the layer's streams and its reference leave the same two arrays.
-/
module

public import proofs.«01_k».proof.Defs
public import proofs.«01_k».proof.Proof.InRef
public import proofs.«01_k».proof.Proof.InKernel
public import proofs.«01_k».proof.Proof.InBits
public import Idealize.ShloMosaic.Lib.Quiescent

@[expose] public section

noncomputable section

open Idealize.ShloMosaic Idealize.ShloMosaic.TcCoe Idealize.SL.Sem

namespace Cert.Proof.Inp

/-- The reference's frame, from its run. -/
theorem frame_ref : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- From memories with the same arguments, the call and the reference both end at the projections of the arguments. -/
theorem algebraic : Cert.algebraic_Kernel4Ideal_Reference4Ideal := by
  intro m ρ m' ρ' _ hagree
  refine ⟨fun c => Cert.Kernel4Ideal.Inp.main6 (m ((c.tc : Thread _ _).loc Cert.Kernel4Ideal.main_arg0))
      (m ((c.tc : Thread _ _).loc Cert.Kernel4Ideal.main_arg1)) (m ((c.tc : Thread _ _).loc Cert.Kernel4Ideal.main_arg2))
      (m ((c.tc : Thread _ _).loc Cert.Kernel4Ideal.main_arg3)),
    fun c => Cert.Kernel4Ideal.Inp.main7 (m ((c.tc : Thread _ _).loc Cert.Kernel4Ideal.main_arg0))
      (m ((c.tc : Thread _ _).loc Cert.Kernel4Ideal.main_arg1)) (m ((c.tc : Thread _ _).loc Cert.Kernel4Ideal.main_arg2))
      (m ((c.tc : Thread _ _).loc Cert.Kernel4Ideal.main_arg4)), ?_, ?_⟩
  · exact (θ_run Cert.Kernel4Ideal.defs _ _).mono
      (fun _ h c => ⟨(h.2 c).1.trans (Cert.Kernel4Ideal.Inp.arr6 m c), (h.2 c).2.trans (Cert.Kernel4Ideal.Inp.arr7 m c), h.1.1 c⟩)
      (Cert.Kernel4Ideal.Inp.run_all (F := Ideal) m ρ)
  · refine (θ_run Cert.Reference4Ideal.defs _ _).mono
      (fun _ h c => ⟨(h c).1.trans ?_, (h c).2.1.trans ?_, (h c).2.2⟩)
      (Cert.Reference4Ideal.Value.run (F := Ideal) m' ρ')
    · obtain ⟨e0, e1, e2, e3, e4⟩ := hagree c
      rw [e0, e1, e2, e3]
      exact Cert.Reference4Ideal.Inp.ref6 _ _ _ _
    · obtain ⟨e0, e1, e2, e3, e4⟩ := hagree c
      rw [e0, e1, e2, e4]
      exact Cert.Reference4Ideal.Inp.ref7 _ _ _ _

end Cert.Proof.Inp

end
-- ==== Proof.ResidMath.lean ====
/-
  The residual after the feed-forward part, on plain families of extended reals: an entry, plus a gate times the entry of
  a row normalised to unit mean square and scaled by a weight vector.
-/
module

public import Idealize.ShloMosaic.PureOps.Ideal
public import Idealize.ShloMosaic.Lib.Pipeline.ValueKit

@[expose] public section

noncomputable section

namespace Cert.Resid

open Idealize.ShloMosaic

/-- The entry `x` plus the gate `c` times entry `d` of the row `f`, normalised, under the weights `g`. -/
def entry (x c : EReal) (f g : Fin 2048 → EReal) (d : Fin 2048) : EReal :=
  x + c * (f d * Ideal.rsqrt (Ideal.div (∑ e, f e * f e) (Ideal.ofBits .f32 0x45000000#32)
    + Ideal.ofBits .f32 0x358637BD#32) * g d)

end Cert.Resid

end
-- ==== Proof.ResidRef.lean ====
/-
  The reference of the residual after the feed-forward part, entry by entry. It works on the rows by blocks of 4096 that
  share a modulation row.
-/
module

public import proofs.«01_k».proof.Proof.ResidMath
public import proofs.«01_k».proof.Proof.Gen.Reference5Ideal.Run
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Reference5Ideal.Resid
open Cert.Reference5Ideal Cert.Reference5Ideal.Gen

/-- The rows by block. -/
def byBlock (X : Vec Ideal S20480x2048 .f32) : FVec Ideal S5x4096x2048 .f32 := shapeCast _ X shapeCasts_S20480x2048_S5x4096x2048

/-- Each row's factor: one over the root of its mean square. -/
def factor (x : FVec Ideal S5x4096x2048 .f32) : FVec Ideal S5x4096x1 .f32 :=
  Host.rsqrt (addf (Host.divf (broadcastInDim S5x4096x1 ![0, 1] bcast_S5x4096_S5x4096x1_0_1 (Host.reduceAdd (mulf x x) (constant S_ .f32 0x00000000#32) reducesTo_S5x4096x2048_S5x4096_d2 h_S_)) (broadcastInDim S5x4096x1 ![] bcast_S_S5x4096x1 (constant S_ .f32 0x45000000#32))) (broadcastInDim S5x4096x1 ![] bcast_S_S5x4096x1 (constant S_ .f32 0x358637BD#32)))

/-- The weight vector. -/
def gain (G : Vec Ideal S4x1x2048 .f32) : FVec Ideal S2048 .f32 :=
  shapeCast _ (extractStridedSlice S1x1x2048 ![0, 0, 0] G slices_S4x1x2048_S1x1x2048_0_0_0) shapeCasts_S1x1x2048_S2048

/-- The blocks' gate rows. -/
def gate (M : Vec Ideal S4x8x1x12288 .f32) : FVec Ideal S5x1x2048 .f32 :=
  shapeCast _ (extractStridedSlice S1x5x1x2048 ![0, 0, 0, 10240] M slices_S4x8x1x12288_S1x5x1x2048_0_0_0_10240) shapeCasts_S1x5x1x2048_S5x1x2048

/-- The sum, in one array again. -/
def summed (x f : FVec Ideal S5x4096x2048 .f32) (c : FVec Ideal S5x1x2048 .f32) (g : FVec Ideal S2048 .f32) :
    FVec Ideal S20480x2048 .f32 :=
  shapeCast _ (addf x (mulf (broadcastInDim S5x4096x2048 ![0, 1, 2] bcast_S5x1x2048_S5x4096x2048_0_1_2 c) (mulf (mulf f (broadcastInDim S5x4096x2048 ![0, 1, 2] bcast_S5x4096x1_S5x4096x2048_0_1_2 (factor f))) (broadcastInDim S5x4096x2048 ![0, 1, 2] bcast_S1x1x2048_S5x4096x2048_0_1_2 (broadcastInDim S1x1x2048 ![2] bcast_S2048_S1x1x2048_2 g))))) shapeCasts_S5x4096x2048_S20480x2048

theorem byBlock_apply (X : Vec Ideal S20480x2048 .f32) (b : Fin 5) (p : Fin 4096) (d : Fin 2048) :
    byBlock X (ix3 b p d) = X (ix2 ⟨b.val * 4096 + p.val, by omega⟩ d) := by
  pointwise [byBlock]

theorem factor_apply (x : FVec Ideal S5x4096x2048 .f32) (b : Fin 5) (p : Fin 4096) (z : Fin 1) :
    factor x (ix3 b p z)
      = Ideal.rsqrt (Ideal.div (∑ e : Fin 2048, (x (ix3 b p e) * x (ix3 b p e) : EReal)) (Ideal.ofBits .f32 0x45000000#32)
          + Ideal.ofBits .f32 0x358637BD#32) := by
  pointwise [factor]

theorem gain_apply (G : Vec Ideal S4x1x2048 .f32) (d : Fin 2048) : gain G (ix1 d) = G (ix3 (0 : Fin 4) (0 : Fin 1) d) := by
  pointwise [gain]

theorem gate_apply (M : Vec Ideal S4x8x1x12288 .f32) (b : Fin 5) (z : Fin 1) (d : Fin 2048) :
    gate M (ix3 b z d) = M (ix4 (0 : Fin 4) (⟨b.val, by omega⟩ : Fin 8) (0 : Fin 1) (⟨10240 + d.val, by omega⟩ : Fin 12288)) := by
  pointwise [gate]

theorem summed_apply (x f : FVec Ideal S5x4096x2048 .f32) (c : FVec Ideal S5x1x2048 .f32) (g : FVec Ideal S2048 .f32)
    (r : Fin 20480) (d : Fin 2048) :
    summed x f c g (ix2 r d)
      = Cert.Resid.entry (x (ix3 (⟨r.val / 4096, by omega⟩ : Fin 5) (⟨r.val % 4096, by omega⟩ : Fin 4096) d))
          (c (ix3 (⟨r.val / 4096, by omega⟩ : Fin 5) (0 : Fin 1) d))
          (fun e : Fin 2048 => f (ix3 (⟨r.val / 4096, by omega⟩ : Fin 5) (⟨r.val % 4096, by omega⟩ : Fin 4096) e))
          (fun e => g (ix1 e)) d := by
  unfold Cert.Resid.entry
  rw [← factor_apply f _ _ (0 : Fin 1)]
  pointwise [summed]

/-- The array the reference leaves: row `r` of the first input plus the gated, normalised row `r` of the second. -/
def resid (X Y : Vec Ideal S20480x2048 .f32) (M : Vec Ideal S4x8x1x12288 .f32) (G : Vec Ideal S4x1x2048 .f32) :
    Vec Ideal S20480x2048 .f32 := fun i =>
  let r : Fin 20480 := i 0
  let d : Fin 2048 := i 1
  Cert.Resid.entry (X (ix2 r d))
    (M (ix4 (0 : Fin 4) (⟨r.val / 4096, by omega⟩ : Fin 8) (0 : Fin 1) (⟨10240 + d.val, by omega⟩ : Fin 12288)))
    (fun e => Y (ix2 r e)) (fun e => G (ix3 (0 : Fin 4) (0 : Fin 1) e)) d

theorem ref_eq (X Y : Vec Ideal S20480x2048 .f32) (M : Vec Ideal S4x8x1x12288 .f32) (G : Vec Ideal S4x1x2048 .f32) :
    summed (byBlock X) (byBlock Y) (gate M) (gain G) = resid X Y M G := by
  funext j
  idx_vars j
  have hr : j0.val / 4096 * 4096 + j0.val % 4096 = j0.val := by omega
  rw [summed_apply]
  simp only [byBlock_apply, gain_apply, gate_apply, hr]
  rfl

end Cert.Reference5Ideal.Resid

end
-- ==== Proof.ResidKernel.lean ====
/-
  The residual after the feed-forward part: the array the call leaves, entry by entry.
-/
module

public import proofs.«01_k».proof.Proof.ResidMath
public import proofs.«01_k».proof.Proof.Gen.Kernel5Ideal.Value
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Resid
open Cert.Kernel5Ideal Cert.Kernel5Ideal.Gen

/-- A point's stored tile. -/
theorem pay1_apply (x : Vec Ideal S512x2048 .f32) (c : Vec Ideal S1x1x1x2048 .f32) (f : Vec Ideal S512x2048 .f32)
    (g : Vec Ideal S1x1x2048 .f32) (r : Fin 512) (d : Fin 2048) :
    (k0_pay1 (F := Ideal) x c f g : Vec Ideal S512x2048 .f32) (ix2 r d)
      = Cert.Resid.entry (x (ix2 r d)) (c (ix4 (0 : Fin 1) (0 : Fin 1) (0 : Fin 1) d)) (fun e : Fin 2048 => f (ix2 r e))
          (fun e => g (ix3 (0 : Fin 1) (0 : Fin 1) e)) d := by
  unfold Cert.Resid.entry
  pointwise [k0_pay1]

theorem out_apply (x f : Vec Ideal S512x2048 .f32) (c : Vec Ideal S1x1x1x2048 .f32)
    (g : Vec Ideal S1x1x2048 .f32) (r : Fin 512) (d : Fin 2048) :
    out0_4 (F := Ideal) x f c g (ix2 r d)
      = Cert.Resid.entry (x (ix2 r d)) (c (ix4 (0 : Fin 1) (0 : Fin 1) (0 : Fin 1) d)) (fun e : Fin 2048 => f (ix2 r e))
          (fun e => g (ix3 (0 : Fin 1) (0 : Fin 1) e)) d := by
  frame_out
  exact pay1_apply x c f g r d

/-- Which block of each array a grid point works on. -/
theorem idx : ∀ t : Fin cfg0.N, win0_0.index t = ![t.val, 0] ∧ win0_1.index t = ![t.val, 0]
    ∧ win0_2.index t = ![0, t.val / 8, 0, 5] ∧ win0_3.index t = ![0, 0, 0] ∧ win0_4.index t = ![t.val, 0] :=
  (by decide +kernel : ∀ t : Fin grid0.N, _)

variable (m : (ℓ : Loc nD τ sig) → Buf (Elt Ideal) ℓ)

/-- The blocks a point finds, read off the argument arrays. -/
theorem blk0 (c : Dev nD) (t : Fin cfg0.N) (r : Fin 512) (d : Fin 2048) (r' : Fin 20480)
    (hr : r'.val = t.val * 512 + r.val) :
    (iblk m c 0 t : Vec Ideal S512x2048 .f32) (ix2 r d)
      = (m ((c.tc : Thread nD τ).loc main_arg0) : Vec Ideal S20480x2048 .f32) (ix2 r' d) := by
  blk_ext [iblk, V, idx t]

theorem blk1 (c : Dev nD) (t : Fin cfg0.N) (r : Fin 512) (d : Fin 2048) (r' : Fin 20480)
    (hr : r'.val = t.val * 512 + r.val) :
    (iblk m c 1 t : Vec Ideal S512x2048 .f32) (ix2 r d)
      = (m ((c.tc : Thread nD τ).loc main_arg1) : Vec Ideal S20480x2048 .f32) (ix2 r' d) := by
  blk_ext [iblk, V, idx t]

theorem blk2 (c : Dev nD) (t : Fin cfg0.N) (d : Fin 2048) (b : Fin 8) (k : Fin 12288)
    (hb : b.val = t.val / 8) (hk : k.val = 10240 + d.val) :
    (iblk m c 2 t : Vec Ideal S1x1x1x2048 .f32) (ix4 (0 : Fin 1) (0 : Fin 1) (0 : Fin 1) d)
      = (m ((c.tc : Thread nD τ).loc main_arg2) : Vec Ideal S4x8x1x12288 .f32) (ix4 (0 : Fin 4) b (0 : Fin 1) k) := by
  blk_ext [iblk, V, idx t]

theorem blk3 (c : Dev nD) (t : Fin cfg0.N) (d : Fin 2048) :
    (iblk m c 3 t : Vec Ideal S1x1x2048 .f32) (ix3 (0 : Fin 1) (0 : Fin 1) d)
      = (m ((c.tc : Thread nD τ).loc main_arg3) : Vec Ideal S4x1x2048 .f32) (ix3 (0 : Fin 4) (0 : Fin 1) d) := by
  blk_ext [iblk, V, idx t]

/-- The array the call leaves: row `r` of the first input plus the gated, normalised row `r` of the second. -/
def resid (X Y : Vec Ideal S20480x2048 .f32) (M : Vec Ideal S4x8x1x12288 .f32) (G : Vec Ideal S4x1x2048 .f32) :
    Vec Ideal S20480x2048 .f32 := fun i =>
  let r : Fin 20480 := i 0
  let d : Fin 2048 := i 1
  Cert.Resid.entry (X (ix2 r d))
    (M (ix4 (0 : Fin 4) (⟨r.val / 4096, by omega⟩ : Fin 8) (0 : Fin 1) (⟨10240 + d.val, by omega⟩ : Fin 12288)))
    (fun e => Y (ix2 r e)) (fun e => G (ix3 (0 : Fin 4) (0 : Fin 1) e)) d

/-- The tile a point leaves, at an index, is the array's entry there. -/
theorem tile_eq (c : Dev nD) (t : Fin cfg0.N) (r : Fin 512) (d : Fin 2048) (r' : Fin 20480)
    (hr : r'.val = t.val * 512 + r.val) :
    out0_4 (F := Ideal) (iblk m c 0 t) (iblk m c 1 t) (iblk m c 2 t) (iblk m c 3 t) (ix2 r d)
      = resid (m ((c.tc : Thread nD τ).loc main_arg0)) (m ((c.tc : Thread nD τ).loc main_arg1))
          (m ((c.tc : Thread nD τ).loc main_arg2)) (m ((c.tc : Thread nD τ).loc main_arg3)) (ix2 r' d) := by
  have ht : t.val < 40 := lt_of_lt_of_eq t.isLt N_0
  have hb : r'.val / 4096 = t.val / 8 := by omega
  rw [out_apply]
  unfold resid
  congr 1
  · exact blk0 m c t r d r' hr
  · exact blk2 m c t d _ _ hb rfl
  · funext e; exact blk1 m c t r e r' hr
  · funext e; exact blk3 m c t e

/-- The output array after the run. -/
theorem arr_eq (c : Dev nD) :
    (dats m 0 c).arrAt 4 cfg0.N
      = resid (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 4 _ (by decide +kernel) fun t hf y => ?_
  blk_simp
  rw [after0_4]
  revert y
  intro (y : S512x2048.Idx)
  idx_vars y
  have h : t.val < 40 := lt_of_lt_of_eq t.isLt N_0
  have h0 : t.val * 512 + y0.val < 20480 := by have := y0.isLt; omega
  refine (tile_eq m c t y0 y1 ⟨_, h0⟩ rfl).trans ?_
  congr 1
  blk_ext [idx t]

end Cert.Kernel5Ideal.Resid

end
-- ==== Proof.ResidClaim.lean ====
/-
  The residual after the feed-forward part and its reference leave the same array.
-/
module

public import proofs.«01_k».proof.Defs
public import proofs.«01_k».proof.Proof.ResidRef
public import proofs.«01_k».proof.Proof.ResidKernel
public import Idealize.ShloMosaic.Lib.Quiescent

@[expose] public section

noncomputable section

open Idealize.ShloMosaic Idealize.ShloMosaic.TcCoe Idealize.SL.Sem

namespace Cert.Proof.Resid

/-- The reference's frame, from its run. -/
theorem frame_ref : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- From memories with the same arguments, the call and the reference both end at the residual of the arguments. -/
theorem algebraic : Cert.algebraic_Kernel5Ideal_Reference5Ideal := by
  intro m ρ m' ρ' _ hagree
  refine ⟨fun c => Cert.Kernel5Ideal.Resid.resid (m ((c.tc : Thread _ _).loc Cert.Kernel5Ideal.main_arg0))
      (m ((c.tc : Thread _ _).loc Cert.Kernel5Ideal.main_arg1)) (m ((c.tc : Thread _ _).loc Cert.Kernel5Ideal.main_arg2))
      (m ((c.tc : Thread _ _).loc Cert.Kernel5Ideal.main_arg3)), ?_, ?_⟩
  · exact (θ_run Cert.Kernel5Ideal.defs _ _).mono
      (fun _ h c => ⟨(h c).1.trans (Cert.Kernel5Ideal.Resid.arr_eq m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨e0, e1, e2, e3⟩ := hagree c
    rw [e0, e1, e2, e3]
    exact Cert.Reference5Ideal.Resid.ref_eq _ _ _ _

end Cert.Proof.Resid

end
-- ==== Proof.AdaRef.lean ====
/-
  The reference of the modulation rows, entry by entry.
-/
module

public import proofs.«01_k».proof.Proof.Gen.Reference6Ideal.Run
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Reference6Ideal.Ada
open Cert.Reference6Ideal Cert.Reference6Ideal.Gen

/-- The array the reference leaves: each layer's modulation rows, one per conditioning row. -/
def ada (X : Vec Ideal S8x2048 .f32) (W : Vec Ideal S4x2048x12288 .f32) (B : Vec Ideal S4x1x12288 .f32) :
    Vec Ideal S4x8x12288 .f32 := fun i =>
  (∑ d : Fin 2048, (X (ix2 (i 1) d) * Ideal.logistic (X (ix2 (i 1) d)) * W (ix3 (i 0) d (i 2)) : EReal))
    + B (ix3 (i 0) (0 : Fin 1) (i 2))

/-- The conditioning rows through the gate. -/
def gated (X : Vec Ideal S8x2048 .f32) : FVec Ideal S8x2048 .f32 :=
  mulf X (Host.divf (broadcastInDim S8x2048 ![] bcast_S_S8x2048 (constant S_ .f32 0x3F800000#32)) (addf (broadcastInDim S8x2048 ![] bcast_S_S8x2048 (constant S_ .f32 0x3F800000#32)) (Host.exp (Host.negf X))))

theorem gated_apply (X : Vec Ideal S8x2048 .f32) (r : Fin 8) (d : Fin 2048) :
    gated X (ix2 r d) = X (ix2 r d) * Ideal.logistic (X (ix2 r d)) := by
  pointwise [gated]
  simp only [Ideal.logistic, Ideal.ofBits_one_f32]

/-- The reference's composed operations, from the gated rows. -/
def rows (g : FVec Ideal S8x2048 .f32) (W : Vec Ideal S4x2048x12288 .f32) (B : Vec Ideal S4x1x12288 .f32) :
    FVec Ideal S4x8x12288 .f32 :=
  addf (transpose S4x8x12288 [0, 2, 1] (Host.dotGeneral (φ₁ := .f32) (φ₂ := .f32) dot_S4x2048x12288_S8x2048_S4x12288x8_1_1_02_0_n_n none W g) transposes_S4x12288x8_S4x8x12288_0_2_1) (broadcastInDim S4x8x12288 ![0, 1, 2] bcast_S4x1x12288_S4x8x12288_0_1_2 B)

theorem rows_apply (g : FVec Ideal S8x2048 .f32) (W : Vec Ideal S4x2048x12288 .f32) (B : Vec Ideal S4x1x12288 .f32)
    (a : Fin 4) (r : Fin 8) (l : Fin 12288) :
    rows g W B (ix3 a r l)
      = (∑ d : Fin 2048, (W (ix3 a d l) * g (ix2 r d) : EReal)) + B (ix3 a (0 : Fin 1) l) := by
  pointwise [rows]

theorem ref_eq (X : Vec Ideal S8x2048 .f32) (W : Vec Ideal S4x2048x12288 .f32) (B : Vec Ideal S4x1x12288 .f32) :
    rows (gated X) W B = ada X W B := by
  funext j
  idx_vars j
  rw [rows_apply]
  show _ = (∑ d : Fin 2048, (X (ix2 j1 d) * Ideal.logistic (X (ix2 j1 d)) * W (ix3 j0 d j2) : EReal)) + B (ix3 j0 (0 : Fin 1) j2)
  refine congrArg (· + B (ix3 j0 (0 : Fin 1) j2)) (Finset.sum_congr rfl fun d _ => ?_)
  rw [gated_apply]
  exact mul_comm _ _

end Cert.Reference6Ideal.Ada

end
-- ==== Proof.AdaKernel.lean ====
/-
  The modulation rows: the array the call leaves, entry by entry.
-/
module

public import proofs.«01_k».proof.Proof.Gen.Kernel6Ideal.Value
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Ada
open Cert.Kernel6Ideal Cert.Kernel6Ideal.Gen

/-- A point's stored tile. -/
theorem pay1_apply (x : Vec Ideal S8x2048 .f32) (w : Vec Ideal S1x2048x1024 .f32) (b : Vec Ideal S1x1x1024 .f32)
    (z : Fin 1) (r : Fin 8) (l : Fin 1024) :
    (k0_pay1 (F := Ideal) x w b : Vec Ideal S1x8x1024 .f32) (ix3 z r l)
      = (∑ d : Fin 2048, (x (ix2 r d) * Ideal.logistic (x (ix2 r d)) * w (ix3 (0 : Fin 1) d l) : EReal))
          + b (ix3 (0 : Fin 1) (0 : Fin 1) l) := by
  pointwise [k0_pay1]

theorem out_apply (x : Vec Ideal S8x2048 .f32) (w : Vec Ideal S1x2048x1024 .f32) (b : Vec Ideal S1x1x1024 .f32)
    (z : Fin 1) (r : Fin 8) (l : Fin 1024) :
    out0_3 (F := Ideal) x w b (ix3 z r l)
      = (∑ d : Fin 2048, (x (ix2 r d) * Ideal.logistic (x (ix2 r d)) * w (ix3 (0 : Fin 1) d l) : EReal))
          + b (ix3 (0 : Fin 1) (0 : Fin 1) l) := by
  frame_out
  exact pay1_apply x w b z r l

/-- Which block of each array a grid point works on. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

variable (m : (ℓ : Loc nD τ sig) → Buf (Elt Ideal) ℓ)

/-- The blocks a point finds, read off the argument arrays. -/
theorem blk0 (c : Dev nD) (t : Fin cfg0.N) (r : Fin 8) (d : Fin 2048) :
    (iblk m c 0 t : Vec Ideal S8x2048 .f32) (ix2 r d)
      = (m ((c.tc : Thread nD τ).loc main_arg0) : Vec Ideal S8x2048 .f32) (ix2 r d) := by
  blk_ext [iblk, V, idx t]

theorem blk1 (c : Dev nD) (t : Fin cfg0.N) (d : Fin 2048) (l : Fin 1024) (a : Fin 4) (l' : Fin 12288)
    (ha : a.val = t.val / 12) (hl : l'.val = t.val % 12 * 1024 + l.val) :
    (iblk m c 1 t : Vec Ideal S1x2048x1024 .f32) (ix3 (0 : Fin 1) d l)
      = (m ((c.tc : Thread nD τ).loc main_arg1) : Vec Ideal S4x2048x12288 .f32) (ix3 a d l') := by
  blk_ext [iblk, V, idx t]

theorem blk2 (c : Dev nD) (t : Fin cfg0.N) (l : Fin 1024) (a : Fin 4) (l' : Fin 12288)
    (ha : a.val = t.val / 12) (hl : l'.val = t.val % 12 * 1024 + l.val) :
    (iblk m c 2 t : Vec Ideal S1x1x1024 .f32) (ix3 (0 : Fin 1) (0 : Fin 1) l)
      = (m ((c.tc : Thread nD τ).loc main_arg2) : Vec Ideal S4x1x12288 .f32) (ix3 a (0 : Fin 1) l') := by
  blk_ext [iblk, V, idx t]

/-- The array the call leaves: each layer's modulation rows, one per conditioning row. -/
def ada (X : Vec Ideal S8x2048 .f32) (W : Vec Ideal S4x2048x12288 .f32) (B : Vec Ideal S4x1x12288 .f32) :
    Vec Ideal S4x8x12288 .f32 := fun i =>
  (∑ d : Fin 2048, (X (ix2 (i 1) d) * Ideal.logistic (X (ix2 (i 1) d)) * W (ix3 (i 0) d (i 2)) : EReal))
    + B (ix3 (i 0) (0 : Fin 1) (i 2))

/-- The tile a point leaves, at an index, is the array's entry there. -/
theorem tile_eq (c : Dev nD) (t : Fin cfg0.N) (z : Fin 1) (r : Fin 8) (l : Fin 1024) (a : Fin 4) (l' : Fin 12288)
    (ha : a.val = t.val / 12) (hl : l'.val = t.val % 12 * 1024 + l.val) :
    out0_3 (F := Ideal) (iblk m c 0 t) (iblk m c 1 t) (iblk m c 2 t) (ix3 z r l)
      = ada (m ((c.tc : Thread nD τ).loc main_arg0)) (m ((c.tc : Thread nD τ).loc main_arg1))
          (m ((c.tc : Thread nD τ).loc main_arg2)) (ix3 a r l') := by
  rw [out_apply]
  simp only [blk0, blk1 m c t _ l a l' ha hl, blk2 m c t l a l' ha hl]
  rfl

/-- The output array after the run. -/
theorem arr_eq (c : Dev nD) :
    (dats m 0 c).arrAt 3 cfg0.N
      = ada (m ((c.tc : Thread nD τ).loc main_arg0)) (m ((c.tc : Thread nD τ).loc main_arg1))
          (m ((c.tc : Thread nD τ).loc main_arg2)) := by
  refine (dats m 0 c).arrAt_eq_of_covers 3 _ (by decide +kernel) fun t hf y => ?_
  blk_simp
  rw [after0_3]
  revert y
  intro (y : S1x8x1024.Idx)
  idx_vars y
  have h : t.val < 48 := lt_of_lt_of_eq t.isLt N_0
  have h2 : t.val % 12 * 1024 + y2.val < 12288 := by have := y2.isLt; omega
  refine (tile_eq m c t y0 y1 y2 ⟨t.val / 12, by omega⟩ ⟨_, h2⟩ rfl rfl).trans ?_
  congr 1
  blk_ext [idx t]

end Cert.Kernel6Ideal.Ada

end
-- ==== Proof.AdaClaim.lean ====
/-
  The modulation rows and their reference leave the same array.
-/
module

public import proofs.«01_k».proof.Defs
public import proofs.«01_k».proof.Proof.AdaRef
public import proofs.«01_k».proof.Proof.AdaKernel
public import Idealize.ShloMosaic.Lib.Quiescent

@[expose] public section

noncomputable section

open Idealize.ShloMosaic Idealize.ShloMosaic.TcCoe Idealize.SL.Sem

namespace Cert.Proof.Ada

/-- The reference's frame, from its run. -/
theorem frame_ref : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- From memories with the same arguments, the call and the reference both end at the arguments' modulation rows. -/
theorem algebraic : Cert.algebraic_Kernel6Ideal_Reference6Ideal := by
  intro m ρ m' ρ' _ hagree
  refine ⟨fun c => Cert.Kernel6Ideal.Ada.ada (m ((c.tc : Thread _ _).loc Cert.Kernel6Ideal.main_arg0))
      (m ((c.tc : Thread _ _).loc Cert.Kernel6Ideal.main_arg1)) (m ((c.tc : Thread _ _).loc Cert.Kernel6Ideal.main_arg2)), ?_, ?_⟩
  · exact (θ_run Cert.Kernel6Ideal.defs _ _).mono
      (fun _ h c => ⟨(h c).1.trans (Cert.Kernel6Ideal.Ada.arr_eq m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨e0, e1, e2⟩ := hagree c
    rw [e0, e1, e2]
    exact Cert.Reference6Ideal.Ada.ref_eq _ _ _

end Cert.Proof.Ada

end
-- ==== Proof.OutMath.lean ====
/-
  The projection out of the layer's streams, on plain families of extended reals: the third stream is gated and
  normalised, the three streams stand side by side, and the row they make is multiplied with a matrix.
-/
module

public import Idealize.ShloMosaic.PureOps.Ideal
public import Idealize.ShloMosaic.Lib.Pipeline.ValueKit

@[expose] public section

noncomputable section

namespace Cert.Out

open Idealize.ShloMosaic

/-- The third stream's entry: two directions' outputs and a skip, gated. -/
def gated (f b a s z : Fin 512 → EReal) (d : Fin 512) : EReal := (f d + b d + a d * s d) * (z d * Ideal.logistic (z d))

/-- The third stream, normalised to unit mean square and scaled by the weights `g`. -/
def ssm (f b a s z g : Fin 512 → EReal) (d : Fin 512) : EReal :=
  gated f b a s z d * Ideal.rsqrt (Ideal.div (∑ e, gated f b a s z e * gated f b a s z e) (Ideal.ofBits .f32 0x44000000#32)
    + Ideal.ofBits .f32 0x358637BD#32) * g d

/-- The three streams side by side. -/
def cat (p : Fin 512 → EReal) (o : Fin 1024 → EReal) (r : Fin 512 → EReal) (e : Fin 2048) : EReal :=
  if h : e.val < 512 then p ⟨e.val, h⟩
  else if h' : e.val < 1536 then o ⟨e.val - 512, by omega⟩
  else r ⟨e.val - 1536, by omega⟩

/-- A row against the columns of a matrix. -/
def times (k : Fin 2048 → EReal) (w : Fin 2048 → Fin 2048 → EReal) (d : Fin 2048) : EReal := ∑ e, k e * w e d

/-- A sum over 2048 terms is the sum of its four blocks of 512. -/
theorem sum_blocks (f : Fin 2048 → EReal) :
    ∑ e, f e = ∑ j : Fin 512, f ⟨j.val, by omega⟩ + ∑ j : Fin 512, f ⟨512 + j.val, by omega⟩
      + ∑ j : Fin 512, f ⟨1024 + j.val, by omega⟩ + ∑ j : Fin 512, f ⟨1536 + j.val, by omega⟩ := by
  refine (Fin.sum_univ_add (a := 1536) (b := 512) f).trans ?_
  congr 1
  refine (Fin.sum_univ_add (a := 1024) (b := 512) fun i : Fin 1536 => f ⟨i.val, by omega⟩).trans ?_
  congr 1
  exact Fin.sum_univ_add (a := 512) (b := 512) fun i : Fin 1024 => f ⟨i.val, by omega⟩

end Cert.Out

end
-- ==== Proof.OutRef.lean ====
/-
  The reference of the projection out of the layer's streams, entry by entry. It works on all rows at once up to the
  product with the matrix, and from there by blocks of 4096 rows that share a modulation row.
-/
module

public import proofs.«01_k».proof.Proof.InMath
public import proofs.«01_k».proof.Proof.ResidMath
public import proofs.«01_k».proof.Proof.OutMath
public import proofs.«01_k».proof.Proof.Gen.Reference7Ideal.Run
public import Idealize.ShloMosaic.Lib.Pointwise
public import Idealize.ShloMosaic.Lib.IdealHost
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Reference7Ideal.Out
open Cert.Reference7Ideal Cert.Reference7Ideal.Gen

/-! ## The arrays the call leaves -/

/-- Row `r` of the streams. -/
def catRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A8 : Vec Ideal S4x1x512 .f32) (A9 : Vec Ideal S4x1x512 .f32) (r : Fin 20480) : Fin 2048 → EReal :=
  Cert.Out.cat (fun j => A0 (ix2 r j)) (fun j => A1 (ix2 r j))
    (Cert.Out.ssm (fun j => A2 (ix2 r j)) (fun j => A3 (ix2 r j)) (fun j => A4 (ix2 r (⟨j.val, by omega⟩ : Fin 1024)))
      (fun j => A8 (ix3 (0 : Fin 4) (0 : Fin 1) j)) (fun j => A5 (ix2 r (⟨2048 + j.val, by omega⟩ : Fin 3584)))
      (fun j => A9 (ix3 (0 : Fin 4) (0 : Fin 1) j)))

/-- That row against the matrix. -/
def mixRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A8 : Vec Ideal S4x1x512 .f32) (A9 : Vec Ideal S4x1x512 .f32) (A12 : Vec Ideal S4x2048x2048 .bf16) (r : Fin 20480) : Fin 2048 → EReal :=
  Cert.Out.times (catRow A0 A1 A2 A3 A4 A5 A8 A9 r) fun e d => A12 (ix3 (0 : Fin 4) e d)

/-- The new row: the old one plus the gated, normalised product. -/
def newRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) (r : Fin 20480) : Fin 2048 → EReal := fun d =>
  Cert.Resid.entry (A6 (ix2 r d))
    (A7 (ix4 (0 : Fin 4) (⟨r.val / 4096, by omega⟩ : Fin 8) (0 : Fin 1) (⟨4096 + d.val, by omega⟩ : Fin 12288)))
    (mixRow A0 A1 A2 A3 A4 A5 A8 A9 A12 r) (fun e => A10 (ix3 (0 : Fin 4) (0 : Fin 1) e)) d

/-- The new row, normalised and modulated. -/
def hRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A11 : Vec Ideal S4x1x2048 .f32) (A12 : Vec Ideal S4x2048x2048 .bf16) (r : Fin 20480) : Fin 2048 → EReal :=
  Cert.Inp.row (newRow A0 A1 A2 A3 A4 A5 A6 A7 A8 A9 A10 A12 r) (fun e => A11 (ix3 (0 : Fin 4) (0 : Fin 1) e))
    (fun e => A7 (ix4 (0 : Fin 4) (⟨r.val / 4096, by omega⟩ : Fin 8) (0 : Fin 1) (⟨8192 + e.val, by omega⟩ : Fin 12288)))
    (fun e => A7 (ix4 (0 : Fin 4) (⟨r.val / 4096, by omega⟩ : Fin 8) (0 : Fin 1) (⟨6144 + e.val, by omega⟩ : Fin 12288)))

/-- The array of new rows, and that of normalised ones. -/
def main15 (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) : Vec Ideal S20480x2048 .f32 := fun i => newRow A0 A1 A2 A3 A4 A5 A6 A7 A8 A9 A10 A12 (i 0) (i 1)

def main16 (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A11 : Vec Ideal S4x1x2048 .f32) (A12 : Vec Ideal S4x2048x2048 .bf16) : Vec Ideal S20480x2048 .bf16 := fun i => hRow A0 A1 A2 A3 A4 A5 A6 A7 A8 A9 A10 A11 A12 (i 0) (i 1)

/-! ## The reference's stages -/

/-- The third stream before its norm, -/
def gate3 (A2 : Vec Ideal S20480x512 .f32) (A3 : Vec Ideal S20480x512 .f32) (A4 : Vec Ideal S20480x1024 .f32) (A5 : Vec Ideal S20480x3584 .f32) (A8 : Vec Ideal S4x1x512 .f32) : FVec Ideal S20480x512 .f32 :=
  mulf (addf (addf A2 A3) (mulf (extractStridedSlice S20480x512 ![0, 0] A4 slices_S20480x1024_S20480x512_0_0) (broadcastInDim S20480x512 ![0, 1] bcast_S1x512_S20480x512_0_1 (broadcastInDim S1x512 ![1] bcast_S512_S1x512_1 (shapeCast _ (extractStridedSlice S1x1x512 ![0, 0, 0] A8 slices_S4x1x512_S1x1x512_0_0_0) shapeCasts_S1x1x512_S512))))) (mulf (extractStridedSlice S20480x512 ![0, 2048] A5 slices_S20480x3584_S20480x512_0_2048) (Host.divf (broadcastInDim S20480x512 ![] bcast_S_S20480x512 (constant S_ .f32 0x3F800000#32)) (addf (broadcastInDim S20480x512 ![] bcast_S_S20480x512 (constant S_ .f32 0x3F800000#32)) (Host.exp (Host.negf (extractStridedSlice S20480x512 ![0, 2048] A5 slices_S20480x3584_S20480x512_0_2048))))))

/-- and normalised. -/
def norm3 (y : FVec Ideal S20480x512 .f32) (A9 : Vec Ideal S4x1x512 .f32) : FVec Ideal S20480x512 .f32 :=
  mulf (mulf y (broadcastInDim S20480x512 ![0, 1] bcast_S20480x1_S20480x512_0_1 (Host.rsqrt (addf (Host.divf (broadcastInDim S20480x1 ![0] bcast_S20480_S20480x1_0 (Host.reduceAdd (mulf y y) (constant S_ .f32 0x00000000#32) reducesTo_S20480x512_S20480_d1 h_S_)) (broadcastInDim S20480x1 ![] bcast_S_S20480x1 (constant S_ .f32 0x44000000#32))) (broadcastInDim S20480x1 ![] bcast_S_S20480x1 (constant S_ .f32 0x358637BD#32)))))) (broadcastInDim S20480x512 ![0, 1] bcast_S1x512_S20480x512_0_1 (broadcastInDim S1x512 ![1] bcast_S512_S1x512_1 (shapeCast _ (extractStridedSlice S1x1x512 ![0, 0, 0] A9 slices_S4x1x512_S1x1x512_0_0_0) shapeCasts_S1x1x512_S512)))

/-- The streams side by side. -/
def beside (A0 : Vec Ideal S20480x512 .bf16) (A1 : Vec Ideal S20480x1024 .bf16) (s : FVec Ideal S20480x512 .f32) : FVec Ideal S20480x2048 .f32 :=
  (concatenate S20480x2048 1 [⟨S20480x512, ((extf (F := Ideal) (φ := .bf16) .f32 A0 bitsLt_bf16_f32) : (⟨S20480x512, .f32⟩ : BufTy).Contents (Elt Ideal))⟩, ⟨S20480x1024, ((extf (F := Ideal) (φ := .bf16) .f32 A1 bitsLt_bf16_f32) : (⟨S20480x1024, .f32⟩ : BufTy).Contents (Elt Ideal))⟩, ⟨S20480x512, ((s : FVec Ideal S20480x512 .f32) : (⟨S20480x512, .f32⟩ : BufTy).Contents (Elt Ideal))⟩] concatenates_S20480x512_S20480x1024_S20480x512_S20480x2048_d1 : (⟨S20480x2048, .f32⟩ : BufTy).Contents (Elt Ideal))

/-- The product with the matrix. -/
def mixed (k : FVec Ideal S20480x2048 .f32) (A12 : Vec Ideal S4x2048x2048 .bf16) : FVec Ideal S20480x2048 .f32 :=
  Host.dotGeneral (φ₁ := .f32) (φ₂ := .f32) dot_S20480x2048_S2048x2048_S20480x2048_1_0_0_1_n_n none k (extf (F := Ideal) (φ := .bf16) .f32 (shapeCast _ (extractStridedSlice S1x2048x2048 ![0, 0, 0] A12 slices_S4x2048x2048_S1x2048x2048_0_0_0) shapeCasts_S1x2048x2048_S2048x2048) bitsLt_bf16_f32)

/-- The rows by block. -/
def byBlock (X : Vec Ideal S20480x2048 .f32) : FVec Ideal S5x4096x2048 .f32 := shapeCast _ X shapeCasts_S20480x2048_S5x4096x2048

/-- Each row's factor: one over the root of its mean square. -/
def factor (x : FVec Ideal S5x4096x2048 .f32) : FVec Ideal S5x4096x1 .f32 :=
  Host.rsqrt (addf (Host.divf (broadcastInDim S5x4096x1 ![0, 1] bcast_S5x4096_S5x4096x1_0_1 (Host.reduceAdd (mulf x x) (constant S_ .f32 0x00000000#32) reducesTo_S5x4096x2048_S5x4096_d2 h_S_)) (broadcastInDim S5x4096x1 ![] bcast_S_S5x4096x1 (constant S_ .f32 0x45000000#32))) (broadcastInDim S5x4096x1 ![] bcast_S_S5x4096x1 (constant S_ .f32 0x358637BD#32)))

/-- The weight vector. -/
def gain (G : Vec Ideal S4x1x2048 .f32) : FVec Ideal S2048 .f32 :=
  shapeCast _ (extractStridedSlice S1x1x2048 ![0, 0, 0] G slices_S4x1x2048_S1x1x2048_0_0_0) shapeCasts_S1x1x2048_S2048

/-- The blocks' gate rows, shift rows and scale rows. -/
def gate (A7 : Vec Ideal S4x8x1x12288 .f32) : FVec Ideal S5x1x2048 .f32 :=
  extractStridedSlice S5x1x2048 ![0, 0, 0] (shapeCast _ (extractStridedSlice S1x5x1x6144 ![0, 0, 0, 4096] A7 slices_S4x8x1x12288_S1x5x1x6144_0_0_0_4096) shapeCasts_S1x5x1x6144_S5x1x6144) slices_S5x1x6144_S5x1x2048_0_0_0

def shift (A7 : Vec Ideal S4x8x1x12288 .f32) : FVec Ideal S5x1x2048 .f32 :=
  extractStridedSlice S5x1x2048 ![0, 0, 2048] (shapeCast _ (extractStridedSlice S1x5x1x6144 ![0, 0, 0, 4096] A7 slices_S4x8x1x12288_S1x5x1x6144_0_0_0_4096) shapeCasts_S1x5x1x6144_S5x1x6144) slices_S5x1x6144_S5x1x2048_0_0_2048

def scale (A7 : Vec Ideal S4x8x1x12288 .f32) : FVec Ideal S5x1x2048 .f32 :=
  extractStridedSlice S5x1x2048 ![0, 0, 4096] (shapeCast _ (extractStridedSlice S1x5x1x6144 ![0, 0, 0, 4096] A7 slices_S4x8x1x12288_S1x5x1x6144_0_0_0_4096) shapeCasts_S1x5x1x6144_S5x1x6144) slices_S5x1x6144_S5x1x2048_0_0_4096

/-- The new rows, by block, -/
def summed (x f : FVec Ideal S5x4096x2048 .f32) (c : FVec Ideal S5x1x2048 .f32) (g : FVec Ideal S2048 .f32) :
    FVec Ideal S5x4096x2048 .f32 :=
  addf x (mulf (broadcastInDim S5x4096x2048 ![0, 1, 2] bcast_S5x1x2048_S5x4096x2048_0_1_2 c) (mulf (mulf f (broadcastInDim S5x4096x2048 ![0, 1, 2] bcast_S5x4096x1_S5x4096x2048_0_1_2 (factor f))) (broadcastInDim S5x4096x2048 ![0, 1, 2] bcast_S1x1x2048_S5x4096x2048_0_1_2 (broadcastInDim S1x1x2048 ![2] bcast_S2048_S1x1x2048_2 g))))

/-- and normalised and modulated. -/
def normed (x : FVec Ideal S5x4096x2048 .f32) (g : FVec Ideal S2048 .f32) (c s : FVec Ideal S5x1x2048 .f32) :
    FVec Ideal S5x4096x2048 .f32 :=
  addf (mulf (mulf (mulf x (broadcastInDim S5x4096x2048 ![0, 1, 2] bcast_S5x4096x1_S5x4096x2048_0_1_2 (factor x))) (broadcastInDim S5x4096x2048 ![0, 1, 2] bcast_S1x1x2048_S5x4096x2048_0_1_2 (broadcastInDim S1x1x2048 ![2] bcast_S2048_S1x1x2048_2 g))) (broadcastInDim S5x4096x2048 ![0, 1, 2] bcast_S5x1x2048_S5x4096x2048_0_1_2 (addf (broadcastInDim S5x1x2048 ![] bcast_S_S5x1x2048 (constant S_ .f32 0x3F800000#32)) c))) (broadcastInDim S5x4096x2048 ![0, 1, 2] bcast_S5x1x2048_S5x4096x2048_0_1_2 s)

theorem gate3_apply (A2 : Vec Ideal S20480x512 .f32) (A3 : Vec Ideal S20480x512 .f32) (A4 : Vec Ideal S20480x1024 .f32) (A5 : Vec Ideal S20480x3584 .f32) (A8 : Vec Ideal S4x1x512 .f32) (r : Fin 20480) (d : Fin 512) :
    gate3 A2 A3 A4 A5 A8 (ix2 r d)
      = Cert.Out.gated (fun j => A2 (ix2 r j)) (fun j => A3 (ix2 r j)) (fun j => A4 (ix2 r (⟨j.val, by omega⟩ : Fin 1024)))
          (fun j => A8 (ix3 (0 : Fin 4) (0 : Fin 1) j)) (fun j => A5 (ix2 r (⟨2048 + j.val, by omega⟩ : Fin 3584))) d := by
  simp only [Cert.Out.gated, Ideal.logistic, Ideal.ofBits_one_f32]
  pointwise [gate3]

theorem norm3_apply (y : FVec Ideal S20480x512 .f32) (A9 : Vec Ideal S4x1x512 .f32) (r : Fin 20480) (d : Fin 512) :
    norm3 y A9 (ix2 r d)
      = y (ix2 r d) * Ideal.rsqrt (Ideal.div (∑ e : Fin 512, (y (ix2 r e) * y (ix2 r e) : EReal)) (Ideal.ofBits .f32 0x44000000#32)
          + Ideal.ofBits .f32 0x358637BD#32) * A9 (ix3 (0 : Fin 4) (0 : Fin 1) d) := by
  pointwise [norm3]

theorem beside_apply (A0 : Vec Ideal S20480x512 .bf16) (A1 : Vec Ideal S20480x1024 .bf16) (s : FVec Ideal S20480x512 .f32) (r : Fin 20480) (e : Fin 2048) :
    beside A0 A1 s (ix2 r e)
      = Cert.Out.cat (fun j => A0 (ix2 r j)) (fun j => A1 (ix2 r j)) (fun j => s (ix2 r j)) e := by
  unfold Cert.Out.cat
  pointwise [beside]
  by_cases h0 : e.val < 512
  · rw [dif_pos h0, dif_pos h0]
  rw [dif_neg h0, dif_neg h0]
  by_cases h1 : e.val < 1536
  · rw [dif_pos (by omega), dif_pos h1]
  rw [dif_neg (by omega), dif_neg h1]
  exact congrArg (fun q => s (ix2 r q)) (Fin.ext (by show e.val - 512 - 1024 = e.val - 1536; omega))

theorem mixed_apply (k : FVec Ideal S20480x2048 .f32) (A12 : Vec Ideal S4x2048x2048 .bf16) (r : Fin 20480) (d : Fin 2048) :
    mixed k A12 (ix2 r d) = (∑ e : Fin 2048, (k (ix2 r e) * A12 (ix3 (0 : Fin 4) e d) : EReal)) := by
  pointwise [mixed]

theorem byBlock_apply (X : Vec Ideal S20480x2048 .f32) (b : Fin 5) (p : Fin 4096) (d : Fin 2048) :
    byBlock X (ix3 b p d) = X (ix2 ⟨b.val * 4096 + p.val, by omega⟩ d) := by
  pointwise [byBlock]

theorem factor_apply (x : FVec Ideal S5x4096x2048 .f32) (b : Fin 5) (p : Fin 4096) (z : Fin 1) :
    factor x (ix3 b p z)
      = Ideal.rsqrt (Ideal.div (∑ e : Fin 2048, (x (ix3 b p e) * x (ix3 b p e) : EReal)) (Ideal.ofBits .f32 0x45000000#32)
          + Ideal.ofBits .f32 0x358637BD#32) := by
  pointwise [factor]

theorem gain_apply (G : Vec Ideal S4x1x2048 .f32) (d : Fin 2048) : gain G (ix1 d) = G (ix3 (0 : Fin 4) (0 : Fin 1) d) := by
  pointwise [gain]

theorem gate_apply (A7 : Vec Ideal S4x8x1x12288 .f32) (b : Fin 5) (z : Fin 1) (d : Fin 2048) :
    gate A7 (ix3 b z d) = A7 (ix4 (0 : Fin 4) (⟨b.val, by omega⟩ : Fin 8) (0 : Fin 1) (⟨4096 + d.val, by omega⟩ : Fin 12288)) := by
  pointwise [gate]

theorem shift_apply (A7 : Vec Ideal S4x8x1x12288 .f32) (b : Fin 5) (z : Fin 1) (d : Fin 2048) :
    shift A7 (ix3 b z d) = A7 (ix4 (0 : Fin 4) (⟨b.val, by omega⟩ : Fin 8) (0 : Fin 1) (⟨6144 + d.val, by omega⟩ : Fin 12288)) := by
  pointwise [shift]
  refine congrArg (fun q => A7 (ix4 (0 : Fin 4) (⟨b.val, by omega⟩ : Fin 8) (0 : Fin 1) q)) (Fin.ext ?_)
  show 4096 + (2048 + d.val) = 6144 + d.val
  omega

theorem scale_apply (A7 : Vec Ideal S4x8x1x12288 .f32) (b : Fin 5) (z : Fin 1) (d : Fin 2048) :
    scale A7 (ix3 b z d) = A7 (ix4 (0 : Fin 4) (⟨b.val, by omega⟩ : Fin 8) (0 : Fin 1) (⟨8192 + d.val, by omega⟩ : Fin 12288)) := by
  pointwise [scale]
  refine congrArg (fun q => A7 (ix4 (0 : Fin 4) (⟨b.val, by omega⟩ : Fin 8) (0 : Fin 1) q)) (Fin.ext ?_)
  show 4096 + (4096 + d.val) = 8192 + d.val
  omega

theorem summed_apply (x f : FVec Ideal S5x4096x2048 .f32) (c : FVec Ideal S5x1x2048 .f32) (g : FVec Ideal S2048 .f32)
    (b : Fin 5) (p : Fin 4096) (d : Fin 2048) :
    summed x f c g (ix3 b p d)
      = Cert.Resid.entry (x (ix3 b p d)) (c (ix3 b (0 : Fin 1) d)) (fun e : Fin 2048 => f (ix3 b p e)) (fun e => g (ix1 e)) d := by
  unfold Cert.Resid.entry
  rw [← factor_apply f _ _ (0 : Fin 1)]
  pointwise [summed]

theorem normed_apply (x : FVec Ideal S5x4096x2048 .f32) (g : FVec Ideal S2048 .f32) (c s : FVec Ideal S5x1x2048 .f32)
    (b : Fin 5) (p : Fin 4096) (d : Fin 2048) :
    normed x g c s (ix3 b p d)
      = Cert.Inp.row (fun e : Fin 2048 => x (ix3 b p e)) (fun e => g (ix1 e)) (fun e => c (ix3 b (0 : Fin 1) e))
          (fun e => s (ix3 b (0 : Fin 1) e)) d := by
  unfold Cert.Inp.row
  rw [← factor_apply x _ _ (0 : Fin 1)]
  pointwise [normed]

theorem cat_eq (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A8 : Vec Ideal S4x1x512 .f32) (A9 : Vec Ideal S4x1x512 .f32) (r : Fin 20480) (e : Fin 2048) :
    beside A0 A1 (norm3 (gate3 A2 A3 A4 A5 A8) A9) (ix2 r e) = catRow A0 A1 A2 A3 A4 A5 A8 A9 r e := by
  rw [beside_apply]
  simp only [norm3_apply, gate3_apply]
  rfl

theorem mix_eq (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A8 : Vec Ideal S4x1x512 .f32) (A9 : Vec Ideal S4x1x512 .f32) (A12 : Vec Ideal S4x2048x2048 .bf16) (r : Fin 20480) (d : Fin 2048) :
    mixed (beside A0 A1 (norm3 (gate3 A2 A3 A4 A5 A8) A9)) A12 (ix2 r d) = mixRow A0 A1 A2 A3 A4 A5 A8 A9 A12 r d := by
  rw [mixed_apply]
  simp only [cat_eq]
  rfl

/-- The new rows, by block. -/
def news (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) : FVec Ideal S5x4096x2048 .f32 :=
  summed (byBlock A6) (byBlock (mixed (beside A0 A1 (norm3 (gate3 A2 A3 A4 A5 A8) A9)) A12)) (gate A7) (gain A10)

theorem news_apply (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) (b : Fin 5) (p : Fin 4096) (d : Fin 2048) :
    news A0 A1 A2 A3 A4 A5 A6 A7 A8 A9 A10 A12 (ix3 b p d) = newRow A0 A1 A2 A3 A4 A5 A6 A7 A8 A9 A10 A12 (⟨b.val * 4096 + p.val, by omega⟩ : Fin 20480) d := by
  have hb : (b.val * 4096 + p.val) / 4096 = b.val := by omega
  unfold news
  rw [summed_apply]
  unfold newRow
  simp only [byBlock_apply, mix_eq, gate_apply, gain_apply, hb]

/-- The array in one piece again. -/
theorem whole_apply (x : FVec Ideal S5x4096x2048 .f32) (r : Fin 20480) (d : Fin 2048) :
    (shapeCast S20480x2048 x shapeCasts_S5x4096x2048_S20480x2048 : FVec Ideal S20480x2048 .f32) (ix2 r d)
      = x (ix3 (⟨r.val / 4096, by omega⟩ : Fin 5) (⟨r.val % 4096, by omega⟩ : Fin 4096) d) := by
  pointwise []

theorem ref15 (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) :
    (shapeCast S20480x2048 (news A0 A1 A2 A3 A4 A5 A6 A7 A8 A9 A10 A12) shapeCasts_S5x4096x2048_S20480x2048 : FVec Ideal S20480x2048 .f32) = main15 A0 A1 A2 A3 A4 A5 A6 A7 A8 A9 A10 A12 := by
  funext j
  idx_vars j
  have hr : j0.val / 4096 * 4096 + j0.val % 4096 = j0.val := by omega
  rw [whole_apply, news_apply]
  simp only [hr]
  rfl

theorem ref16 (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A11 : Vec Ideal S4x1x2048 .f32) (A12 : Vec Ideal S4x2048x2048 .bf16) :
    (truncf (F := Ideal) (φ := .f32) .bf16 (shapeCast S20480x2048 (normed (news A0 A1 A2 A3 A4 A5 A6 A7 A8 A9 A10 A12) (gain A11) (scale A7) (shift A7)) shapeCasts_S5x4096x2048_S20480x2048) bitsLt_bf16_f32
      : FVec Ideal S20480x2048 .bf16) = main16 A0 A1 A2 A3 A4 A5 A6 A7 A8 A9 A10 A11 A12 := by
  funext j
  idx_vars j
  have hr : j0.val / 4096 * 4096 + j0.val % 4096 = j0.val := by omega
  show (shapeCast S20480x2048 (normed (news A0 A1 A2 A3 A4 A5 A6 A7 A8 A9 A10 A12) (gain A11) (scale A7) (shift A7)) shapeCasts_S5x4096x2048_S20480x2048 : FVec Ideal S20480x2048 .f32) (ix2 j0 j1) = _
  rw [whole_apply, normed_apply]
  simp only [news_apply, gain_apply, scale_apply, shift_apply, hr]
  rfl

end Cert.Reference7Ideal.Out

end
-- ==== Proof.OutTiles.lean ====
/-
  The projection out of the layer's streams: what its body does at one grid point.

  A tile of rows has four points, one for each block of 512 columns. The first puts the three streams side by side, the
  third one normalised, and keeps them. Each multiplies the kept rows by its block of weights and keeps the product. The
  last normalises the whole products, adds them to the layer's rows, and stores those and their normalised, modulated
  form.
-/
module

public import proofs.«01_k».proof.Proof.Gen.Kernel7Ideal.Launch
public import proofs.«01_k».proof.Proof.Gen.Kernel7Ideal.Skeleton
public import Idealize.ShloMosaic.Lib.Pipeline.Kit
public import Idealize.ShloMosaic.Lib.Pipeline.ValueKit
public import Idealize.ShloMosaic.Lib.Pipeline.FrameBody
public import Idealize.ShloMosaic.Lib.Pipeline.ReadBack
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Kernel7Ideal.Out

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Rows assembled from blocks of columns, and the kept products -/

/-- Four blocks of 512 columns side by side. -/
def wide {Val : EltTy → Type} {e : EltTy} (p0 p1 p2 p3 : S512x512.Idx → Val e) : S512x2048.Idx → Val e := fun y =>
  let a : Fin 512 := y 0
  let b : Fin 2048 := y 1
  if h0 : b.val < 512 then p0 (ix2 a ⟨b.val, h0⟩)
  else if h1 : b.val < 1024 then p1 (ix2 a ⟨b.val - 512, by omega⟩)
  else if h2 : b.val < 1536 then p2 (ix2 a ⟨b.val - 1024, by omega⟩)
  else p3 (ix2 a ⟨b.val - 1536, by omega⟩)

/-- The three streams side by side: 512, 1024 and 512 columns. -/
def beside {Val : EltTy → Type} {e : EltTy} (p : S512x512.Idx → Val e) (q : S512x1024.Idx → Val e) (r : S512x512.Idx → Val e) :
    S512x2048.Idx → Val e := fun y =>
  let a : Fin 512 := y 0
  let b : Fin 2048 := y 1
  if h0 : b.val < 512 then p (ix2 a ⟨b.val, h0⟩)
  else if h1 : b.val < 1536 then q (ix2 a ⟨b.val - 512, by omega⟩)
  else r (ix2 a ⟨b.val - 1536, by omega⟩)

/-- Product `k` of those kept. -/
def blk {Val : EltTy → Type} {e : EltTy} (k : Fin 4) (s : S4x512x512.Idx → Val e) : S1x512x512.Idx → Val e := fun x =>
  let a : Fin 512 := x 1
  let b : Fin 512 := x 2
  s (ix3 k a b)

/-- The kept products with the one at `j` replaced. -/
def put {Val : EltTy → Type} {e : EltTy} (j : Fin 4) (s : S4x512x512.Idx → Val e) (p : S1x512x512.Idx → Val e) : S4x512x512.Idx → Val e :=
  fun y =>
  let k : Fin 4 := y 0
  let a : Fin 512 := y 1
  let b : Fin 512 := y 2
  if k = j then p (ix3 (0 : Fin 1) a b) else s y

theorem blk_put_same {Val : EltTy → Type} {e : EltTy} (j : Fin 4) (s : S4x512x512.Idx → Val e) (p : S1x512x512.Idx → Val e) :
    blk j (put j s p) = p := by
  funext x
  idx_vars x
  obtain rfl := Subsingleton.elim x0 0
  exact if_pos rfl

theorem blk_put_other {Val : EltTy → Type} {e : EltTy} (j k : Fin 4) (h : k ≠ j) (s : S4x512x512.Idx → Val e) (p : S1x512x512.Idx → Val e) :
    blk k (put j s p) = blk k s := by
  funext x
  idx_vars x
  exact if_neg h

theorem ld_blk {Val : EltTy → Type} {e : EltTy} (k : Fin 4) (s : S4x512x512.Idx → Val e) (inb) :
    View.ld s (Rect.unit (s := S4x512x512) ![k.val, 0, 0] S1x512x512.size inb) = blk k s := by
  funext x
  revert x
  intro (x : S1x512x512.Idx)
  idx_vars x
  refine View.ld_unit_apply_of s _ _ inb _ (ix3 k x1 x2) fun a => ?_
  match a with
  | ⟨0, _⟩ =>
    have h : x0.val < 1 := x0.isLt
    show k.val = k.val + x0.val
    omega
  | ⟨1, _⟩ => show x1.val = 0 + x1.val; omega
  | ⟨2, _⟩ => show x2.val = 0 + x2.val; omega

section
variable {Val : EltTy → Type} {e : EltTy} {sig : RefSig} {κ : Kind} {sp : Space}

theorem read_wide (v : View sig κ sp S512x2048 e) (f : v.ty.Contents Val) (p0 p1 p2 p3 : S512x512.Idx → Val e) (i0 i1 i2 i3) :
    v.read Val (v.writes Val f [⟨Rect.unit (s := S512x2048) ![0, 1536] S512x512.size i3, p3⟩,
      ⟨Rect.unit (s := S512x2048) ![0, 1024] S512x512.size i2, p2⟩, ⟨Rect.unit (s := S512x2048) ![0, 512] S512x512.size i1, p1⟩,
      ⟨Rect.unit (s := S512x2048) ![0, 0] S512x512.size i0, p0⟩]) = wide p0 p1 p2 p3 := by
  funext y
  idx_vars y
  show _ = (if h0 : y1.val < 512 then _ else if h1 : y1.val < 1024 then _ else if h2 : y1.val < 1536 then _ else _)
  by_cases h0 : y1.val < 512
  · rw [dif_pos h0, View.read_writes_cons_miss_of_axis v f _ _ _ 1 1536 512 rfl rfl rfl (by first | exact Or.inl (show y1.val < 1536 by omega) | exact Or.inr (show 1536 + 512 ≤ y1.val by omega)),
      View.read_writes_cons_miss_of_axis v f _ _ _ 1 1024 512 rfl rfl rfl (by first | exact Or.inl (show y1.val < 1024 by omega) | exact Or.inr (show 1024 + 512 ≤ y1.val by omega)),
      View.read_writes_cons_miss_of_axis v f _ _ _ 1 512 512 rfl rfl rfl (by first | exact Or.inl (show y1.val < 512 by omega) | exact Or.inr (show 512 + 512 ≤ y1.val by omega))]
    refine View.read_writes_cons_hit_of_coords v f (Rect.unit (s := S512x2048) ![0, 0] S512x512.size i0) _ _ (ix2 y0 ⟨y1.val, h0⟩ : S512x512.Idx) _ fun a => ?_
    match a with
    | ⟨0, _⟩ => show y0.val = 0 + 1 * y0.val; omega
    | ⟨1, _⟩ => show y1.val = 0 + 1 * y1.val; omega
  rw [dif_neg h0]
  by_cases h1 : y1.val < 1024
  · rw [dif_pos h1, View.read_writes_cons_miss_of_axis v f _ _ _ 1 1536 512 rfl rfl rfl (by first | exact Or.inl (show y1.val < 1536 by omega) | exact Or.inr (show 1536 + 512 ≤ y1.val by omega)),
      View.read_writes_cons_miss_of_axis v f _ _ _ 1 1024 512 rfl rfl rfl (by first | exact Or.inl (show y1.val < 1024 by omega) | exact Or.inr (show 1024 + 512 ≤ y1.val by omega))]
    refine View.read_writes_cons_hit_of_coords v f (Rect.unit (s := S512x2048) ![0, 512] S512x512.size i1) _ _ (ix2 y0 ⟨y1.val - 512, by omega⟩ : S512x512.Idx) _ fun a => ?_
    match a with
    | ⟨0, _⟩ => show y0.val = 0 + 1 * y0.val; omega
    | ⟨1, _⟩ => show y1.val = 512 + 1 * (y1.val - 512); omega
  rw [dif_neg h1]
  by_cases h2 : y1.val < 1536
  · rw [dif_pos h2, View.read_writes_cons_miss_of_axis v f _ _ _ 1 1536 512 rfl rfl rfl (by first | exact Or.inl (show y1.val < 1536 by omega) | exact Or.inr (show 1536 + 512 ≤ y1.val by omega))]
    refine View.read_writes_cons_hit_of_coords v f (Rect.unit (s := S512x2048) ![0, 1024] S512x512.size i2) _ _ (ix2 y0 ⟨y1.val - 1024, by omega⟩ : S512x512.Idx) _ fun a => ?_
    match a with
    | ⟨0, _⟩ => show y0.val = 0 + 1 * y0.val; omega
    | ⟨1, _⟩ => show y1.val = 1024 + 1 * (y1.val - 1024); omega
  rw [dif_neg h2]
  refine View.read_writes_cons_hit_of_coords v f (Rect.unit (s := S512x2048) ![0, 1536] S512x512.size i3) _ _ (ix2 y0 ⟨y1.val - 1536, by omega⟩ : S512x512.Idx) _ fun a => ?_
  match a with
  | ⟨0, _⟩ => show y0.val = 0 + 1 * y0.val; omega
  | ⟨1, _⟩ => show y1.val = 1536 + 1 * (y1.val - 1536); omega

theorem read_beside (v : View sig κ sp S512x2048 e) (f : v.ty.Contents Val) (p : S512x512.Idx → Val e) (q : S512x1024.Idx → Val e)
    (r : S512x512.Idx → Val e) (i0 i1 i3) :
    v.read Val (v.writes Val f [⟨Rect.unit (s := S512x2048) ![0, 1536] S512x512.size i3, r⟩,
      ⟨Rect.unit (s := S512x2048) ![0, 512] S512x1024.size i1, q⟩,
      ⟨Rect.unit (s := S512x2048) ![0, 0] S512x512.size i0, p⟩]) = beside p q r := by
  funext y
  idx_vars y
  show _ = (if h0 : y1.val < 512 then _ else if h1 : y1.val < 1536 then _ else _)
  by_cases h0 : y1.val < 512
  · rw [dif_pos h0, View.read_writes_cons_miss_of_axis v f _ _ _ 1 1536 512 rfl rfl rfl (by first | exact Or.inl (show y1.val < 1536 by omega) | exact Or.inr (show 1536 + 512 ≤ y1.val by omega)),
      View.read_writes_cons_miss_of_axis v f _ _ _ 1 512 1024 rfl rfl rfl (by first | exact Or.inl (show y1.val < 512 by omega) | exact Or.inr (show 512 + 1024 ≤ y1.val by omega))]
    refine View.read_writes_cons_hit_of_coords v f (Rect.unit (s := S512x2048) ![0, 0] S512x512.size i0) _ _ (ix2 y0 ⟨y1.val, h0⟩ : S512x512.Idx) _ fun a => ?_
    match a with
    | ⟨0, _⟩ => show y0.val = 0 + 1 * y0.val; omega
    | ⟨1, _⟩ => show y1.val = 0 + 1 * y1.val; omega
  rw [dif_neg h0]
  by_cases h1 : y1.val < 1536
  · rw [dif_pos h1, View.read_writes_cons_miss_of_axis v f _ _ _ 1 1536 512 rfl rfl rfl (by first | exact Or.inl (show y1.val < 1536 by omega) | exact Or.inr (show 1536 + 512 ≤ y1.val by omega))]
    refine View.read_writes_cons_hit_of_coords v f (Rect.unit (s := S512x2048) ![0, 512] S512x1024.size i1) _ _ (ix2 y0 ⟨y1.val - 512, by omega⟩ : S512x1024.Idx) _ fun a => ?_
    match a with
    | ⟨0, _⟩ => show y0.val = 0 + 1 * y0.val; omega
    | ⟨1, _⟩ => show y1.val = 512 + 1 * (y1.val - 512); omega
  rw [dif_neg h1]
  refine View.read_writes_cons_hit_of_coords v f (Rect.unit (s := S512x2048) ![0, 1536] S512x512.size i3) _ _ (ix2 y0 ⟨y1.val - 1536, by omega⟩ : S512x512.Idx) _ fun a => ?_
  match a with
  | ⟨0, _⟩ => show y0.val = 0 + 1 * y0.val; omega
  | ⟨1, _⟩ => show y1.val = 1536 + 1 * (y1.val - 1536); omega

theorem readCov_beside [∀ e, Nonempty (Val e)] (v : View sig κ sp S512x2048 e) (p : S512x512.Idx → Val e) (q : S512x1024.Idx → Val e)
    (r : S512x512.Idx → Val e) (i0 i1 i3 i) :
    v.readCov [⟨Rect.unit (s := S512x2048) ![0, 1536] S512x512.size i3, r⟩,
      ⟨Rect.unit (s := S512x2048) ![0, 512] S512x1024.size i1, q⟩,
      ⟨Rect.unit (s := S512x2048) ![0, 0] S512x512.size i0, p⟩] (Rect.unit (s := S512x2048) ![0, 0] S512x2048.size i).toLoadRect
      = beside p q r := by
  rw [View.readCov_eq_canon', ← View.read_writes_junk_eq_canon v, read_beside]
  exact View.ld_unit_lit' i (beside p q r) (by decide)

theorem read_put (v : View sig κ sp S4x512x512 e) (f : v.ty.Contents Val) (p : S1x512x512.Idx → Val e) (off : Fin 3 → ℕ) (j : Fin 4)
    (ho : off = ![j.val, 0, 0]) (inb) :
    v.read Val (v.writes Val f [⟨Rect.unit (s := S4x512x512) off S1x512x512.size inb, p⟩]) = put j (v.read Val f) p := by
  subst ho
  funext y
  idx_vars y
  show _ = (if y0 = j then _ else _)
  by_cases h : y0 = j
  · rw [if_pos h]
    refine View.read_writes_cons_hit_of_coords v f (Rect.unit (s := S4x512x512) ![j.val, 0, 0] S1x512x512.size inb) _ _ (ix3 (0 : Fin 1) y1 y2 : S1x512x512.Idx) _ fun a => ?_
    match a with
    | ⟨0, _⟩ => show y0.val = j.val + 1 * 0; rw [h]; omega
    | ⟨1, _⟩ => show y1.val = 0 + 1 * y1.val; omega
    | ⟨2, _⟩ => show y2.val = 0 + 1 * y2.val; omega
  · rw [if_neg h]
    have h' : y0.val ≠ j.val := fun e => h (Fin.ext e)
    rw [View.read_writes_cons_miss_of_axis v f _ _ _ 0 j.val 1 rfl rfl rfl (by
      rcases Nat.lt_or_gt_of_ne h' with q | q
      · exact Or.inl q
      · exact Or.inr (show j.val + 1 ≤ y0.val from q))]
    rfl

end

/-! ## What a tile's last point stores -/

section
variable (x6 : Vec F S512x2048 .f32) (x7 x8 x9 : Vec F S1x1x1x2048 .f32) (x12 x13 : Vec F S1x1x2048 .f32)
  (M0 M1 M2 M3 : Vec F S1x512x512 .f32)

/-- The reciprocal root of the products' mean square. -/
def rinv : FVec F S512x1 .f32 := k0_pay10 (k0_pay8 M0 M0 M1 M1 M2 M2) (k0_pay9 M3 M3)

/-- The new rows, block of columns by block. -/
def sum0 : FVec F S512x512 .f32 :=
  k0_pay11 (k0_pay8 M0 M0 M1 M1 M2 M2) (k0_pay9 M3 M3) (View.ld x6 (Rect.unit (s := S512x2048) ![0, 0] S512x512.size inb_S512x2048_S512x512_0_0))
    (View.ld x7 (Rect.unit (s := S1x1x1x2048) ![0, 0, 0, 0] S1x1x1x512.size inb_S1x1x1x2048_S1x1x1x512_0_0_0_0)) M0
    (View.ld x12 (Rect.unit (s := S1x1x2048) ![0, 0, 0] S1x1x512.size inb_S1x1x2048_S1x1x512_0_0_0))
def sum1 : FVec F S512x512 .f32 :=
  k0_pay15 (rinv M0 M1 M2 M3) (View.ld x6 (Rect.unit (s := S512x2048) ![0, 512] S512x512.size inb_S512x2048_S512x512_0_512))
    (k0_pay13 (View.ld x7 (Rect.unit (s := S1x1x1x2048) ![0, 0, 0, 512] S1x1x1x512.size inb_S1x1x1x2048_S1x1x1x512_0_0_0_512))) (k0_pay14 M1)
    (View.ld x12 (Rect.unit (s := S1x1x2048) ![0, 0, 512] S1x1x512.size inb_S1x1x2048_S1x1x512_0_0_512))
def sum2 : FVec F S512x512 .f32 :=
  k0_pay16 (rinv M0 M1 M2 M3) (View.ld x6 (Rect.unit (s := S512x2048) ![0, 1024] S512x512.size inb_S512x2048_S512x512_0_1024))
    (View.ld x7 (Rect.unit (s := S1x1x1x2048) ![0, 0, 0, 1024] S1x1x1x512.size inb_S1x1x1x2048_S1x1x1x512_0_0_0_1024)) M2
    (View.ld x12 (Rect.unit (s := S1x1x2048) ![0, 0, 1024] S1x1x512.size inb_S1x1x2048_S1x1x512_0_0_1024))
def sum3 : FVec F S512x512 .f32 :=
  k0_pay18 (rinv M0 M1 M2 M3) (View.ld x6 (Rect.unit (s := S512x2048) ![0, 1536] S512x512.size inb_S512x2048_S512x512_0_1536))
    (View.ld x7 (Rect.unit (s := S1x1x1x2048) ![0, 0, 0, 1536] S1x1x1x512.size inb_S1x1x1x2048_S1x1x1x512_0_0_0_1536)) M3
    (View.ld x12 (Rect.unit (s := S1x1x2048) ![0, 0, 1536] S1x1x512.size inb_S1x1x2048_S1x1x512_0_0_1536))

/-- Their squares, summed over the first three blocks. -/
def squares : FVec F S512x1 .f32 :=
  k0_pay17 (rinv M0 M1 M2 M3)
    (k0_pay12 (k0_pay8 M0 M0 M1 M1 M2 M2) (k0_pay9 M3 M3) (View.ld x6 (Rect.unit (s := S512x2048) ![0, 0] S512x512.size inb_S512x2048_S512x512_0_0))
      (View.ld x7 (Rect.unit (s := S1x1x1x2048) ![0, 0, 0, 0] S1x1x1x512.size inb_S1x1x1x2048_S1x1x1x512_0_0_0_0)) M0
      (View.ld x12 (Rect.unit (s := S1x1x2048) ![0, 0, 0] S1x1x512.size inb_S1x1x2048_S1x1x512_0_0_0)))
    (View.ld x6 (Rect.unit (s := S512x2048) ![0, 512] S512x512.size inb_S512x2048_S512x512_0_512))
    (k0_pay13 (View.ld x7 (Rect.unit (s := S1x1x1x2048) ![0, 0, 0, 512] S1x1x1x512.size inb_S1x1x1x2048_S1x1x1x512_0_0_0_512))) (k0_pay14 M1)
    (View.ld x12 (Rect.unit (s := S1x1x2048) ![0, 0, 512] S1x1x512.size inb_S1x1x2048_S1x1x512_0_0_512))
    (View.ld x6 (Rect.unit (s := S512x2048) ![0, 1024] S512x512.size inb_S512x2048_S512x512_0_1024))
    (View.ld x7 (Rect.unit (s := S1x1x1x2048) ![0, 0, 0, 1024] S1x1x1x512.size inb_S1x1x1x2048_S1x1x1x512_0_0_0_1024)) M2
    (View.ld x12 (Rect.unit (s := S1x1x2048) ![0, 0, 1024] S1x1x512.size inb_S1x1x2048_S1x1x512_0_0_1024))

/-- The reciprocal root of their mean square. -/
def rinv' : FVec F S512x1 .f32 :=
  k0_pay19 (rinv M0 M1 M2 M3) (squares x6 x7 x12 M0 M1 M2 M3) (View.ld x6 (Rect.unit (s := S512x2048) ![0, 1536] S512x512.size inb_S512x2048_S512x512_0_1536))
    (View.ld x7 (Rect.unit (s := S1x1x1x2048) ![0, 0, 0, 1536] S1x1x1x512.size inb_S1x1x1x2048_S1x1x1x512_0_0_0_1536)) M3
    (View.ld x12 (Rect.unit (s := S1x1x2048) ![0, 0, 1536] S1x1x512.size inb_S1x1x2048_S1x1x512_0_0_1536))

/-- The new rows normalised and modulated, block by block. -/
def norm0 : FVec F S512x512 .bf16 :=
  k0_pay22 (k0_pay20 (rinv M0 M1 M2 M3) (squares x6 x7 x12 M0 M1 M2 M3) (View.ld x6 (Rect.unit (s := S512x2048) ![0, 1536] S512x512.size inb_S512x2048_S512x512_0_1536))
      (View.ld x7 (Rect.unit (s := S1x1x1x2048) ![0, 0, 0, 1536] S1x1x1x512.size inb_S1x1x1x2048_S1x1x1x512_0_0_0_1536)) M3
      (View.ld x12 (Rect.unit (s := S1x1x2048) ![0, 0, 1536] S1x1x512.size inb_S1x1x2048_S1x1x512_0_0_1536))
      (sum0 x6 x7 x12 M0 M1 M2 M3) (View.ld x13 (Rect.unit (s := S1x1x2048) ![0, 0, 0] S1x1x512.size inb_S1x1x2048_S1x1x512_0_0_0)))
    (k0_pay21 (View.ld x9 (Rect.unit (s := S1x1x1x2048) ![0, 0, 0, 0] S1x1x1x512.size inb_S1x1x1x2048_S1x1x1x512_0_0_0_0)))
    (View.ld x8 (Rect.unit (s := S1x1x1x2048) ![0, 0, 0, 0] S1x1x1x512.size inb_S1x1x1x2048_S1x1x1x512_0_0_0_0))
def norm1 : FVec F S512x512 .bf16 :=
  k0_pay23 (rinv' x6 x7 x12 M0 M1 M2 M3) (sum1 x6 x7 x12 M0 M1 M2 M3) (View.ld x13 (Rect.unit (s := S1x1x2048) ![0, 0, 512] S1x1x512.size inb_S1x1x2048_S1x1x512_0_0_512))
    (View.ld x9 (Rect.unit (s := S1x1x1x2048) ![0, 0, 0, 512] S1x1x1x512.size inb_S1x1x1x2048_S1x1x1x512_0_0_0_512))
    (View.ld x8 (Rect.unit (s := S1x1x1x2048) ![0, 0, 0, 512] S1x1x1x512.size inb_S1x1x1x2048_S1x1x1x512_0_0_0_512))
def norm2 : FVec F S512x512 .bf16 :=
  k0_pay25 (k0_pay24 (rinv' x6 x7 x12 M0 M1 M2 M3) (sum2 x6 x7 x12 M0 M1 M2 M3)) (View.ld x13 (Rect.unit (s := S1x1x2048) ![0, 0, 1024] S1x1x512.size inb_S1x1x2048_S1x1x512_0_0_1024))
    (View.ld x9 (Rect.unit (s := S1x1x1x2048) ![0, 0, 0, 1024] S1x1x1x512.size inb_S1x1x1x2048_S1x1x1x512_0_0_0_1024))
    (View.ld x8 (Rect.unit (s := S1x1x1x2048) ![0, 0, 0, 1024] S1x1x1x512.size inb_S1x1x1x2048_S1x1x1x512_0_0_0_1024))
def norm3 : FVec F S512x512 .bf16 :=
  k0_pay3 (k0_pay26 (rinv' x6 x7 x12 M0 M1 M2 M3) (sum3 x6 x7 x12 M0 M1 M2 M3) (View.ld x13 (Rect.unit (s := S1x1x2048) ![0, 0, 1536] S1x1x512.size inb_S1x1x2048_S1x1x512_0_0_1536))
    (View.ld x9 (Rect.unit (s := S1x1x1x2048) ![0, 0, 0, 1536] S1x1x1x512.size inb_S1x1x1x2048_S1x1x1x512_0_0_0_1536)))
    (k0_pay27 (View.ld x8 (Rect.unit (s := S1x1x1x2048) ![0, 0, 0, 1536] S1x1x1x512.size inb_S1x1x1x2048_S1x1x1x512_0_0_0_1536)))

/-- The tile of new rows. -/
def sums : Vec F S512x2048 .f32 :=
  wide (sum0 x6 x7 x12 M0 M1 M2 M3) (sum1 x6 x7 x12 M0 M1 M2 M3) (sum2 x6 x7 x12 M0 M1 M2 M3) (sum3 x6 x7 x12 M0 M1 M2 M3)

/-- The tile of normalised, modulated rows. -/
def norms : Vec F S512x2048 .bf16 :=
  wide (norm0 x6 x7 x8 x9 x12 x13 M0 M1 M2 M3) (norm1 x6 x7 x8 x9 x12 x13 M0 M1 M2 M3) (norm2 x6 x7 x8 x9 x12 x13 M0 M1 M2 M3)
    (norm3 x6 x7 x8 x9 x12 x13 M0 M1 M2 M3)

end

/-- The rows a tile keeps: its three streams side by side. -/
def streams (x0 : Vec F S512x512 .bf16) (x1 : Vec F S512x1024 .bf16) (x2 x3 x4 x5 : Vec F S512x512 .f32) (x10 x11 : Vec F S1x1x512 .f32) :
    Vec F S512x2048 .bf16 :=
  beside (k0_pay4 x0) (k0_pay5 x1) (k0_pay1 (k0_pay6 x2 x3 x4 x10 x5) (k0_pay7 x11))

/-! ## The three kinds of point -/

section
variable (c : Dev nD) (i : grid0.Coords)
  (a2 : Memref sig .tc .vmem S512x512 .bf16) (h2 : a2.IsWhole) (a3 : Memref sig .tc .vmem S512x1024 .bf16) (h3 : a3.IsWhole)
  (a4 : Memref sig .tc .vmem S512x512 .f32) (h4 : a4.IsWhole) (a5 : Memref sig .tc .vmem S512x512 .f32) (h5 : a5.IsWhole)
  (a6 : Memref sig .tc .vmem S512x512 .f32) (h6 : a6.IsWhole) (a7 : Memref sig .tc .vmem S512x512 .f32) (h7 : a7.IsWhole)
  (a8 : Memref sig .tc .vmem S512x2048 .f32) (h8 : a8.IsWhole) (a9 : Memref sig .tc .vmem S1x1x1x2048 .f32) (h9 : a9.IsWhole)
  (a10 : Memref sig .tc .vmem S1x1x1x2048 .f32) (h10 : a10.IsWhole) (a11 : Memref sig .tc .vmem S1x1x1x2048 .f32) (h11 : a11.IsWhole)
  (a12 : Memref sig .tc .vmem S1x1x512 .f32) (h12 : a12.IsWhole) (a13 : Memref sig .tc .vmem S1x1x512 .f32) (h13 : a13.IsWhole)
  (a14 : Memref sig .tc .vmem S1x1x2048 .f32) (h14 : a14.IsWhole) (a15 : Memref sig .tc .vmem S1x1x2048 .f32) (h15 : a15.IsWhole)
  (a16 : Memref sig .tc .vmem S1x2048x512 .bf16) (h16 : a16.IsWhole) (a17 : Memref sig .tc .vmem S512x2048 .f32) (h17 : a17.IsWhole)
  (a18 : Memref sig .tc .vmem S512x2048 .bf16) (h18 : a18.IsWhole) (a19 : Memref sig .tc .vmem S512x2048 .bf16) (h19 : a19.IsWhole)
  (a20 : Memref sig .tc .vmem S4x512x512 .f32) (h20 : a20.IsWhole)
  (x0 : Vec F S512x512 .bf16) (x1 : Vec F S512x1024 .bf16) (x2 : Vec F S512x512 .f32) (x3 : Vec F S512x512 .f32)
  (x4 : Vec F S512x512 .f32) (x5 : Vec F S512x512 .f32) (x6 : Vec F S512x2048 .f32) (x7 : Vec F S1x1x1x2048 .f32)
  (x8 : Vec F S1x1x1x2048 .f32) (x9 : Vec F S1x1x1x2048 .f32) (x10 : Vec F S1x1x512 .f32) (x11 : Vec F S1x1x512 .f32)
  (x12 : Vec F S1x1x2048 .f32) (x13 : Vec F S1x1x2048 .f32) (x14 : Vec F S1x2048x512 .bf16)

/-- The input blocks the body is handed and hands back. -/
def held : sProp 𝕄 :=
  iprop((a2.view.loc (c : Thread nD τ) ↦[a2.view.set]{fullShare} a2.view.rep x0)
    ∗ (a3.view.loc (c : Thread nD τ) ↦[a3.view.set]{fullShare} a3.view.rep x1)
    ∗ (a4.view.loc (c : Thread nD τ) ↦[a4.view.set]{fullShare} a4.view.rep x2)
    ∗ (a5.view.loc (c : Thread nD τ) ↦[a5.view.set]{fullShare} a5.view.rep x3)
    ∗ (a6.view.loc (c : Thread nD τ) ↦[a6.view.set]{fullShare} a6.view.rep x4)
    ∗ (a7.view.loc (c : Thread nD τ) ↦[a7.view.set]{fullShare} a7.view.rep x5)
    ∗ (a8.view.loc (c : Thread nD τ) ↦[a8.view.set]{fullShare} a8.view.rep x6)
    ∗ (a9.view.loc (c : Thread nD τ) ↦[a9.view.set]{fullShare} a9.view.rep x7)
    ∗ (a10.view.loc (c : Thread nD τ) ↦[a10.view.set]{fullShare} a10.view.rep x8)
    ∗ (a11.view.loc (c : Thread nD τ) ↦[a11.view.set]{fullShare} a11.view.rep x9)
    ∗ (a12.view.loc (c : Thread nD τ) ↦[a12.view.set]{fullShare} a12.view.rep x10)
    ∗ (a13.view.loc (c : Thread nD τ) ↦[a13.view.set]{fullShare} a13.view.rep x11)
    ∗ (a14.view.loc (c : Thread nD τ) ↦[a14.view.set]{fullShare} a14.view.rep x12)
    ∗ (a15.view.loc (c : Thread nD τ) ↦[a15.view.set]{fullShare} a15.view.rep x13)
    ∗ (a16.view.loc (c : Thread nD τ) ↦[a16.view.set]{fullShare} a16.view.rep x14))

end

end Cert.Kernel7Ideal.Out

end
-- ==== Proof.OutRuns.lean ====
/-
  The projection out of the layer's streams at a point that is not its tile's last.
-/
module

public import proofs.«01_k».proof.Proof.OutTiles
public import Idealize.ShloMosaic.Lib.Pipeline.Kit
public import Idealize.ShloMosaic.Lib.Pipeline.ValueKit
public import Idealize.ShloMosaic.Lib.Pipeline.FrameBody
public import Idealize.ShloMosaic.Lib.Pipeline.ReadBack
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Kernel7Ideal.Out

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (a2 : Memref sig .tc .vmem S512x512 .bf16) (h2 : a2.IsWhole) (a3 : Memref sig .tc .vmem S512x1024 .bf16) (h3 : a3.IsWhole)
  (a4 : Memref sig .tc .vmem S512x512 .f32) (h4 : a4.IsWhole) (a5 : Memref sig .tc .vmem S512x512 .f32) (h5 : a5.IsWhole)
  (a6 : Memref sig .tc .vmem S512x512 .f32) (h6 : a6.IsWhole) (a7 : Memref sig .tc .vmem S512x512 .f32) (h7 : a7.IsWhole)
  (a8 : Memref sig .tc .vmem S512x2048 .f32) (h8 : a8.IsWhole) (a9 : Memref sig .tc .vmem S1x1x1x2048 .f32) (h9 : a9.IsWhole)
  (a10 : Memref sig .tc .vmem S1x1x1x2048 .f32) (h10 : a10.IsWhole) (a11 : Memref sig .tc .vmem S1x1x1x2048 .f32) (h11 : a11.IsWhole)
  (a12 : Memref sig .tc .vmem S1x1x512 .f32) (h12 : a12.IsWhole) (a13 : Memref sig .tc .vmem S1x1x512 .f32) (h13 : a13.IsWhole)
  (a14 : Memref sig .tc .vmem S1x1x2048 .f32) (h14 : a14.IsWhole) (a15 : Memref sig .tc .vmem S1x1x2048 .f32) (h15 : a15.IsWhole)
  (a16 : Memref sig .tc .vmem S1x2048x512 .bf16) (h16 : a16.IsWhole) (a17 : Memref sig .tc .vmem S512x2048 .f32) (h17 : a17.IsWhole)
  (a18 : Memref sig .tc .vmem S512x2048 .bf16) (h18 : a18.IsWhole) (a19 : Memref sig .tc .vmem S512x2048 .bf16) (h19 : a19.IsWhole)
  (a20 : Memref sig .tc .vmem S4x512x512 .f32) (h20 : a20.IsWhole)
  (x0 : Vec F S512x512 .bf16) (x1 : Vec F S512x1024 .bf16) (x2 : Vec F S512x512 .f32) (x3 : Vec F S512x512 .f32)
  (x4 : Vec F S512x512 .f32) (x5 : Vec F S512x512 .f32) (x6 : Vec F S512x2048 .f32) (x7 : Vec F S1x1x1x2048 .f32)
  (x8 : Vec F S1x1x1x2048 .f32) (x9 : Vec F S1x1x1x2048 .f32) (x10 : Vec F S1x1x512 .f32) (x11 : Vec F S1x1x512 .f32)
  (x12 : Vec F S1x1x2048 .f32) (x13 : Vec F S1x1x2048 .f32) (x14 : Vec F S1x2048x512 .bf16)

set_option backward.proofsInPublic true in
set_option maxHeartbeats 8000000 in
/-- First point of a tile: the streams are kept, then their product with the first block of weights. -/
theorem run_first (k1 : (Scalar.cmpi .ne (Scalar.extui (Scalar.cmpi .eq (BitVec.ofNat 32 (i 1).val) 0#32)) (0#32 : BitVec 32) : BitVec 1) = 1#1) (k2 : ¬k0_cond2 i = 1#1)
    (s : Vec F S512x2048 .bf16) (u : Vec F S4x512x512 .f32) (K : PUnit → sProp 𝕄) :
    iprop(held c a2 a3 a4 a5 a6 a7 a8 a9 a10 a11 a12 a13 a14 a15 a16 x0 x1 x2 x3 x4 x5 x6 x7 x8 x9 x10 x11 x12 x13 x14
        ∗ owns (c : Thread nD τ) a19 fullShare s ∗ owns (c : Thread nD τ) a20 fullShare u
        ∗ (iprop(held c a2 a3 a4 a5 a6 a7 a8 a9 a10 a11 a12 a13 a14 a15 a16 x0 x1 x2 x3 x4 x5 x6 x7 x8 x9 x10 x11 x12 x13 x14
            ∗ owns (c : Thread nD τ) a19 fullShare (streams x0 x1 x2 x3 x4 x5 x10 x11)
            ∗ owns (c : Thread nD τ) a20 fullShare (put (i 1) u (k0_pay2 (streams x0 x1 x2 x3 x4 x5 x10 x11) x14))) -∗ K ⟨⟩))
      ⊢ wp frame (wpE (defs₀ (F := F)) Variants.none c none) Set.univ
          (cc0_out_proj i a2 h2 a3 h3 a4 h4 a5 h5 a6 h6 a7 h7 a8 h8 a9 h9 a10 h10 a11 h11 a12 h12 a13 h13 a14 h14 a15 h15 a16 h16 a17 h17 a18 h18 a19 h19 a20 h20) K := by
  unfold held owns
  rw [cc0_out_proj_eq_skeleton]; unfold cc0_out_proj_skel
  rw [k0_part1_eq_skeleton]; unfold k0_part1_skel
  iintro ⟨⟨H0, H1, H2, H3, H4, H5, H6, H7, H8, H9, H10, H11, H12, H13, H14⟩, ⟨%f19, %hf19, HO19⟩, ⟨%f20, %hf20, HO20⟩, Hk⟩
  obtain rfl := h19.eq_unread hf19
  obtain rfl := h20.eq_unread hf20
  sl_exec! (disch := first | exact k1 | exact k2)
  sl_step
  iapply Hk
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HO19]
  · iexists _; isplitr
    swap; · iexact HO19
    ipureintro
    delta run_first.sl.HO19_3
    refine (read_beside a19.view _ _ _ _ _ _ _).trans ?_
    simp (disch := decide) only [View.ld_unit_lit', View.readAt_eq_ld, View.read_rep]
    rfl
  iexists _; isplitr
  swap; · iexact HO20
  ipureintro
  refine (read_put a20.view _ _ _ (i 1) (k0_off1_eq i) _).trans ?_
  delta run_first.sl.v3 run_first.sl.HO19_3
  rw [readCov_beside, hf20]
  simp (disch := decide) only [View.ld_unit_lit', View.readAt_eq_ld, View.read_rep]
  rfl

set_option backward.proofsInPublic true in
set_option maxHeartbeats 8000000 in
/-- A middle point: the product with its block of weights. -/
theorem run_next (k1 : ¬(Scalar.cmpi .ne (Scalar.extui (Scalar.cmpi .eq (BitVec.ofNat 32 (i 1).val) 0#32)) (0#32 : BitVec 32) : BitVec 1) = 1#1) (k2 : ¬k0_cond2 i = 1#1)
    (s : Vec F S512x2048 .bf16) (u : Vec F S4x512x512 .f32) (K : PUnit → sProp 𝕄) :
    iprop(held c a2 a3 a4 a5 a6 a7 a8 a9 a10 a11 a12 a13 a14 a15 a16 x0 x1 x2 x3 x4 x5 x6 x7 x8 x9 x10 x11 x12 x13 x14
        ∗ owns (c : Thread nD τ) a19 fullShare s ∗ owns (c : Thread nD τ) a20 fullShare u
        ∗ (iprop(held c a2 a3 a4 a5 a6 a7 a8 a9 a10 a11 a12 a13 a14 a15 a16 x0 x1 x2 x3 x4 x5 x6 x7 x8 x9 x10 x11 x12 x13 x14
            ∗ owns (c : Thread nD τ) a19 fullShare s
            ∗ owns (c : Thread nD τ) a20 fullShare (put (i 1) u (k0_pay2 s x14))) -∗ K ⟨⟩))
      ⊢ wp frame (wpE (defs₀ (F := F)) Variants.none c none) Set.univ
          (cc0_out_proj i a2 h2 a3 h3 a4 h4 a5 h5 a6 h6 a7 h7 a8 h8 a9 h9 a10 h10 a11 h11 a12 h12 a13 h13 a14 h14 a15 h15 a16 h16 a17 h17 a18 h18 a19 h19 a20 h20) K := by
  unfold held owns
  rw [cc0_out_proj_eq_skeleton]; unfold cc0_out_proj_skel
  iintro ⟨⟨H0, H1, H2, H3, H4, H5, H6, H7, H8, H9, H10, H11, H12, H13, H14⟩, ⟨%f19, %hf19, HO19⟩, ⟨%f20, %hf20, HO20⟩, Hk⟩
  obtain rfl := h19.eq_unread hf19
  obtain rfl := h20.eq_unread hf20
  sl_exec! (disch := first | exact k1 | exact k2)
  sl_step
  iapply Hk
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HO19]
  · iexists _; isplitr
    swap; · iexact HO19
    ipureintro
    exact hf19
  iexists _; isplitr
  swap; · iexact HO20
  ipureintro
  refine (read_put a20.view _ _ _ (i 1) (k0_off1_eq i) _).trans ?_
  simp (disch := decide) only [View.ld_unit_lit', View.readAt_eq_ld, View.read_rep, hf19, hf20]

end

end Cert.Kernel7Ideal.Out

end
-- ==== Proof.OutLast.lean ====
/-
  The projection out of the layer's streams at its tile's last point.
-/
module

public import proofs.«01_k».proof.Proof.OutTiles
public import Idealize.ShloMosaic.Lib.Pipeline.Kit
public import Idealize.ShloMosaic.Lib.Pipeline.ValueKit
public import Idealize.ShloMosaic.Lib.Pipeline.FrameBody
public import Idealize.ShloMosaic.Lib.Pipeline.ReadBack
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Kernel7Ideal.Out

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (a2 : Memref sig .tc .vmem S512x512 .bf16) (h2 : a2.IsWhole) (a3 : Memref sig .tc .vmem S512x1024 .bf16) (h3 : a3.IsWhole)
  (a4 : Memref sig .tc .vmem S512x512 .f32) (h4 : a4.IsWhole) (a5 : Memref sig .tc .vmem S512x512 .f32) (h5 : a5.IsWhole)
  (a6 : Memref sig .tc .vmem S512x512 .f32) (h6 : a6.IsWhole) (a7 : Memref sig .tc .vmem S512x512 .f32) (h7 : a7.IsWhole)
  (a8 : Memref sig .tc .vmem S512x2048 .f32) (h8 : a8.IsWhole) (a9 : Memref sig .tc .vmem S1x1x1x2048 .f32) (h9 : a9.IsWhole)
  (a10 : Memref sig .tc .vmem S1x1x1x2048 .f32) (h10 : a10.IsWhole) (a11 : Memref sig .tc .vmem S1x1x1x2048 .f32) (h11 : a11.IsWhole)
  (a12 : Memref sig .tc .vmem S1x1x512 .f32) (h12 : a12.IsWhole) (a13 : Memref sig .tc .vmem S1x1x512 .f32) (h13 : a13.IsWhole)
  (a14 : Memref sig .tc .vmem S1x1x2048 .f32) (h14 : a14.IsWhole) (a15 : Memref sig .tc .vmem S1x1x2048 .f32) (h15 : a15.IsWhole)
  (a16 : Memref sig .tc .vmem S1x2048x512 .bf16) (h16 : a16.IsWhole) (a17 : Memref sig .tc .vmem S512x2048 .f32) (h17 : a17.IsWhole)
  (a18 : Memref sig .tc .vmem S512x2048 .bf16) (h18 : a18.IsWhole) (a19 : Memref sig .tc .vmem S512x2048 .bf16) (h19 : a19.IsWhole)
  (a20 : Memref sig .tc .vmem S4x512x512 .f32) (h20 : a20.IsWhole)
  (x0 : Vec F S512x512 .bf16) (x1 : Vec F S512x1024 .bf16) (x2 : Vec F S512x512 .f32) (x3 : Vec F S512x512 .f32)
  (x4 : Vec F S512x512 .f32) (x5 : Vec F S512x512 .f32) (x6 : Vec F S512x2048 .f32) (x7 : Vec F S1x1x1x2048 .f32)
  (x8 : Vec F S1x1x1x2048 .f32) (x9 : Vec F S1x1x1x2048 .f32) (x10 : Vec F S1x1x512 .f32) (x11 : Vec F S1x1x512 .f32)
  (x12 : Vec F S1x1x2048 .f32) (x13 : Vec F S1x1x2048 .f32) (x14 : Vec F S1x2048x512 .bf16)

set_option backward.proofsInPublic true in
set_option maxHeartbeats 8000000 in
/-- Last point of a tile: the last product, then both output tiles. -/
theorem run_last (e3 : (i 1).val = 3)
    (k1 : ¬(Scalar.cmpi .ne (Scalar.extui (Scalar.cmpi .eq (BitVec.ofNat 32 (i 1).val) 0#32)) (0#32 : BitVec 32) : BitVec 1) = 1#1) (k2 : k0_cond2 i = 1#1)
    (y : Vec F S512x2048 .f32) (z : Vec F S512x2048 .bf16) (s : Vec F S512x2048 .bf16) (u : Vec F S4x512x512 .f32) (K : PUnit → sProp 𝕄) :
    iprop(held c a2 a3 a4 a5 a6 a7 a8 a9 a10 a11 a12 a13 a14 a15 a16 x0 x1 x2 x3 x4 x5 x6 x7 x8 x9 x10 x11 x12 x13 x14
        ∗ owns (c : Thread nD τ) a17 fullShare y ∗ owns (c : Thread nD τ) a18 fullShare z
        ∗ owns (c : Thread nD τ) a19 fullShare s ∗ owns (c : Thread nD τ) a20 fullShare u
        ∗ (iprop(held c a2 a3 a4 a5 a6 a7 a8 a9 a10 a11 a12 a13 a14 a15 a16 x0 x1 x2 x3 x4 x5 x6 x7 x8 x9 x10 x11 x12 x13 x14
            ∗ owns (c : Thread nD τ) a17 fullShare (sums x6 x7 x12 (blk 0 u) (blk 1 u) (blk 2 u) (k0_pay2 s x14))
            ∗ owns (c : Thread nD τ) a18 fullShare (norms x6 x7 x8 x9 x12 x13 (blk 0 u) (blk 1 u) (blk 2 u) (k0_pay2 s x14))
            ∗ owns (c : Thread nD τ) a19 fullShare s
            ∗ (∃ u', owns (c : Thread nD τ) a20 fullShare u')) -∗ K ⟨⟩))
      ⊢ wp frame (wpE (defs₀ (F := F)) Variants.none c none) Set.univ
          (cc0_out_proj i a2 h2 a3 h3 a4 h4 a5 h5 a6 h6 a7 h7 a8 h8 a9 h9 a10 h10 a11 h11 a12 h12 a13 h13 a14 h14 a15 h15 a16 h16 a17 h17 a18 h18 a19 h19 a20 h20) K := by
  unfold held owns
  rw [cc0_out_proj_eq_skeleton]; unfold cc0_out_proj_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  iintro ⟨⟨H0, H1, H2, H3, H4, H5, H6, H7, H8, H9, H10, H11, H12, H13, H14⟩, ⟨%f17, %hf17, HO17⟩, ⟨%f18, %hf18, HO18⟩, ⟨%f19, %hf19, HO19⟩, ⟨%f20, %hf20, HO20⟩, Hk⟩
  obtain rfl := h17.eq_unread hf17
  obtain rfl := h18.eq_unread hf18
  obtain rfl := h19.eq_unread hf19
  obtain rfl := h20.eq_unread hf20
  sl_exec! (disch := first | exact k1 | exact k2)
  sl_step
  have w0 : run_last.sl.v14 c i a16 a19 h19 a20 h20 x14 s u = blk 0 u := by
    delta run_last.sl.v14 run_last.sl.HO20_1
    rw [View.readAt_eq_ld, read_put a20.view _ _ _ (i 1) (k0_off1_eq i)]
    refine (ld_blk 0 _ _).trans ?_
    refine (blk_put_other (i 1) 0 (fun h => absurd (congrArg Fin.val h) (by rw [e3]; decide)) _ _).trans ?_
    rw [hf20]
  have w1 : run_last.sl.v23 c i a16 a19 h19 a20 h20 x14 s u = blk 1 u := by
    delta run_last.sl.v23 run_last.sl.HO20_1
    rw [View.readAt_eq_ld, read_put a20.view _ _ _ (i 1) (k0_off1_eq i)]
    refine (ld_blk 1 _ _).trans ?_
    refine (blk_put_other (i 1) 1 (fun h => absurd (congrArg Fin.val h) (by rw [e3]; decide)) _ _).trans ?_
    rw [hf20]
  have w2 : run_last.sl.v31 c i a16 a19 h19 a20 h20 x14 s u = blk 2 u := by
    delta run_last.sl.v31 run_last.sl.HO20_1
    rw [View.readAt_eq_ld, read_put a20.view _ _ _ (i 1) (k0_off1_eq i)]
    refine (ld_blk 2 _ _).trans ?_
    refine (blk_put_other (i 1) 2 (fun h => absurd (congrArg Fin.val h) (by rw [e3]; decide)) _ _).trans ?_
    rw [hf20]
  have w3 : run_last.sl.v39 c i a16 a19 h19 a20 h20 x14 s u = k0_pay2 s x14 := by
    delta run_last.sl.v39 run_last.sl.HO20_1
    rw [View.readAt_eq_ld, read_put a20.view _ _ _ (i 1) (k0_off1_eq i)]
    refine (ld_blk 3 _ _).trans ?_
    refine (show ∀ (j k : Fin 4) (h : k = j) (f : Vec F S4x512x512 .f32) (p : Vec F S1x512x512 .f32), blk k (put j f p) = p from
      fun j k h f p => by subst h; exact blk_put_same k f p) (i 1) 3 (Fin.ext e3.symm) _ _ |>.trans ?_
    simp (disch := decide) only [View.ld_unit_lit', View.readAt_eq_ld, View.read_rep, hf19]
  have v0 : run_last.sl.v134 c i a8 a9 a14 a16 a17 a19 h19 a20 h20 x6 x7 x12 x14 s u = sum0 x6 x7 x12 (blk 0 u) (blk 1 u) (blk 2 u) (k0_pay2 s x14) := by
    delta run_last.sl.v134 run_last.sl.HO17_4
    simp (disch := decide) only [View.readCov_cons_toLoadRect, View.readCov_skip, w0, w1, w2, w3]
    simp only [View.readAt_eq_ld, View.read_rep]
    rfl
  have v1 : run_last.sl.v154 c i a8 a9 a14 a16 a17 a19 h19 a20 h20 x6 x7 x12 x14 s u = sum1 x6 x7 x12 (blk 0 u) (blk 1 u) (blk 2 u) (k0_pay2 s x14) := by
    delta run_last.sl.v154 run_last.sl.HO17_4
    simp (disch := decide) only [View.readCov_cons_toLoadRect, View.readCov_skip, w0, w1, w2, w3]
    simp only [View.readAt_eq_ld, View.read_rep]
    rfl
  have v2 : run_last.sl.v174 c i a8 a9 a14 a16 a17 a19 h19 a20 h20 x6 x7 x12 x14 s u = sum2 x6 x7 x12 (blk 0 u) (blk 1 u) (blk 2 u) (k0_pay2 s x14) := by
    delta run_last.sl.v174 run_last.sl.HO17_4
    simp (disch := decide) only [View.readCov_cons_toLoadRect, View.readCov_skip, w0, w1, w2, w3]
    simp only [View.readAt_eq_ld, View.read_rep]
    rfl
  have v3 : run_last.sl.v194 c i a8 a9 a14 a16 a17 a19 h19 a20 h20 x6 x7 x12 x14 s u = sum3 x6 x7 x12 (blk 0 u) (blk 1 u) (blk 2 u) (k0_pay2 s x14) := by
    delta run_last.sl.v194 run_last.sl.HO17_4
    simp (disch := decide) only [View.readCov_cons_toLoadRect, View.readCov_skip, w0, w1, w2, w3]
    simp only [View.readAt_eq_ld, View.read_rep]
    rfl
  iapply Hk
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HO17]
  · iexists _; isplitr
    swap; · iexact HO17
    ipureintro
    delta run_last.sl.HO17_4
    refine (read_wide a17.view _ _ _ _ _ _ _ _ _).trans ?_
    simp only [w0, w1, w2, w3, View.readAt_eq_ld, View.read_rep]
    rfl
  isplitl [HO18]
  · iexists _; isplitr
    swap; · iexact HO18
    ipureintro
    delta run_last.sl.HO18_4
    refine (read_wide a18.view _ _ _ _ _ _ _ _ _).trans ?_
    simp only [w0, w1, w2, w3, v0, v1, v2, v3, View.readAt_eq_ld, View.read_rep]
    rfl
  isplitl [HO19]
  · iexists _; isplitr
    swap; · iexact HO19
    ipureintro
    exact hf19
  iexists _; iexists _; isplitr
  swap; · iexact HO20
  ipureintro
  rfl

end

end Cert.Kernel7Ideal.Out

end
-- ==== Proof.OutFrame.lean ====
/-
  The projection out of the layer's streams runs, ends and leaves its arguments alone.

  The grid walks 40 tiles of rows, and for each tile 4 blocks of columns. Between the points of a tile the kept rows are
  the streams its first point put side by side, and the kept products those of the points that have run. The last point
  stores both output tiles, which are written back after it.
-/
module

public import proofs.«01_k».proof.Proof.OutRuns
public import proofs.«01_k».proof.Proof.OutLast
public import proofs.«01_k».proof.Proof.Gen.Kernel7Ideal.Frame
public import Idealize.ShloMosaic.Lib.Pipeline.TableIdle
public import Idealize.ShloMosaic.Adequacy
public import Idealize.ShloMosaic.Init
public import Idealize.ShloMosaic.Lib.Claim
public import Idealize.ShloMosaic.Lib.Pipeline.Launch
public import Idealize.ShloMosaic.Lib.Pipeline.Frame
public import Idealize.ShloMosaic.Lib.Pipeline.Quiescent
public import Idealize.ShloMosaic.Lib.Quiescent

@[expose] public section

set_option maxRecDepth 16384

noncomputable section

namespace Cert.Kernel7Ideal.Out

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The schedule -/

theorem crd_eq : ∀ t : Fin grid0.N, (grid0.coords t 0).val = t.val / 4 ∧ (grid0.coords t 1).val = t.val % 4 := by decide +kernel

theorem first_iff (i : grid0.Coords) :
    (Scalar.cmpi .ne (Scalar.extui (Scalar.cmpi .eq (BitVec.ofNat 32 (i 1).val) 0#32)) (0#32 : BitVec 32) : BitVec 1) = 1#1
      ↔ (i 1).val = 0 :=
  (by decide : ∀ j : Fin 4, (Scalar.cmpi .ne (Scalar.extui (Scalar.cmpi .eq (BitVec.ofNat 32 j.val) 0#32)) (0#32 : BitVec 32) : BitVec 1) = 1#1
    ↔ j.val = 0) (i 1)

theorem cond2_iff (i : grid0.Coords) : k0_cond2 i = 1#1 ↔ (i 1).val = 3 :=
  (by decide : ∀ j : Fin 4, Scalar.cmpi .ne (Scalar.extui (Scalar.cmpi .eq (BitVec.ofNat 32 j.val) 3#32)) 0#32 = 1#1 ↔ j.val = 3) (i 1)

theorem first_at (t : Fin cfg0.N) :
    (Scalar.cmpi .ne (Scalar.extui (Scalar.cmpi .eq (BitVec.ofNat 32 (grid0.coords t 1).val) 0#32)) (0#32 : BitVec 32) : BitVec 1) = 1#1
      ↔ t.val % 4 = 0 := by
  rw [first_iff, (crd_eq t).2]

theorem cond2_at (t : Fin cfg0.N) : k0_cond2 (grid0.coords t) = 1#1 ↔ t.val % 4 = 3 := by
  rw [cond2_iff, (crd_eq t).2]

/-- The output tiles are left alone at every point of a tile but the last. -/
theorem idle_15 (t : Fin cfg0.N) : cfg0.idle 15 (cfg0.grid.coords t) = decide (t.val % 4 ≠ 3) := by
  show (!(k0_cond2 (grid0.coords t) == 1#1)) = _
  rw [Bool.eq_iff_iff]
  simp only [Bool.not_eq_true', beq_eq_false_iff_ne, ne_eq, decide_eq_true_eq, cond2_at]

theorem idle_16 (t : Fin cfg0.N) : cfg0.idle 16 (cfg0.grid.coords t) = decide (t.val % 4 ≠ 3) := by
  show (!(k0_cond2 (grid0.coords t) == 1#1)) = _
  rw [Bool.eq_iff_iff]
  simp only [Bool.not_eq_true', beq_eq_false_iff_ne, ne_eq, decide_eq_true_eq, cond2_at]

theorem flush_15 (t : Fin cfg0.N) : (cfg0.win 15).flush t = decide (t.val % 4 = 3) := by
  rw [Bool.eq_iff_iff, decide_eq_true_eq]; exact flush0_15 t

theorem flush_16 (t : Fin cfg0.N) : (cfg0.win 16).flush t = decide (t.val % 4 = 3) := by
  rw [Bool.eq_iff_iff, decide_eq_true_eq]; exact flush0_16 t

/-- Point `k` of `t`'s row tile. -/
def pt (t : Fin cfg0.N) (k : Fin 4) : Fin cfg0.N :=
  ⟨4 * (t.val / 4) + k.val, by have h : t.val < 160 := lt_of_lt_of_eq t.isLt N_0; exact lt_of_lt_of_eq (by omega) N_0.symm⟩

theorem pt_zero (t : Fin cfg0.N) (h : t.val % 4 = 0) : pt t 0 = t := Fin.ext (by show 4 * (t.val / 4) + 0 = t.val; omega)

theorem pt_self (t : Fin cfg0.N) (k : Fin 4) (h : t.val % 4 = k.val) : pt t k = t :=
  Fin.ext (by show 4 * (t.val / 4) + k.val = t.val; omega)

theorem pt_succ (t t' : Fin cfg0.N) (h : t'.val % 4 ≠ 0) (e : t'.val = t.val + 1) (k : Fin 4) : pt t' k = pt t k :=
  Fin.ext (by show 4 * (t'.val / 4) + k.val = 4 * (t.val / 4) + k.val; omega)

/-! ## What the buffers hold -/

variable (m : (ℓ : Loc nD τ sig) → Buf (Elt F) ℓ) (ρ : Dev nD → PrngReg)

/-- The rows a tile keeps, computed at point `t`. -/
def rows (c : Dev nD) (t : Fin cfg0.N) : Vec F S512x2048 .bf16 :=
  streams (iblk m c 0 t) (iblk m c 1 t) (iblk m c 2 t) (iblk m c 3 t) (iblk m c 4 t) (iblk m c 5 t) (iblk m c 10 t) (iblk m c 11 t)

/-- The product computed at point `k` of `t`'s tile. -/
def prod (c : Dev nD) (t : Fin cfg0.N) (k : Fin 4) : Vec F S1x512x512 .f32 := k0_pay2 (rows m c (pt t 0)) (iblk m c 14 (pt t k))

/-- The two tiles stored at point `t`, its tile's last. -/
def tile (c : Dev nD) (t : Fin cfg0.N) : Vec F S512x2048 .f32 :=
  sums (iblk m c 6 t) (iblk m c 7 t) (iblk m c 12 t) (prod m c t 0) (prod m c t 1) (prod m c t 2) (prod m c t 3)

def tile' (c : Dev nD) (t : Fin cfg0.N) : Vec F S512x2048 .bf16 :=
  norms (iblk m c 6 t) (iblk m c 7 t) (iblk m c 8 t) (iblk m c 9 t) (iblk m c 12 t) (iblk m c 13 t)
    (prod m c t 0) (prod m c t 1) (prod m c t 2) (prod m c t 3)

/-- The kept rows' buffer, and the kept products'. -/
abbrev kept : Memref sig .tc .vmem S512x2048 .bf16 := Memref.whole cc0_scratch0
abbrev kept' : Memref sig .tc .vmem S4x512x512 .f32 := Memref.whole cc0_scratch1

/-- What they hold before point `t`. -/
def Holds (c : Dev nD) (t : Fin cfg0.N) (s : Vec F S512x2048 .bf16) (u : Vec F S4x512x512 .f32) : Prop :=
  s = rows m c (pt t 0) ∧ ∀ k : Fin 4, k.val < t.val % 4 → blk k u = prod m c t k

/-- Before point `n`, if a point of the tile has run, they hold what those points computed. -/
def Phi (c : Dev nD) (n : ℕ) : sProp 𝕄 :=
  iprop(∃ s, ∃ u, ⌜∀ t : Fin cfg0.N, t.val = n → n % 4 ≠ 0 → Holds m c t s u⌝ ∗ owns (c : Thread nD τ) kept fullShare s
    ∗ owns (c : Thread nD τ) kept' fullShare u ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => tile m c t
    | ⟨16, _⟩ => tile' m c t
    | ⟨n + 17, h⟩ => absurd h (by show ¬n + 17 < 17; omega)
  Φ t := Phi m c t.val
  q w := Pipeline.shareOf spec0 w
  owed _ := 0

theorem A_eq (c : Dev nD) (w) : (dats m 0 c).A w = V m c (Pipeline.arrRef spec0 w) := rfl
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = iblk m c 11 t := rfl
theorem after_12 (c : Dev nD) (t : Fin cfg0.N) : (dats m 0 c).after 12 t = iblk m c 12 t := rfl
theorem after_13 (c : Dev nD) (t : Fin cfg0.N) : (dats m 0 c).after 13 t = iblk m c 13 t := rfl
theorem after_14 (c : Dev nD) (t : Fin cfg0.N) : (dats m 0 c).after 14 t = iblk m c 14 t := rfl
theorem after_15 (c : Dev nD) (t : Fin cfg0.N) : (dats m 0 c).after 15 t = tile m c t := rfl
theorem after_16 (c : Dev nD) (t : Fin cfg0.N) : (dats m 0 c).after 16 t = tile' m c t := rfl

theorem before_0 (c : Dev nD) (t : Fin cfg0.N) (d) : (dats m 0 c).before 0 t d = iblk m c 0 t := before0_0_of m _ rfl (after_0 m c) t d
theorem before_1 (c : Dev nD) (t : Fin cfg0.N) (d) : (dats m 0 c).before 1 t d = iblk m c 1 t := before0_1_of m _ rfl (after_1 m c) t d
theorem before_2 (c : Dev nD) (t : Fin cfg0.N) (d) : (dats m 0 c).before 2 t d = iblk m c 2 t := before0_2_of m _ rfl (after_2 m c) t d
theorem before_3 (c : Dev nD) (t : Fin cfg0.N) (d) : (dats m 0 c).before 3 t d = iblk m c 3 t := before0_3_of m _ rfl (after_3 m c) t d
theorem before_4 (c : Dev nD) (t : Fin cfg0.N) (d) : (dats m 0 c).before 4 t d = iblk m c 4 t := before0_4_of m _ rfl (after_4 m c) t d
theorem before_5 (c : Dev nD) (t : Fin cfg0.N) (d) : (dats m 0 c).before 5 t d = iblk m c 5 t := before0_5_of m _ rfl (after_5 m c) t d
theorem before_6 (c : Dev nD) (t : Fin cfg0.N) (d) : (dats m 0 c).before 6 t d = iblk m c 6 t := before0_6_of m _ rfl (after_6 m c) t d
theorem before_7 (c : Dev nD) (t : Fin cfg0.N) (d) : (dats m 0 c).before 7 t d = iblk m c 7 t := before0_7_of m _ rfl (after_7 m c) t d
theorem before_8 (c : Dev nD) (t : Fin cfg0.N) (d) : (dats m 0 c).before 8 t d = iblk m c 8 t := before0_8_of m _ rfl (after_8 m c) t d
theorem before_9 (c : Dev nD) (t : Fin cfg0.N) (d) : (dats m 0 c).before 9 t d = iblk m c 9 t := before0_9_of m _ rfl (after_9 m c) t d
theorem before_10 (c : Dev nD) (t : Fin cfg0.N) (d) : (dats m 0 c).before 10 t d = iblk m c 10 t := before0_10_of m _ rfl (after_10 m c) t d
theorem before_11 (c : Dev nD) (t : Fin cfg0.N) (d) : (dats m 0 c).before 11 t d = iblk m c 11 t := before0_11_of m _ rfl (after_11 m c) t d
theorem before_12 (c : Dev nD) (t : Fin cfg0.N) (d) : (dats m 0 c).before 12 t d = iblk m c 12 t := before0_12_of m _ rfl (after_12 m c) t d
theorem before_13 (c : Dev nD) (t : Fin cfg0.N) (d) : (dats m 0 c).before 13 t d = iblk m c 13 t := before0_13_of m _ rfl (after_13 m c) t d
theorem before_14 (c : Dev nD) (t : Fin cfg0.N) (d) : (dats m 0 c).before 14 t d = iblk m c 14 t := before0_14_of m _ rfl (after_14 m c) t d

/-! ## The body at every point -/

abbrev leaves15 (c : Dev nD) (t : Fin cfg0.N) : sProp 𝕄 :=
  match cfg0.idle 15 (cfg0.grid.coords t) with
  | true =>
    match (cfg0.win 15).flush t with
    | false => iprop(∃ d, owns (c : Thread nD τ) (st0_15 t) fullShare ((dats m 0 c).before 15 t d))
    | true => owns (c : Thread nD τ) (st0_15 t) fullShare ((dats m 0 c).after 15 t)
  | false => owns (c : Thread nD τ) (st0_15 t) fullShare ((dats m 0 c).after 15 t)

theorem post_15_last (c : Dev nD) (t : Fin cfg0.N) (h : t.val % 4 = 3) :
    owns (c : Thread nD τ) (st0_15 t) fullShare (tile m c t) ⊢ leaves15 m c t := by
  unfold leaves15
  rw [show cfg0.idle 15 (cfg0.grid.coords t) = false by rw [idle_15]; simp [h]]
  dsimp only
  rw [after_15]

theorem post_15_idle (c : Dev nD) (t : Fin cfg0.N) (h : t.val % 4 ≠ 3) (d) :
    owns (c : Thread nD τ) (st0_15 t) fullShare ((dats m 0 c).before 15 t d) ⊢ leaves15 m c t := by
  unfold leaves15
  rw [show cfg0.idle 15 (cfg0.grid.coords t) = true by rw [idle_15]; simp [h],
    show (cfg0.win 15).flush t = false by rw [flush_15]; simp [h]]
  dsimp only
  iintro H; iexists d; iexact H

abbrev leaves16 (c : Dev nD) (t : Fin cfg0.N) : sProp 𝕄 :=
  match cfg0.idle 16 (cfg0.grid.coords t) with
  | true =>
    match (cfg0.win 16).flush t with
    | false => iprop(∃ d, owns (c : Thread nD τ) (st0_16 t) fullShare ((dats m 0 c).before 16 t d))
    | true => owns (c : Thread nD τ) (st0_16 t) fullShare ((dats m 0 c).after 16 t)
  | false => owns (c : Thread nD τ) (st0_16 t) fullShare ((dats m 0 c).after 16 t)

theorem post_16_last (c : Dev nD) (t : Fin cfg0.N) (h : t.val % 4 = 3) :
    owns (c : Thread nD τ) (st0_16 t) fullShare (tile' m c t) ⊢ leaves16 m c t := by
  unfold leaves16
  rw [show cfg0.idle 16 (cfg0.grid.coords t) = false by rw [idle_16]; simp [h]]
  dsimp only
  rw [after_16]

theorem post_16_idle (c : Dev nD) (t : Fin cfg0.N) (h : t.val % 4 ≠ 3) (d) :
    owns (c : Thread nD τ) (st0_16 t) fullShare ((dats m 0 c).before 16 t d) ⊢ leaves16 m c t := by
  unfold leaves16
  rw [show cfg0.idle 16 (cfg0.grid.coords t) = true by rw [idle_16]; simp [h],
    show (cfg0.win 16).flush t = false by rw [flush_16]; simp [h]]
  dsimp only
  iintro H; iexists d; iexact H

set_option maxHeartbeats 8000000 in
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d))
        ∗ (∃ d, owns (c : Thread nD τ) (st0_8 t) fullShare ((dats m 0 c).before 8 t d))
        ∗ (∃ d, owns (c : Thread nD τ) (st0_9 t) fullShare ((dats m 0 c).before 9 t d))
        ∗ (∃ d, owns (c : Thread nD τ) (st0_10 t) fullShare ((dats m 0 c).before 10 t d))
        ∗ (∃ d, owns (c : Thread nD τ) (st0_11 t) fullShare ((dats m 0 c).before 11 t d))
        ∗ (∃ d, owns (c : Thread nD τ) (st0_12 t) fullShare ((dats m 0 c).before 12 t d))
        ∗ (∃ d, owns (c : Thread nD τ) (st0_13 t) fullShare ((dats m 0 c).before 13 t d))
        ∗ (∃ d, owns (c : Thread nD τ) (st0_14 t) fullShare ((dats m 0 c).before 14 t d))
        ∗ (∃ d, owns (c : Thread nD τ) (st0_15 t) fullShare ((dats m 0 c).before 15 t d))
        ∗ (∃ d, owns (c : Thread nD τ) (st0_16 t) fullShare ((dats m 0 c).before 16 t d)))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)
            ∗ owns (c : Thread nD τ) (st0_7 t) fullShare ((dats m 0 c).after 7 t)
            ∗ owns (c : Thread nD τ) (st0_8 t) fullShare ((dats m 0 c).after 8 t)
            ∗ owns (c : Thread nD τ) (st0_9 t) fullShare ((dats m 0 c).after 9 t)
            ∗ owns (c : Thread nD τ) (st0_10 t) fullShare ((dats m 0 c).after 10 t)
            ∗ owns (c : Thread nD τ) (st0_11 t) fullShare ((dats m 0 c).after 11 t)
            ∗ owns (c : Thread nD τ) (st0_12 t) fullShare ((dats m 0 c).after 12 t)
            ∗ owns (c : Thread nD τ) (st0_13 t) fullShare ((dats m 0 c).after 13 t)
            ∗ owns (c : Thread nD τ) (st0_14 t) fullShare ((dats m 0 c).after 14 t)
            ∗ leaves15 m c t ∗ leaves16 m c t) := by
  simp only [before_0, before_1, before_2, before_3, before_4, before_5, before_6, before_7, before_8, before_9, before_10, before_11, before_12, before_13, before_14]
  rewrite [show (dats m 0 c).Φ t.succ = Phi m c (t.val + 1) from rfl, show (dats m 0 c).Φ t.castSucc = Phi m c t.val from rfl,
    show (dats m 0 c).owesAt () t.succ = (dats m 0 c).owesAt () t.castSucc from rfl,
    after_0, after_1, after_2, after_3, after_4, after_5, after_6, after_7, after_8, after_9, after_10, after_11, after_12, after_13, after_14]
  unfold Phi
  iintro ⟨⟨%s, %u, %hs, HS, HU, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hj : (grid0.coords t 1).val = t.val % 4 := (crd_eq t).2
  by_cases h : t.val % 4 = 0
  · have hk : ¬k0_cond2 (grid0.coords t) = 1#1 := fun k => by have := (cond2_at t).1 k; omega
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) kept (Memref.isWhole_whole _) kept' (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((first_at t).2 h) hk s u _)
    unfold held
    isplitl [H0 H1 H2 H3 H4 H5 H6 H7 H8 H9 H10 H11 H12 H13 H14]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      iapply rep_of_owns; iexact H14
    isplitl [HS]; · iexact HS
    isplitl [HU]; · iexact HU
    iintro ⟨⟨H0, H1, H2, H3, H4, H5, H6, H7, H8, H9, H10, H11, H12, H13, H14⟩, HS, HU⟩
    isplitl [HS HU HR]
    · iexists (rows m c t); iexists (put (grid0.coords t 1) u (k0_pay2 (rows m c t) (iblk m c 14 t)))
      isplitr
      · ipureintro
        intro t' e h'
        have e0 : pt t' 0 = t := (pt_succ t t' (by rw [e]; exact h') e 0).trans (pt_zero t h)
        refine ⟨by rw [e0], fun k hk' => ?_⟩
        have hk0 : k = grid0.coords t 1 := Fin.ext (by rw [hj, h]; omega)
        have hkv : k.val = (grid0.coords t 1).val := congrArg Fin.val hk0
        have ek : pt t' k = t := (pt_succ t t' (by rw [e]; exact h') e k).trans (pt_self t k (by omega))
        refine (show blk k (put (grid0.coords t 1) u (k0_pay2 (rows m c t) (iblk m c 14 t))) = k0_pay2 (rows m c t) (iblk m c 14 t) by
          rw [hk0]; exact blk_put_same _ _ _).trans ?_
        unfold prod
        rw [e0, ek]
      isplitl [HS]; · iexact HS
      isplitl [HU]; · iexact HU
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iapply owns_of_rep; iexact H12
    isplitl [H13]; · iapply owns_of_rep; iexact H13
    isplitl [H14]; · iapply owns_of_rep; iexact H14
    isplitl [H15]; · iapply (post_15_idle m c t (by omega) d15); iexact H15
    iapply (post_16_idle m c t (by omega) d16); iexact H16
  have hs' := hs t rfl h
  have hk1 := fun k => h ((first_at t).1 k)
  by_cases h3 : t.val % 4 = 3
  · have e3 : (grid0.coords t 1).val = 3 := hj.trans h3
    iapply (run_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) kept (Memref.isWhole_whole _) kept' (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) e3 hk1 ((cond2_at t).2 h3) ((dats m 0 c).before 15 t d15) ((dats m 0 c).before 16 t d16) s u _)
    unfold held
    isplitl [H0 H1 H2 H3 H4 H5 H6 H7 H8 H9 H10 H11 H12 H13 H14]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      iapply rep_of_owns; iexact H14
    isplitl [H15]; · iexact H15
    isplitl [H16]; · iexact H16
    isplitl [HS]; · iexact HS
    isplitl [HU]; · iexact HU
    iintro ⟨⟨H0, H1, H2, H3, H4, H5, H6, H7, H8, H9, H10, H11, H12, H13, H14⟩, H15, H16, HS, ⟨%u', HU⟩⟩
    isplitl [HS HU HR]
    · iexists s; iexists u'
      isplitr
      · ipureintro
        intro t' e h'
        omega
      isplitl [HS]; · iexact HS
      isplitl [HU]; · iexact HU
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iapply owns_of_rep; iexact H12
    isplitl [H13]; · iapply owns_of_rep; iexact H13
    isplitl [H14]; · iapply owns_of_rep; iexact H14
    have e0 : blk 0 u = prod m c t 0 := hs'.2 0 (by show 0 < t.val % 4; omega)
    have e1 : blk 1 u = prod m c t 1 := hs'.2 1 (by show 1 < t.val % 4; omega)
    have e2 : blk 2 u = prod m c t 2 := hs'.2 2 (by show 2 < t.val % 4; omega)
    have e4 : k0_pay2 s (iblk m c 14 t) = prod m c t 3 := by
      unfold prod
      rw [hs'.1, pt_self t 3 h3]
    rw [e0, e1, e2, e4]
    isplitl [H15]; · iapply (post_15_last m c t h3); iexact H15
    iapply (post_16_last m c t h3); iexact H16
  · have hk : ¬k0_cond2 (grid0.coords t) = 1#1 := fun k => h3 ((cond2_at t).1 k)
    iapply (run_next c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) kept (Memref.isWhole_whole _) kept' (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) hk1 hk s u _)
    unfold held
    isplitl [H0 H1 H2 H3 H4 H5 H6 H7 H8 H9 H10 H11 H12 H13 H14]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [H9]; · iapply rep_of_owns; iexact H9
      isplitl [H10]; · iapply rep_of_owns; iexact H10
      isplitl [H11]; · iapply rep_of_owns; iexact H11
      isplitl [H12]; · iapply rep_of_owns; iexact H12
      isplitl [H13]; · iapply rep_of_owns; iexact H13
      iapply rep_of_owns; iexact H14
    isplitl [HS]; · iexact HS
    isplitl [HU]; · iexact HU
    iintro ⟨⟨H0, H1, H2, H3, H4, H5, H6, H7, H8, H9, H10, H11, H12, H13, H14⟩, HS, HU⟩
    isplitl [HS HU HR]
    · iexists s; iexists (put (grid0.coords t 1) u (k0_pay2 s (iblk m c 14 t)))
      isplitr
      · ipureintro
        intro t' e h'
        have hp := pt_succ t t' (by rw [e]; exact h') e
        refine ⟨by rw [hp]; exact hs'.1, fun k hk' => ?_⟩
        by_cases hkj : k = grid0.coords t 1
        · have hkv : k.val = (grid0.coords t 1).val := congrArg Fin.val hkj
          have ek : pt t' k = t := (hp k).trans (pt_self t k (by omega))
          refine (show blk k (put (grid0.coords t 1) u (k0_pay2 s (iblk m c 14 t))) = k0_pay2 s (iblk m c 14 t) by
            rw [hkj]; exact blk_put_same _ _ _).trans ?_
          unfold prod
          rw [ek, hp, hs'.1]
        · have hv : k.val ≠ (grid0.coords t 1).val := fun e => hkj (Fin.ext e)
          rw [blk_put_other _ _ hkj, hs'.2 k (by omega)]
          unfold prod
          rw [hp, hp]
      isplitl [HS]; · iexact HS
      isplitl [HU]; · iexact HU
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]; · iapply owns_of_rep; iexact H9
    isplitl [H10]; · iapply owns_of_rep; iexact H10
    isplitl [H11]; · iapply owns_of_rep; iexact H11
    isplitl [H12]; · iapply owns_of_rep; iexact H12
    isplitl [H13]; · iapply owns_of_rep; iexact H13
    isplitl [H14]; · iapply owns_of_rep; iexact H14
    isplitl [H15]; · iapply (post_15_idle m c t (by omega) d15); iexact H15
    iapply (post_16_idle m c t (by omega) d16); iexact H16

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The launch -/

theorem phi_intro (c : Dev nD) (n : ℕ) (h : n % 4 = 0) : (Pipeline.ΦA spec0 c : sProp 𝕄) ⊢ Phi m c n := by
  unfold Pipeline.ΦA Phi
  rw [scopedRest0_eq]
  iintro ⟨⟨⟨%f, HS⟩, ⟨%g, HU⟩⟩, HR⟩
  iexists f; iexists g
  isplitr
  · ipureintro
    intro t e h'; exact absurd h h'
  isplitl [HS]
  · iapply (Entails.of_eq (owns_whole (c : Thread nD τ) cc0_scratch0 fullShare f).symm)
    iexact HS
  isplitl [HU]
  · iapply (Entails.of_eq (owns_whole (c : Thread nD τ) cc0_scratch1 fullShare g).symm)
    iexact HU
  iexact HR

theorem phi_exit (c : Dev nD) (n : ℕ) : Phi m c n ⊢ (Pipeline.ΦA spec0 c : sProp 𝕄) := by
  unfold Pipeline.ΦA Phi
  rw [scopedRest0_eq]
  iintro ⟨%s, %u, -, HS, HU, HR⟩
  isplitl [HS HU]
  · isplitl [HS]
    · iexists s
      iapply (Entails.of_eq (owns_whole (c : Thread nD τ) cc0_scratch0 fullShare s))
      iexact HS
    · iexists u
      iapply (Entails.of_eq (owns_whole (c : Thread nD τ) cc0_scratch1 fullShare u))
      iexact HU
  iexact HR

set_option backward.isDefEq.respectTransparency.types false in
set_option maxHeartbeats 4000000 in
theorem run_quiet : θ_run (defs (F := F)) (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m)
    (hin := fun c => phi_intro m c 0 rfl) (hout := fun c => phi_exit m c _)

theorem run_main : θ_run (defs (F := F)) (onTc (τ := τ) (main (F := F))) (s₀ m ρ) (Pipeline.FramePost cfgs (dats m) 0 (V m)) :=
  (θ_run defs _ _).mono (fun _ h => h.1) (run_quiet m ρ)

theorem unchanged : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The run ends, the argument arrays and the counters as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_quiet m ρ))

/-- and both results at the computed contents. -/
theorem run_all : θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)
      ∧ ∀ c : Dev nD, r.2.mem ((c.tc : Thread nD τ).loc main_v0_0) = (dats m 0 c).arrAt 15 cfg0.N
        ∧ r.2.mem ((c.tc : Thread nD τ).loc main_v0_1) = (dats m 0 c).arrAt 16 cfg0.N) :=
  θ_run_and (frame m ρ) ((θ_run defs _ _).mono (fun _ h c => ⟨(h c).1 15, (h c).1 16⟩) (run_main m ρ))

end Cert.Kernel7Ideal.Out

end
-- ==== Proof.OutKernel.lean ====
/-
  The projection out of the layer's streams: the two arrays the call leaves, entry by entry.
-/
module

public import proofs.«01_k».proof.Proof.InMath
public import proofs.«01_k».proof.Proof.ResidMath
public import proofs.«01_k».proof.Proof.OutMath
public import proofs.«01_k».proof.Proof.OutFrame
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel7Ideal.Out
open Cert.Kernel7Ideal Cert.Kernel7Ideal.Gen

/-! ## The stored values, entry by entry -/

theorem pay4_apply (x : Vec Ideal S512x512 .bf16) (r j : Fin 512) : (k0_pay4 (F := Ideal) x) (ix2 r j) = x (ix2 r j) := by
  pointwise [k0_pay4]

theorem pay5_apply (x : Vec Ideal S512x1024 .bf16) (r : Fin 512) (j : Fin 1024) : (k0_pay5 (F := Ideal) x) (ix2 r j) = x (ix2 r j) := by
  pointwise [k0_pay5]

theorem pay1_apply (f b a z : Vec Ideal S512x512 .f32) (s g : Vec Ideal S1x1x512 .f32) (r d : Fin 512) :
    (k0_pay1 (F := Ideal) (k0_pay6 f b a s z) (k0_pay7 g)) (ix2 r d)
      = Cert.Out.ssm (fun j => f (ix2 r j)) (fun j => b (ix2 r j)) (fun j => a (ix2 r j))
          (fun j => s (ix3 (0 : Fin 1) (0 : Fin 1) j)) (fun j => z (ix2 r j)) (fun j => g (ix3 (0 : Fin 1) (0 : Fin 1) j)) d := by
  unfold Cert.Out.ssm Cert.Out.gated
  pointwise [k0_pay1, k0_pay6, k0_pay7]

theorem streams_apply (x0 : Vec Ideal S512x512 .bf16) (x1 : Vec Ideal S512x1024 .bf16) (x2 x3 x4 x5 : Vec Ideal S512x512 .f32)
    (x10 x11 : Vec Ideal S1x1x512 .f32) (r : Fin 512) (e : Fin 2048) :
    streams (F := Ideal) x0 x1 x2 x3 x4 x5 x10 x11 (ix2 r e)
      = Cert.Out.cat (fun j => x0 (ix2 r j)) (fun j => x1 (ix2 r j))
          (Cert.Out.ssm (fun j => x2 (ix2 r j)) (fun j => x3 (ix2 r j)) (fun j => x4 (ix2 r j))
            (fun j => x10 (ix3 (0 : Fin 1) (0 : Fin 1) j)) (fun j => x5 (ix2 r j)) (fun j => x11 (ix3 (0 : Fin 1) (0 : Fin 1) j))) e := by
  show (if h0 : e.val < 512 then (k0_pay4 (F := Ideal) x0) (ix2 r ⟨e.val, h0⟩)
    else if h1 : e.val < 1536 then (k0_pay5 (F := Ideal) x1) (ix2 r ⟨e.val - 512, by omega⟩)
    else (k0_pay1 (F := Ideal) (k0_pay6 x2 x3 x4 x10 x5) (k0_pay7 x11)) (ix2 r ⟨e.val - 1536, by omega⟩)) = _
  simp only [pay4_apply, pay5_apply, pay1_apply]
  rfl

theorem pay2_apply (s : Vec Ideal S512x2048 .bf16) (w : Vec Ideal S1x2048x512 .bf16) (r j : Fin 512) :
    (k0_pay2 (F := Ideal) s w) (ix3 (0 : Fin 1) r j) = (∑ e : Fin 2048, (s (ix2 r e) * w (ix3 (0 : Fin 1) e j) : EReal)) := by
  pointwise [k0_pay2]

theorem ld_cols (x : Vec Ideal S512x2048 .f32) (o : ℕ) (inb) (r j : Fin 512) (d : Fin 2048) (hd : d.val = o + j.val) :
    (View.ld x (Rect.unit (s := S512x2048) ![0, o] S512x512.size inb) : Vec Ideal S512x512 .f32) (ix2 r j) = x (ix2 r d) := by
  refine View.ld_unit_apply_of x _ _ inb _ (ix2 r d) fun a => ?_
  match a with
  | ⟨0, _⟩ => show r.val = 0 + r.val; omega
  | ⟨1, _⟩ => show d.val = o + j.val; omega

theorem ld_row3 (x : Vec Ideal S1x1x2048 .f32) (o : ℕ) (inb) (j : Fin 512) (d : Fin 2048) (hd : d.val = o + j.val) :
    (View.ld x (Rect.unit (s := S1x1x2048) ![0, 0, o] S1x1x512.size inb) : Vec Ideal S1x1x512 .f32) (ix3 (0 : Fin 1) (0 : Fin 1) j)
      = x (ix3 (0 : Fin 1) (0 : Fin 1) d) := by
  refine View.ld_unit_apply_of x _ _ inb _ (ix3 (0 : Fin 1) (0 : Fin 1) d) fun a => ?_
  match a with
  | ⟨0, _⟩ => rfl
  | ⟨1, _⟩ => rfl
  | ⟨2, _⟩ => show d.val = o + j.val; omega

theorem ld_row4 (x : Vec Ideal S1x1x1x2048 .f32) (o : ℕ) (inb) (j : Fin 512) (d : Fin 2048) (hd : d.val = o + j.val) :
    (View.ld x (Rect.unit (s := S1x1x1x2048) ![0, 0, 0, o] S1x1x1x512.size inb) : Vec Ideal S1x1x1x512 .f32)
      (ix4 (0 : Fin 1) (0 : Fin 1) (0 : Fin 1) j) = x (ix4 (0 : Fin 1) (0 : Fin 1) (0 : Fin 1) d) := by
  refine View.ld_unit_apply_of x _ _ inb _ (ix4 (0 : Fin 1) (0 : Fin 1) (0 : Fin 1) d) fun a => ?_
  match a with
  | ⟨0, _⟩ => rfl
  | ⟨1, _⟩ => rfl
  | ⟨2, _⟩ => rfl
  | ⟨3, _⟩ => show d.val = o + j.val; omega

theorem wide_apply {e : EltTy} (p0 p1 p2 p3 : S512x512.Idx → Elt Ideal e) (r : Fin 512) (G : Fin 2048 → Elt Ideal e)
    (h0 : ∀ j : Fin 512, p0 (ix2 r j) = G ⟨j.val, by omega⟩) (h1 : ∀ j : Fin 512, p1 (ix2 r j) = G ⟨512 + j.val, by omega⟩)
    (h2 : ∀ j : Fin 512, p2 (ix2 r j) = G ⟨1024 + j.val, by omega⟩) (h3 : ∀ j : Fin 512, p3 (ix2 r j) = G ⟨1536 + j.val, by omega⟩)
    (d : Fin 2048) : wide p0 p1 p2 p3 (ix2 r d) = G d := by
  show (if h0 : d.val < 512 then p0 (ix2 r ⟨d.val, h0⟩) else if h1 : d.val < 1024 then p1 (ix2 r ⟨d.val - 512, by omega⟩)
    else if h2 : d.val < 1536 then p2 (ix2 r ⟨d.val - 1024, by omega⟩) else p3 (ix2 r ⟨d.val - 1536, by omega⟩)) = _
  by_cases q0 : d.val < 512
  · rw [dif_pos q0, h0]
  rw [dif_neg q0]
  by_cases q1 : d.val < 1024
  · rw [dif_pos q1, h1]
    exact congrArg G (Fin.ext (show 512 + (d.val - 512) = d.val by omega))
  rw [dif_neg q1]
  by_cases q2 : d.val < 1536
  · rw [dif_pos q2, h2]
    exact congrArg G (Fin.ext (show 1024 + (d.val - 1024) = d.val by omega))
  rw [dif_neg q2, h3]
  exact congrArg G (Fin.ext (show 1536 + (d.val - 1536) = d.val by omega))

theorem pay8_apply (M0 M1 M2 : Vec Ideal S1x512x512 .f32) (r : Fin 512) :
    (k0_pay8 (F := Ideal) M0 M0 M1 M1 M2 M2) (ix2 r (0 : Fin 1))
      = (∑ j : Fin 512, (M0 (ix3 (0 : Fin 1) r j) * M0 (ix3 (0 : Fin 1) r j) : EReal)) + (∑ j : Fin 512, (M1 (ix3 (0 : Fin 1) r j) * M1 (ix3 (0 : Fin 1) r j) : EReal))
        + (∑ j : Fin 512, (M2 (ix3 (0 : Fin 1) r j) * M2 (ix3 (0 : Fin 1) r j) : EReal)) := by
  pointwise [k0_pay8]

theorem rinv_apply (M0 M1 M2 M3 : Vec Ideal S1x512x512 .f32) (r : Fin 512) :
    (rinv (F := Ideal) M0 M1 M2 M3) (ix2 r (0 : Fin 1))
      = Ideal.rsqrt (Ideal.div ((∑ j : Fin 512, (M0 (ix3 (0 : Fin 1) r j) * M0 (ix3 (0 : Fin 1) r j) : EReal))
          + (∑ j : Fin 512, (M1 (ix3 (0 : Fin 1) r j) * M1 (ix3 (0 : Fin 1) r j) : EReal)) + (∑ j : Fin 512, (M2 (ix3 (0 : Fin 1) r j) * M2 (ix3 (0 : Fin 1) r j) : EReal))
          + (∑ j : Fin 512, (M3 (ix3 (0 : Fin 1) r j) * M3 (ix3 (0 : Fin 1) r j) : EReal))) (Ideal.ofBits .f32 0x45000000#32)
          + Ideal.ofBits .f32 0x358637BD#32) := by
  rw [← pay8_apply]
  pointwise [rinv, k0_pay10, k0_pay9]

theorem pay11_apply (a : FVec Ideal S512x1 .f32) (b : FVec Ideal S512 .f32) (x : Vec Ideal S512x512 .f32) (g : Vec Ideal S1x1x1x512 .f32)
    (M : Vec Ideal S1x512x512 .f32) (w : Vec Ideal S1x1x512 .f32) (r j : Fin 512) :
    (k0_pay11 (F := Ideal) a b x g M w) (ix2 r j) = x (ix2 r j) + g (ix4 (0 : Fin 1) (0 : Fin 1) (0 : Fin 1) j) * (M (ix3 (0 : Fin 1) r j) * (k0_pay10 (F := Ideal) a b) (ix2 r (0 : Fin 1)) * w (ix3 (0 : Fin 1) (0 : Fin 1) j)) := by
  pointwise [k0_pay11]

theorem pay12_apply (a : FVec Ideal S512x1 .f32) (b : FVec Ideal S512 .f32) (x : Vec Ideal S512x512 .f32) (g : Vec Ideal S1x1x1x512 .f32)
    (M : Vec Ideal S1x512x512 .f32) (w : Vec Ideal S1x1x512 .f32) (r : Fin 512) :
    (k0_pay12 (F := Ideal) a b x g M w) (ix2 r (0 : Fin 1))
      = (∑ j : Fin 512, ((k0_pay11 (F := Ideal) a b x g M w) (ix2 r j) * (k0_pay11 (F := Ideal) a b x g M w) (ix2 r j) : EReal)) := by
  pointwise [k0_pay12]

theorem pay15_apply (a : FVec Ideal S512x1 .f32) (x : Vec Ideal S512x512 .f32) (g : Vec Ideal S1x1x1x512 .f32)
    (M : Vec Ideal S1x512x512 .f32) (w : Vec Ideal S1x1x512 .f32) (r j : Fin 512) :
    (k0_pay15 (F := Ideal) a x (k0_pay13 g) (k0_pay14 M) w) (ix2 r j) = x (ix2 r j) + g (ix4 (0 : Fin 1) (0 : Fin 1) (0 : Fin 1) j) * (M (ix3 (0 : Fin 1) r j) * a (ix2 r (0 : Fin 1)) * w (ix3 (0 : Fin 1) (0 : Fin 1) j)) := by
  pointwise [k0_pay15, k0_pay13, k0_pay14]

theorem pay16_apply (a : FVec Ideal S512x1 .f32) (x : Vec Ideal S512x512 .f32) (g : Vec Ideal S1x1x1x512 .f32)
    (M : Vec Ideal S1x512x512 .f32) (w : Vec Ideal S1x1x512 .f32) (r j : Fin 512) :
    (k0_pay16 (F := Ideal) a x g M w) (ix2 r j) = x (ix2 r j) + g (ix4 (0 : Fin 1) (0 : Fin 1) (0 : Fin 1) j) * (M (ix3 (0 : Fin 1) r j) * a (ix2 r (0 : Fin 1)) * w (ix3 (0 : Fin 1) (0 : Fin 1) j)) := by
  pointwise [k0_pay16]

theorem pay18_apply (a : FVec Ideal S512x1 .f32) (x : Vec Ideal S512x512 .f32) (g : Vec Ideal S1x1x1x512 .f32)
    (M : Vec Ideal S1x512x512 .f32) (w : Vec Ideal S1x1x512 .f32) (r j : Fin 512) :
    (k0_pay18 (F := Ideal) a x g M w) (ix2 r j) = x (ix2 r j) + g (ix4 (0 : Fin 1) (0 : Fin 1) (0 : Fin 1) j) * (M (ix3 (0 : Fin 1) r j) * a (ix2 r (0 : Fin 1)) * w (ix3 (0 : Fin 1) (0 : Fin 1) j)) := by
  pointwise [k0_pay18]

theorem pay17_apply (a q : FVec Ideal S512x1 .f32) (x : Vec Ideal S512x512 .f32) (g : FVec Ideal S1x512 .f32)
    (M : FVec Ideal S512x512 .f32) (w : Vec Ideal S1x1x512 .f32) (x' : Vec Ideal S512x512 .f32) (g' : Vec Ideal S1x1x1x512 .f32)
    (M' : Vec Ideal S1x512x512 .f32) (w' : Vec Ideal S1x1x512 .f32) (r : Fin 512) :
    (k0_pay17 (F := Ideal) a q x g M w x' g' M' w') (ix2 r (0 : Fin 1))
      = q (ix2 r (0 : Fin 1)) + (∑ j : Fin 512, ((k0_pay15 (F := Ideal) a x g M w) (ix2 r j) * (k0_pay15 (F := Ideal) a x g M w) (ix2 r j) : EReal))
        + (∑ j : Fin 512, ((k0_pay16 (F := Ideal) a x' g' M' w') (ix2 r j) * (k0_pay16 (F := Ideal) a x' g' M' w') (ix2 r j) : EReal)) := by
  pointwise [k0_pay17]

theorem pay19_apply (a q : FVec Ideal S512x1 .f32) (x : Vec Ideal S512x512 .f32) (g : Vec Ideal S1x1x1x512 .f32)
    (M : Vec Ideal S1x512x512 .f32) (w : Vec Ideal S1x1x512 .f32) (r : Fin 512) :
    (k0_pay19 (F := Ideal) a q x g M w) (ix2 r (0 : Fin 1))
      = Ideal.rsqrt (Ideal.div (q (ix2 r (0 : Fin 1))
          + (∑ j : Fin 512, ((k0_pay18 (F := Ideal) a x g M w) (ix2 r j) * (k0_pay18 (F := Ideal) a x g M w) (ix2 r j) : EReal)))
          (Ideal.ofBits .f32 0x45000000#32) + Ideal.ofBits .f32 0x358637BD#32) := by
  pointwise [k0_pay19]

theorem pay22_apply (a q : FVec Ideal S512x1 .f32) (x : Vec Ideal S512x512 .f32) (g : Vec Ideal S1x1x1x512 .f32)
    (M : Vec Ideal S1x512x512 .f32) (w' : Vec Ideal S1x1x512 .f32) (v : Vec Ideal S512x512 .f32) (w : Vec Ideal S1x1x512 .f32)
    (c s : Vec Ideal S1x1x1x512 .f32) (r j : Fin 512) :
    (k0_pay22 (F := Ideal) (k0_pay20 a q x g M w' v w) (k0_pay21 c) s) (ix2 r j)
      = v (ix2 r j) * (k0_pay19 (F := Ideal) a q x g M w') (ix2 r (0 : Fin 1)) * w (ix3 (0 : Fin 1) (0 : Fin 1) j) * (Ideal.ofBits .f32 0x3F800000#32 + c (ix4 (0 : Fin 1) (0 : Fin 1) (0 : Fin 1) j)) + s (ix4 (0 : Fin 1) (0 : Fin 1) (0 : Fin 1) j) := by
  pointwise [k0_pay22, k0_pay20, k0_pay21]

theorem pay23_apply (a : FVec Ideal S512x1 .f32) (v : Vec Ideal S512x512 .f32) (w : Vec Ideal S1x1x512 .f32)
    (c s : Vec Ideal S1x1x1x512 .f32) (r j : Fin 512) :
    (k0_pay23 (F := Ideal) a v w c s) (ix2 r j) = v (ix2 r j) * a (ix2 r (0 : Fin 1)) * w (ix3 (0 : Fin 1) (0 : Fin 1) j) * (Ideal.ofBits .f32 0x3F800000#32 + c (ix4 (0 : Fin 1) (0 : Fin 1) (0 : Fin 1) j)) + s (ix4 (0 : Fin 1) (0 : Fin 1) (0 : Fin 1) j) := by
  pointwise [k0_pay23]

theorem pay25_apply (a : FVec Ideal S512x1 .f32) (v : Vec Ideal S512x512 .f32) (w : Vec Ideal S1x1x512 .f32)
    (c s : Vec Ideal S1x1x1x512 .f32) (r j : Fin 512) :
    (k0_pay25 (F := Ideal) (k0_pay24 a v) w c s) (ix2 r j) = v (ix2 r j) * a (ix2 r (0 : Fin 1)) * w (ix3 (0 : Fin 1) (0 : Fin 1) j) * (Ideal.ofBits .f32 0x3F800000#32 + c (ix4 (0 : Fin 1) (0 : Fin 1) (0 : Fin 1) j)) + s (ix4 (0 : Fin 1) (0 : Fin 1) (0 : Fin 1) j) := by
  pointwise [k0_pay25, k0_pay24]

theorem pay3_apply (a : FVec Ideal S512x1 .f32) (v : Vec Ideal S512x512 .f32) (w : Vec Ideal S1x1x512 .f32)
    (c s : Vec Ideal S1x1x1x512 .f32) (r j : Fin 512) :
    (k0_pay3 (F := Ideal) (k0_pay26 a v w c) (k0_pay27 s)) (ix2 r j) = v (ix2 r j) * a (ix2 r (0 : Fin 1)) * w (ix3 (0 : Fin 1) (0 : Fin 1) j) * (Ideal.ofBits .f32 0x3F800000#32 + c (ix4 (0 : Fin 1) (0 : Fin 1) (0 : Fin 1) j)) + s (ix4 (0 : Fin 1) (0 : Fin 1) (0 : Fin 1) j) := by
  pointwise [k0_pay3, k0_pay26, k0_pay27]

/-! ## The two tiles, entry by entry -/

section
variable (x6 : Vec Ideal S512x2048 .f32) (x7 x8 x9 : Vec Ideal S1x1x1x2048 .f32) (x12 x13 : Vec Ideal S1x1x2048 .f32)
  (M0 M1 M2 M3 : Vec Ideal S1x512x512 .f32) (r : Fin 512) (G : Fin 2048 → EReal)
  (h0 : ∀ j : Fin 512, M0 (ix3 (0 : Fin 1) r j) = G ⟨j.val, by omega⟩) (h1 : ∀ j : Fin 512, M1 (ix3 (0 : Fin 1) r j) = G ⟨512 + j.val, by omega⟩)
  (h2 : ∀ j : Fin 512, M2 (ix3 (0 : Fin 1) r j) = G ⟨1024 + j.val, by omega⟩) (h3 : ∀ j : Fin 512, M3 (ix3 (0 : Fin 1) r j) = G ⟨1536 + j.val, by omega⟩)

include h0 h1 h2 h3

theorem rinv_eq : (rinv (F := Ideal) M0 M1 M2 M3) (ix2 r (0 : Fin 1))
    = Ideal.rsqrt (Ideal.div (∑ e, G e * G e) (Ideal.ofBits .f32 0x45000000#32) + Ideal.ofBits .f32 0x358637BD#32) := by
  rw [rinv_apply, Cert.Out.sum_blocks]
  simp only [h0, h1, h2, h3]

/-- The new row of the tile. -/
def newOf (x6 : Vec Ideal S512x2048 .f32) (x7 : Vec Ideal S1x1x1x2048 .f32) (x12 : Vec Ideal S1x1x2048 .f32) (r : Fin 512)
    (G : Fin 2048 → EReal) : Fin 2048 → EReal := fun d =>
  Cert.Resid.entry (x6 (ix2 r d)) (x7 (ix4 (0 : Fin 1) (0 : Fin 1) (0 : Fin 1) d)) G (fun e => x12 (ix3 (0 : Fin 1) (0 : Fin 1) e)) d

theorem sum0_eq (j : Fin 512) : (sum0 (F := Ideal) x6 x7 x12 M0 M1 M2 M3) (ix2 r j) = newOf x6 x7 x12 r G ⟨j.val, by omega⟩ := by
  refine (pay11_apply _ _ _ _ _ _ r j).trans ?_
  rw [ld_cols x6 0 _ r j ⟨j.val, by omega⟩ (show (⟨j.val, by omega⟩ : Fin 2048).val = 0 + j.val by simp), ld_row4 x7 0 _ j ⟨j.val, by omega⟩ (show (⟨j.val, by omega⟩ : Fin 2048).val = 0 + j.val by simp),
    ld_row3 x12 0 _ j ⟨j.val, by omega⟩ (show (⟨j.val, by omega⟩ : Fin 2048).val = 0 + j.val by simp), h0]
  rw [show (k0_pay10 (F := Ideal) (k0_pay8 M0 M0 M1 M1 M2 M2) (k0_pay9 M3 M3)) = rinv M0 M1 M2 M3 from rfl]
  rw [rinv_eq M0 M1 M2 M3 r G h0 h1 h2 h3]
  rfl

theorem sum1_eq (j : Fin 512) : (sum1 (F := Ideal) x6 x7 x12 M0 M1 M2 M3) (ix2 r j) = newOf x6 x7 x12 r G ⟨512 + j.val, by omega⟩ := by
  refine (pay15_apply _ _ _ _ _ r j).trans ?_
  rw [ld_cols x6 512 _ r j ⟨512 + j.val, by omega⟩ rfl, ld_row4 x7 512 _ j ⟨512 + j.val, by omega⟩ rfl,
    ld_row3 x12 512 _ j ⟨512 + j.val, by omega⟩ rfl, h1]
  skip
  rw [rinv_eq M0 M1 M2 M3 r G h0 h1 h2 h3]
  rfl

theorem sum2_eq (j : Fin 512) : (sum2 (F := Ideal) x6 x7 x12 M0 M1 M2 M3) (ix2 r j) = newOf x6 x7 x12 r G ⟨1024 + j.val, by omega⟩ := by
  refine (pay16_apply _ _ _ _ _ r j).trans ?_
  rw [ld_cols x6 1024 _ r j ⟨1024 + j.val, by omega⟩ rfl, ld_row4 x7 1024 _ j ⟨1024 + j.val, by omega⟩ rfl,
    ld_row3 x12 1024 _ j ⟨1024 + j.val, by omega⟩ rfl, h2]
  skip
  rw [rinv_eq M0 M1 M2 M3 r G h0 h1 h2 h3]
  rfl

theorem sum3_eq (j : Fin 512) : (sum3 (F := Ideal) x6 x7 x12 M0 M1 M2 M3) (ix2 r j) = newOf x6 x7 x12 r G ⟨1536 + j.val, by omega⟩ := by
  refine (pay18_apply _ _ _ _ _ r j).trans ?_
  rw [ld_cols x6 1536 _ r j ⟨1536 + j.val, by omega⟩ rfl, ld_row4 x7 1536 _ j ⟨1536 + j.val, by omega⟩ rfl,
    ld_row3 x12 1536 _ j ⟨1536 + j.val, by omega⟩ rfl, h3]
  skip
  rw [rinv_eq M0 M1 M2 M3 r G h0 h1 h2 h3]
  rfl

theorem squares_eq : (squares (F := Ideal) x6 x7 x12 M0 M1 M2 M3) (ix2 r (0 : Fin 1))
    = ∑ j : Fin 512, newOf x6 x7 x12 r G ⟨j.val, by omega⟩ * newOf x6 x7 x12 r G ⟨j.val, by omega⟩
      + ∑ j : Fin 512, newOf x6 x7 x12 r G ⟨512 + j.val, by omega⟩ * newOf x6 x7 x12 r G ⟨512 + j.val, by omega⟩
      + ∑ j : Fin 512, newOf x6 x7 x12 r G ⟨1024 + j.val, by omega⟩ * newOf x6 x7 x12 r G ⟨1024 + j.val, by omega⟩ := by
  refine (pay17_apply _ _ _ _ _ _ _ _ _ _ r).trans ?_
  rw [pay12_apply]
  refine congrArg₂ (· + ·) (congrArg₂ (· + ·) (Finset.sum_congr rfl fun j _ => ?_) (Finset.sum_congr rfl fun j _ => ?_)) (Finset.sum_congr rfl fun j _ => ?_)
  · exact congrArg₂ (· * ·) (sum0_eq x6 x7 x12 M0 M1 M2 M3 r G h0 h1 h2 h3 j) (sum0_eq x6 x7 x12 M0 M1 M2 M3 r G h0 h1 h2 h3 j)
  · exact congrArg₂ (· * ·) (sum1_eq x6 x7 x12 M0 M1 M2 M3 r G h0 h1 h2 h3 j) (sum1_eq x6 x7 x12 M0 M1 M2 M3 r G h0 h1 h2 h3 j)
  · exact congrArg₂ (· * ·) (sum2_eq x6 x7 x12 M0 M1 M2 M3 r G h0 h1 h2 h3 j) (sum2_eq x6 x7 x12 M0 M1 M2 M3 r G h0 h1 h2 h3 j)

theorem rinv'_eq : (rinv' (F := Ideal) x6 x7 x12 M0 M1 M2 M3) (ix2 r (0 : Fin 1))
    = Ideal.rsqrt (Ideal.div (∑ e, newOf x6 x7 x12 r G e * newOf x6 x7 x12 r G e) (Ideal.ofBits .f32 0x45000000#32)
        + Ideal.ofBits .f32 0x358637BD#32) := by
  refine (pay19_apply _ _ _ _ _ _ r).trans ?_
  rw [squares_eq x6 x7 x12 M0 M1 M2 M3 r G h0 h1 h2 h3, Cert.Out.sum_blocks]
  refine congrArg Ideal.rsqrt (congrArg (fun q : EReal => q + Ideal.ofBits .f32 0x358637BD#32)
    (congrArg (fun q : EReal => Ideal.div q (Ideal.ofBits .f32 0x45000000#32)) (congrArg₂ (fun p q : EReal => p + q) rfl (Finset.sum_congr rfl fun j _ => ?_))))
  exact congrArg₂ (· * ·) (sum3_eq x6 x7 x12 M0 M1 M2 M3 r G h0 h1 h2 h3 j) (sum3_eq x6 x7 x12 M0 M1 M2 M3 r G h0 h1 h2 h3 j)

theorem norm0_eq (j : Fin 512) : (norm0 (F := Ideal) x6 x7 x8 x9 x12 x13 M0 M1 M2 M3) (ix2 r j)
    = Cert.Inp.row (newOf x6 x7 x12 r G) (fun e => x13 (ix3 (0 : Fin 1) (0 : Fin 1) e)) (fun e => x9 (ix4 (0 : Fin 1) (0 : Fin 1) (0 : Fin 1) e))
        (fun e => x8 (ix4 (0 : Fin 1) (0 : Fin 1) (0 : Fin 1) e)) ⟨j.val, by omega⟩ := by
  refine (pay22_apply _ _ _ _ _ _ _ _ _ _ r j).trans ?_
  rw [show (k0_pay19 (F := Ideal) (rinv M0 M1 M2 M3) (squares x6 x7 x12 M0 M1 M2 M3) (View.ld x6 (Rect.unit (s := S512x2048) ![0, 1536] S512x512.size inb_S512x2048_S512x512_0_1536))
      (View.ld x7 (Rect.unit (s := S1x1x1x2048) ![0, 0, 0, 1536] S1x1x1x512.size inb_S1x1x1x2048_S1x1x1x512_0_0_0_1536)) M3
      (View.ld x12 (Rect.unit (s := S1x1x2048) ![0, 0, 1536] S1x1x512.size inb_S1x1x2048_S1x1x512_0_0_1536))) = rinv' x6 x7 x12 M0 M1 M2 M3 from rfl]
  rw [ld_row3 x13 0 _ j ⟨j.val, by omega⟩ (show (⟨j.val, by omega⟩ : Fin 2048).val = 0 + j.val by simp), ld_row4 x9 0 _ j ⟨j.val, by omega⟩ (show (⟨j.val, by omega⟩ : Fin 2048).val = 0 + j.val by simp),
    ld_row4 x8 0 _ j ⟨j.val, by omega⟩ (show (⟨j.val, by omega⟩ : Fin 2048).val = 0 + j.val by simp), sum0_eq x6 x7 x12 M0 M1 M2 M3 r G h0 h1 h2 h3 j,
    rinv'_eq x6 x7 x12 M0 M1 M2 M3 r G h0 h1 h2 h3]
  rfl

theorem norm1_eq (j : Fin 512) : (norm1 (F := Ideal) x6 x7 x8 x9 x12 x13 M0 M1 M2 M3) (ix2 r j)
    = Cert.Inp.row (newOf x6 x7 x12 r G) (fun e => x13 (ix3 (0 : Fin 1) (0 : Fin 1) e)) (fun e => x9 (ix4 (0 : Fin 1) (0 : Fin 1) (0 : Fin 1) e))
        (fun e => x8 (ix4 (0 : Fin 1) (0 : Fin 1) (0 : Fin 1) e)) ⟨512 + j.val, by omega⟩ := by
  refine (pay23_apply _ _ _ _ _ r j).trans ?_
  rw [ld_row3 x13 512 _ j ⟨512 + j.val, by omega⟩ rfl, ld_row4 x9 512 _ j ⟨512 + j.val, by omega⟩ rfl,
    ld_row4 x8 512 _ j ⟨512 + j.val, by omega⟩ rfl, sum1_eq x6 x7 x12 M0 M1 M2 M3 r G h0 h1 h2 h3 j,
    rinv'_eq x6 x7 x12 M0 M1 M2 M3 r G h0 h1 h2 h3]
  rfl

theorem norm2_eq (j : Fin 512) : (norm2 (F := Ideal) x6 x7 x8 x9 x12 x13 M0 M1 M2 M3) (ix2 r j)
    = Cert.Inp.row (newOf x6 x7 x12 r G) (fun e => x13 (ix3 (0 : Fin 1) (0 : Fin 1) e)) (fun e => x9 (ix4 (0 : Fin 1) (0 : Fin 1) (0 : Fin 1) e))
        (fun e => x8 (ix4 (0 : Fin 1) (0 : Fin 1) (0 : Fin 1) e)) ⟨1024 + j.val, by omega⟩ := by
  refine (pay25_apply _ _ _ _ _ r j).trans ?_
  rw [ld_row3 x13 1024 _ j ⟨1024 + j.val, by omega⟩ rfl, ld_row4 x9 1024 _ j ⟨1024 + j.val, by omega⟩ rfl,
    ld_row4 x8 1024 _ j ⟨1024 + j.val, by omega⟩ rfl, sum2_eq x6 x7 x12 M0 M1 M2 M3 r G h0 h1 h2 h3 j,
    rinv'_eq x6 x7 x12 M0 M1 M2 M3 r G h0 h1 h2 h3]
  rfl

theorem norm3_eq (j : Fin 512) : (norm3 (F := Ideal) x6 x7 x8 x9 x12 x13 M0 M1 M2 M3) (ix2 r j)
    = Cert.Inp.row (newOf x6 x7 x12 r G) (fun e => x13 (ix3 (0 : Fin 1) (0 : Fin 1) e)) (fun e => x9 (ix4 (0 : Fin 1) (0 : Fin 1) (0 : Fin 1) e))
        (fun e => x8 (ix4 (0 : Fin 1) (0 : Fin 1) (0 : Fin 1) e)) ⟨1536 + j.val, by omega⟩ := by
  refine (pay3_apply _ _ _ _ _ r j).trans ?_
  rw [ld_row3 x13 1536 _ j ⟨1536 + j.val, by omega⟩ rfl, ld_row4 x9 1536 _ j ⟨1536 + j.val, by omega⟩ rfl,
    ld_row4 x8 1536 _ j ⟨1536 + j.val, by omega⟩ rfl, sum3_eq x6 x7 x12 M0 M1 M2 M3 r G h0 h1 h2 h3 j,
    rinv'_eq x6 x7 x12 M0 M1 M2 M3 r G h0 h1 h2 h3]
  rfl

theorem sums_eq (d : Fin 2048) : sums (F := Ideal) x6 x7 x12 M0 M1 M2 M3 (ix2 r d) = newOf x6 x7 x12 r G d :=
  wide_apply (e := .f32) _ _ _ _ r (newOf x6 x7 x12 r G) (sum0_eq x6 x7 x12 M0 M1 M2 M3 r G h0 h1 h2 h3) (sum1_eq x6 x7 x12 M0 M1 M2 M3 r G h0 h1 h2 h3)
    (sum2_eq x6 x7 x12 M0 M1 M2 M3 r G h0 h1 h2 h3) (sum3_eq x6 x7 x12 M0 M1 M2 M3 r G h0 h1 h2 h3) d

theorem norms_eq (d : Fin 2048) : norms (F := Ideal) x6 x7 x8 x9 x12 x13 M0 M1 M2 M3 (ix2 r d)
    = Cert.Inp.row (newOf x6 x7 x12 r G) (fun e => x13 (ix3 (0 : Fin 1) (0 : Fin 1) e)) (fun e => x9 (ix4 (0 : Fin 1) (0 : Fin 1) (0 : Fin 1) e))
        (fun e => x8 (ix4 (0 : Fin 1) (0 : Fin 1) (0 : Fin 1) e)) d :=
  wide_apply (e := .bf16) _ _ _ _ r (Cert.Inp.row (newOf x6 x7 x12 r G) (fun e => x13 (ix3 (0 : Fin 1) (0 : Fin 1) e)) (fun e => x9 (ix4 (0 : Fin 1) (0 : Fin 1) (0 : Fin 1) e))
      (fun e => x8 (ix4 (0 : Fin 1) (0 : Fin 1) (0 : Fin 1) e)))
    (norm0_eq x6 x7 x8 x9 x12 x13 M0 M1 M2 M3 r G h0 h1 h2 h3) (norm1_eq x6 x7 x8 x9 x12 x13 M0 M1 M2 M3 r G h0 h1 h2 h3)
    (norm2_eq x6 x7 x8 x9 x12 x13 M0 M1 M2 M3 r G h0 h1 h2 h3) (norm3_eq x6 x7 x8 x9 x12 x13 M0 M1 M2 M3 r G h0 h1 h2 h3) d

end

/-! ## The blocks a point finds -/

/-- Which block of each array a grid point works on. -/
theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 4, 0] ∧ win0_5.index t = ![t.val / 4, 4]
    ∧ win0_6.index t = ![t.val / 4, 0] ∧ win0_7.index t = ![0, t.val / 32, 0, 2] ∧ win0_8.index t = ![0, t.val / 32, 0, 3]
    ∧ win0_9.index t = ![0, t.val / 32, 0, 4] ∧ win0_10.index t = ![0, 0, 0] ∧ win0_11.index t = ![0, 0, 0]
    ∧ win0_12.index t = ![0, 0, 0] ∧ win0_13.index t = ![0, 0, 0] ∧ win0_14.index t = ![0, 0, t.val % 4]
    ∧ win0_15.index t = ![t.val / 4, 0] ∧ win0_16.index t = ![t.val / 4, 0] :=
  (by decide +kernel : ∀ t : Fin grid0.N, _)

variable (m : (ℓ : Loc nD τ sig) → Buf (Elt Ideal) ℓ)

theorem blk0 (c : Dev nD) (t : Fin cfg0.N) (r : Fin 512) (j : Fin 512) (r' : Fin 20480)
    (hr : r'.val = t.val / 4 * 512 + r.val) :
    (iblk m c 0 t : Vec Ideal S512x512 .bf16) (ix2 r j) = (m ((c.tc : Thread nD τ).loc main_arg0) : Vec Ideal S20480x512 .bf16) (ix2 r' j) := by
  blk_ext [iblk, V, idx t]

theorem blk1 (c : Dev nD) (t : Fin cfg0.N) (r : Fin 512) (j : Fin 1024) (r' : Fin 20480)
    (hr : r'.val = t.val / 4 * 512 + r.val) :
    (iblk m c 1 t : Vec Ideal S512x1024 .bf16) (ix2 r j) = (m ((c.tc : Thread nD τ).loc main_arg1) : Vec Ideal S20480x1024 .bf16) (ix2 r' j) := by
  blk_ext [iblk, V, idx t]

theorem blk2 (c : Dev nD) (t : Fin cfg0.N) (r : Fin 512) (j : Fin 512) (r' : Fin 20480)
    (hr : r'.val = t.val / 4 * 512 + r.val) :
    (iblk m c 2 t : Vec Ideal S512x512 .f32) (ix2 r j) = (m ((c.tc : Thread nD τ).loc main_arg2) : Vec Ideal S20480x512 .f32) (ix2 r' j) := by
  blk_ext [iblk, V, idx t]

theorem blk3 (c : Dev nD) (t : Fin cfg0.N) (r : Fin 512) (j : Fin 512) (r' : Fin 20480)
    (hr : r'.val = t.val / 4 * 512 + r.val) :
    (iblk m c 3 t : Vec Ideal S512x512 .f32) (ix2 r j) = (m ((c.tc : Thread nD τ).loc main_arg3) : Vec Ideal S20480x512 .f32) (ix2 r' j) := by
  blk_ext [iblk, V, idx t]

theorem blk4 (c : Dev nD) (t : Fin cfg0.N) (r : Fin 512) (j : Fin 512) (r' : Fin 20480) (k : Fin 1024) (hk : k.val = j.val)
    (hr : r'.val = t.val / 4 * 512 + r.val) :
    (iblk m c 4 t : Vec Ideal S512x512 .f32) (ix2 r j) = (m ((c.tc : Thread nD τ).loc main_arg4) : Vec Ideal S20480x1024 .f32) (ix2 r' k) := by
  blk_ext [iblk, V, idx t]

theorem blk5 (c : Dev nD) (t : Fin cfg0.N) (r : Fin 512) (j : Fin 512) (r' : Fin 20480) (k : Fin 3584) (hk : k.val = 2048 + j.val)
    (hr : r'.val = t.val / 4 * 512 + r.val) :
    (iblk m c 5 t : Vec Ideal S512x512 .f32) (ix2 r j) = (m ((c.tc : Thread nD τ).loc main_arg5) : Vec Ideal S20480x3584 .f32) (ix2 r' k) := by
  blk_ext [iblk, V, idx t]

theorem blk6 (c : Dev nD) (t : Fin cfg0.N) (r : Fin 512) (j : Fin 2048) (r' : Fin 20480)
    (hr : r'.val = t.val / 4 * 512 + r.val) :
    (iblk m c 6 t : Vec Ideal S512x2048 .f32) (ix2 r j) = (m ((c.tc : Thread nD τ).loc main_arg6) : Vec Ideal S20480x2048 .f32) (ix2 r' j) := by
  blk_ext [iblk, V, idx t]

theorem blk7 (c : Dev nD) (t : Fin cfg0.N) (d : Fin 2048) (b : Fin 8) (k : Fin 12288)
    (hb : b.val = t.val / 32) (hk : k.val = 4096 + d.val) :
    (iblk m c 7 t : Vec Ideal S1x1x1x2048 .f32) (ix4 (0 : Fin 1) (0 : Fin 1) (0 : Fin 1) d)
      = (m ((c.tc : Thread nD τ).loc main_arg7) : Vec Ideal S4x8x1x12288 .f32) (ix4 (0 : Fin 4) b (0 : Fin 1) k) := by
  blk_ext [iblk, V, idx t]

theorem blk8 (c : Dev nD) (t : Fin cfg0.N) (d : Fin 2048) (b : Fin 8) (k : Fin 12288)
    (hb : b.val = t.val / 32) (hk : k.val = 6144 + d.val) :
    (iblk m c 8 t : Vec Ideal S1x1x1x2048 .f32) (ix4 (0 : Fin 1) (0 : Fin 1) (0 : Fin 1) d)
      = (m ((c.tc : Thread nD τ).loc main_arg7) : Vec Ideal S4x8x1x12288 .f32) (ix4 (0 : Fin 4) b (0 : Fin 1) k) := by
  blk_ext [iblk, V, idx t]

theorem blk9 (c : Dev nD) (t : Fin cfg0.N) (d : Fin 2048) (b : Fin 8) (k : Fin 12288)
    (hb : b.val = t.val / 32) (hk : k.val = 8192 + d.val) :
    (iblk m c 9 t : Vec Ideal S1x1x1x2048 .f32) (ix4 (0 : Fin 1) (0 : Fin 1) (0 : Fin 1) d)
      = (m ((c.tc : Thread nD τ).loc main_arg7) : Vec Ideal S4x8x1x12288 .f32) (ix4 (0 : Fin 4) b (0 : Fin 1) k) := by
  blk_ext [iblk, V, idx t]

theorem blk10 (c : Dev nD) (t : Fin cfg0.N) (d : Fin 512) :
    (iblk m c 10 t : Vec Ideal S1x1x512 .f32) (ix3 (0 : Fin 1) (0 : Fin 1) d)
      = (m ((c.tc : Thread nD τ).loc main_arg8) : Vec Ideal S4x1x512 .f32) (ix3 (0 : Fin 4) (0 : Fin 1) d) := by
  blk_ext [iblk, V, idx t]

theorem blk11 (c : Dev nD) (t : Fin cfg0.N) (d : Fin 512) :
    (iblk m c 11 t : Vec Ideal S1x1x512 .f32) (ix3 (0 : Fin 1) (0 : Fin 1) d)
      = (m ((c.tc : Thread nD τ).loc main_arg9) : Vec Ideal S4x1x512 .f32) (ix3 (0 : Fin 4) (0 : Fin 1) d) := by
  blk_ext [iblk, V, idx t]

theorem blk12 (c : Dev nD) (t : Fin cfg0.N) (d : Fin 2048) :
    (iblk m c 12 t : Vec Ideal S1x1x2048 .f32) (ix3 (0 : Fin 1) (0 : Fin 1) d)
      = (m ((c.tc : Thread nD τ).loc main_arg10) : Vec Ideal S4x1x2048 .f32) (ix3 (0 : Fin 4) (0 : Fin 1) d) := by
  blk_ext [iblk, V, idx t]

theorem blk13 (c : Dev nD) (t : Fin cfg0.N) (d : Fin 2048) :
    (iblk m c 13 t : Vec Ideal S1x1x2048 .f32) (ix3 (0 : Fin 1) (0 : Fin 1) d)
      = (m ((c.tc : Thread nD τ).loc main_arg11) : Vec Ideal S4x1x2048 .f32) (ix3 (0 : Fin 4) (0 : Fin 1) d) := by
  blk_ext [iblk, V, idx t]

theorem blk14 (c : Dev nD) (t : Fin cfg0.N) (e : Fin 2048) (j : Fin 512) (d : Fin 2048) (hd : d.val = t.val % 4 * 512 + j.val) :
    (iblk m c 14 t : Vec Ideal S1x2048x512 .bf16) (ix3 (0 : Fin 1) e j)
      = (m ((c.tc : Thread nD τ).loc main_arg12) : Vec Ideal S4x2048x2048 .bf16) (ix3 (0 : Fin 4) e d) := by
  blk_ext [iblk, V, idx t]

/-! ## The arrays the call leaves -/

/-- Row `r` of the streams. -/
def catRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A8 : Vec Ideal S4x1x512 .f32) (A9 : Vec Ideal S4x1x512 .f32) (r : Fin 20480) : Fin 2048 → EReal :=
  Cert.Out.cat (fun j => A0 (ix2 r j)) (fun j => A1 (ix2 r j))
    (Cert.Out.ssm (fun j => A2 (ix2 r j)) (fun j => A3 (ix2 r j)) (fun j => A4 (ix2 r (⟨j.val, by omega⟩ : Fin 1024)))
      (fun j => A8 (ix3 (0 : Fin 4) (0 : Fin 1) j)) (fun j => A5 (ix2 r (⟨2048 + j.val, by omega⟩ : Fin 3584)))
      (fun j => A9 (ix3 (0 : Fin 4) (0 : Fin 1) j)))

/-- That row against the matrix. -/
def mixRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A8 : Vec Ideal S4x1x512 .f32) (A9 : Vec Ideal S4x1x512 .f32) (A12 : Vec Ideal S4x2048x2048 .bf16) (r : Fin 20480) : Fin 2048 → EReal :=
  Cert.Out.times (catRow A0 A1 A2 A3 A4 A5 A8 A9 r) fun e d => A12 (ix3 (0 : Fin 4) e d)

/-- The new row: the old one plus the gated, normalised product. -/
def newRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) (r : Fin 20480) : Fin 2048 → EReal := fun d =>
  Cert.Resid.entry (A6 (ix2 r d))
    (A7 (ix4 (0 : Fin 4) (⟨r.val / 4096, by omega⟩ : Fin 8) (0 : Fin 1) (⟨4096 + d.val, by omega⟩ : Fin 12288)))
    (mixRow A0 A1 A2 A3 A4 A5 A8 A9 A12 r) (fun e => A10 (ix3 (0 : Fin 4) (0 : Fin 1) e)) d

/-- The new row, normalised and modulated. -/
def hRow (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A11 : Vec Ideal S4x1x2048 .f32) (A12 : Vec Ideal S4x2048x2048 .bf16) (r : Fin 20480) : Fin 2048 → EReal :=
  Cert.Inp.row (newRow A0 A1 A2 A3 A4 A5 A6 A7 A8 A9 A10 A12 r) (fun e => A11 (ix3 (0 : Fin 4) (0 : Fin 1) e))
    (fun e => A7 (ix4 (0 : Fin 4) (⟨r.val / 4096, by omega⟩ : Fin 8) (0 : Fin 1) (⟨8192 + e.val, by omega⟩ : Fin 12288)))
    (fun e => A7 (ix4 (0 : Fin 4) (⟨r.val / 4096, by omega⟩ : Fin 8) (0 : Fin 1) (⟨6144 + e.val, by omega⟩ : Fin 12288)))

/-- The array of new rows, and that of normalised ones. -/
def main15 (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A12 : Vec Ideal S4x2048x2048 .bf16) : Vec Ideal S20480x2048 .f32 := fun i => newRow A0 A1 A2 A3 A4 A5 A6 A7 A8 A9 A10 A12 (i 0) (i 1)

def main16 (A0 : Vec Ideal S20480x512 .bf16) (A1 : Vec Ideal S20480x1024 .bf16) (A2 : Vec Ideal S20480x512 .f32) (A3 : Vec Ideal S20480x512 .f32) (A4 : Vec Ideal S20480x1024 .f32) (A5 : Vec Ideal S20480x3584 .f32) (A6 : Vec Ideal S20480x2048 .f32) (A7 : Vec Ideal S4x8x1x12288 .f32) (A8 : Vec Ideal S4x1x512 .f32) (A9 : Vec Ideal S4x1x512 .f32) (A10 : Vec Ideal S4x1x2048 .f32) (A11 : Vec Ideal S4x1x2048 .f32) (A12 : Vec Ideal S4x2048x2048 .bf16) : Vec Ideal S20480x2048 .bf16 := fun i => hRow A0 A1 A2 A3 A4 A5 A6 A7 A8 A9 A10 A11 A12 (i 0) (i 1)

/-! ## What the buffers hold -/

/-- The rows a tile keeps. -/
theorem rows_eq (c : Dev nD) (t : Fin cfg0.N) (r : Fin 512) (e : Fin 2048) (r' : Fin 20480) (hr : r'.val = t.val / 4 * 512 + r.val) :
    rows m c t (ix2 r e) = catRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) r' e := by
  refine (streams_apply _ _ _ _ _ _ _ _ r e).trans ?_
  unfold catRow
  congr 1
  · funext j; exact blk0 m c t r j r' hr
  · funext j; exact blk1 m c t r j r' hr
  · congr 1
    · funext j; exact blk2 m c t r j r' hr
    · funext j; exact blk3 m c t r j r' hr
    · funext j; exact blk4 m c t r j r' _ rfl hr
    · funext j; exact blk10 m c t j
    · funext j; exact blk5 m c t r j r' _ rfl hr
    · funext j; exact blk11 m c t j

/-- The products a tile keeps. -/
theorem prod_eq (c : Dev nD) (t : Fin cfg0.N) (k : Fin 4) (r j : Fin 512) (d : Fin 2048) (hd : d.val = k.val * 512 + j.val)
    (r' : Fin 20480) (hr : r'.val = t.val / 4 * 512 + r.val) :
    prod m c t k (ix3 (0 : Fin 1) r j) = mixRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) r' d := by
  have hk := k.isLt
  have e0 : (pt t 0).val / 4 = t.val / 4 := by show (4 * (t.val / 4) + 0) / 4 = _; omega
  have ek : (pt t k).val % 4 = k.val := by show (4 * (t.val / 4) + k.val) % 4 = _; omega
  refine (pay2_apply _ _ r j).trans ?_
  unfold mixRow Cert.Out.times
  refine Finset.sum_congr rfl fun e _ => congrArg₂ (fun p q : EReal => p * q) ?_ ?_
  · exact rows_eq m c (pt t 0) r e r' (by rw [e0]; exact hr)
  · exact blk14 m c (pt t k) e j d (by rw [ek]; exact hd)

theorem new_eq (c : Dev nD) (t : Fin cfg0.N) (r : Fin 512) (r' : Fin 20480) (hr : r'.val = t.val / 4 * 512 + r.val) :
    newOf (iblk m c 6 t) (iblk m c 7 t) (iblk m c 12 t) r (mixRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) r') = newRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) r' := by
  have ht : t.val < 160 := lt_of_lt_of_eq t.isLt N_0
  have hb : r'.val / 4096 = t.val / 32 := by omega
  funext d
  unfold newOf newRow
  congr 1
  · exact blk6 m c t r d r' hr
  · exact blk7 m c t d _ _ hb rfl
  · funext e; exact blk12 m c t e

/-- The tile of new rows, and that of normalised ones. -/
theorem tile_eq (c : Dev nD) (t : Fin cfg0.N) (r : Fin 512) (d : Fin 2048) (r' : Fin 20480) (hr : r'.val = t.val / 4 * 512 + r.val) :
    tile m c t (ix2 r d) = main15 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (ix2 r' d) := by
  refine (sums_eq _ _ _ _ _ _ _ r (mixRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) r') (fun j => prod_eq m c t 0 r j _ (by show j.val = 0 * 512 + j.val; omega) r' hr)
    (fun j => prod_eq m c t 1 r j _ (by show 512 + j.val = 1 * 512 + j.val; omega) r' hr)
    (fun j => prod_eq m c t 2 r j _ (by show 1024 + j.val = 2 * 512 + j.val; omega) r' hr)
    (fun j => prod_eq m c t 3 r j _ (by show 1536 + j.val = 3 * 512 + j.val; omega) r' hr) d).trans ?_
  rw [new_eq m c t r r' hr]
  rfl

theorem tile'_eq (c : Dev nD) (t : Fin cfg0.N) (r : Fin 512) (d : Fin 2048) (r' : Fin 20480) (hr : r'.val = t.val / 4 * 512 + r.val) :
    tile' m c t (ix2 r d) = main16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 r' d) := by
  have ht : t.val < 160 := lt_of_lt_of_eq t.isLt N_0
  have hb : r'.val / 4096 = t.val / 32 := by omega
  refine (norms_eq _ _ _ _ _ _ _ _ _ _ r (mixRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg12)) r') (fun j => prod_eq m c t 0 r j _ (by show j.val = 0 * 512 + j.val; omega) r' hr)
    (fun j => prod_eq m c t 1 r j _ (by show 512 + j.val = 1 * 512 + j.val; omega) r' hr)
    (fun j => prod_eq m c t 2 r j _ (by show 1024 + j.val = 2 * 512 + j.val; omega) r' hr)
    (fun j => prod_eq m c t 3 r j _ (by show 1536 + j.val = 3 * 512 + j.val; omega) r' hr) d).trans ?_
  rw [new_eq m c t r r' hr]
  show _ = hRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) r' d
  unfold hRow
  congr 1
  · funext e; exact blk13 m c t e
  · funext e; exact blk9 m c t e _ _ hb rfl
  · funext e; exact blk8 m c t e _ _ hb rfl

/-- The two output arrays after the run. -/
theorem arr15 (c : Dev nD) :
    (dats m 0 c).arrAt 15 cfg0.N = main15 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) := by
  refine (dats m 0 c).arrAt_eq_of_covers 15 _ (by decide +kernel) fun t hf y => ?_
  blk_simp
  rw [after_15]
  revert y
  intro (y : S512x2048.Idx)
  idx_vars y
  have h : t.val < 160 := lt_of_lt_of_eq t.isLt N_0
  have h0 : t.val / 4 * 512 + y0.val < 20480 := by have := y0.isLt; omega
  refine (tile_eq m c t y0 y1 ⟨_, h0⟩ rfl).trans ?_
  congr 1
  blk_ext [idx t]

theorem arr16 (c : Dev nD) :
    (dats m 0 c).arrAt 16 cfg0.N = main16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats m 0 c).arrAt_eq_of_covers 16 _ (by decide +kernel) fun t hf y => ?_
  blk_simp
  rw [after_16]
  revert y
  intro (y : S512x2048.Idx)
  idx_vars y
  have h : t.val < 160 := lt_of_lt_of_eq t.isLt N_0
  have h0 : t.val / 4 * 512 + y0.val < 20480 := by have := y0.isLt; omega
  refine (tile'_eq m c t y0 y1 ⟨_, h0⟩ rfl).trans ?_
  congr 1
  blk_ext [idx t]

end Cert.Kernel7Ideal.Out

end
-- ==== Proof.OutBits.lean ====
/-
  The projection out of the layer's streams as written, at the machine's own numbers: it is the same program as the one
  read over the extended reals, so it runs, ends and leaves its arguments alone likewise.
-/
module

public import proofs.«01_k».proof.Defs
public import proofs.«01_k».proof.Proof.OutFrame
public import proofs.«01_k».proof.Proof.Gen.Kernel7

@[expose] public section

set_option maxRecDepth 16384

noncomputable section

open Idealize.ShloMosaic Idealize.ShloMosaic.TcCoe Idealize.SL.Sem

namespace Cert.Kernel7.Out

variable {F : FTy → Type} [FloatOps F]

set_option maxHeartbeats 8000000 in
/-- The two programs' body tables are equal. -/
theorem defs₀_eq : Cert.Kernel7.defs₀ (F := F) = Cert.Kernel7Ideal.defs₀ (F := F) := by
  unfold Cert.Kernel7.defs₀ Cert.Kernel7Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel7.defs (F := F) = Cert.Kernel7Ideal.defs (F := F) := by
  unfold Cert.Kernel7.defs
  rw [defs₀_eq]
  rfl

theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  rw [defs_eq]
  exact Cert.Kernel7Ideal.Out.frame m ρ

end Cert.Kernel7.Out

end
-- ==== Proof.OutClaim.lean ====
/-
  The projection out of the layer's streams and its reference leave the same two arrays.
-/
module

public import proofs.«01_k».proof.Defs
public import proofs.«01_k».proof.Proof.OutRef
public import proofs.«01_k».proof.Proof.OutKernel
public import proofs.«01_k».proof.Proof.OutBits
public import Idealize.ShloMosaic.Lib.Quiescent

@[expose] public section

noncomputable section

open Idealize.ShloMosaic Idealize.ShloMosaic.TcCoe Idealize.SL.Sem

namespace Cert.Proof.Out

/-- The reference's frame, from its run. -/
theorem frame_ref : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

set_option maxHeartbeats 8000000 in
/-- From memories with the same arguments, the call and the reference both end at the new rows and the normalised ones. -/
theorem algebraic : Cert.algebraic_Kernel7Ideal_Reference7Ideal := by
  intro m ρ m' ρ' _ hagree
  refine ⟨fun c => Cert.Kernel7Ideal.Out.main15 (m ((c.tc : Thread _ _).loc Cert.Kernel7Ideal.main_arg0))
        (m ((c.tc : Thread _ _).loc Cert.Kernel7Ideal.main_arg1))
        (m ((c.tc : Thread _ _).loc Cert.Kernel7Ideal.main_arg2))
        (m ((c.tc : Thread _ _).loc Cert.Kernel7Ideal.main_arg3))
        (m ((c.tc : Thread _ _).loc Cert.Kernel7Ideal.main_arg4))
        (m ((c.tc : Thread _ _).loc Cert.Kernel7Ideal.main_arg5))
        (m ((c.tc : Thread _ _).loc Cert.Kernel7Ideal.main_arg6))
        (m ((c.tc : Thread _ _).loc Cert.Kernel7Ideal.main_arg7))
        (m ((c.tc : Thread _ _).loc Cert.Kernel7Ideal.main_arg8))
        (m ((c.tc : Thread _ _).loc Cert.Kernel7Ideal.main_arg9))
        (m ((c.tc : Thread _ _).loc Cert.Kernel7Ideal.main_arg10))
        (m ((c.tc : Thread _ _).loc Cert.Kernel7Ideal.main_arg12)),
    fun c => Cert.Kernel7Ideal.Out.main16 (m ((c.tc : Thread _ _).loc Cert.Kernel7Ideal.main_arg0))
        (m ((c.tc : Thread _ _).loc Cert.Kernel7Ideal.main_arg1))
        (m ((c.tc : Thread _ _).loc Cert.Kernel7Ideal.main_arg2))
        (m ((c.tc : Thread _ _).loc Cert.Kernel7Ideal.main_arg3))
        (m ((c.tc : Thread _ _).loc Cert.Kernel7Ideal.main_arg4))
        (m ((c.tc : Thread _ _).loc Cert.Kernel7Ideal.main_arg5))
        (m ((c.tc : Thread _ _).loc Cert.Kernel7Ideal.main_arg6))
        (m ((c.tc : Thread _ _).loc Cert.Kernel7Ideal.main_arg7))
        (m ((c.tc : Thread _ _).loc Cert.Kernel7Ideal.main_arg8))
        (m ((c.tc : Thread _ _).loc Cert.Kernel7Ideal.main_arg9))
        (m ((c.tc : Thread _ _).loc Cert.Kernel7Ideal.main_arg10))
        (m ((c.tc : Thread _ _).loc Cert.Kernel7Ideal.main_arg11))
        (m ((c.tc : Thread _ _).loc Cert.Kernel7Ideal.main_arg12)), ?_, ?_⟩
  · exact (θ_run Cert.Kernel7Ideal.defs _ _).mono
      (fun _ h c => ⟨(h.2 c).1.trans (Cert.Kernel7Ideal.Out.arr15 m c), (h.2 c).2.trans (Cert.Kernel7Ideal.Out.arr16 m c), h.1.1 c⟩)
      (Cert.Kernel7Ideal.Out.run_all (F := Ideal) m ρ)
  · refine (θ_run Cert.Reference7Ideal.defs _ _).mono
      (fun _ h c => ⟨(h c).1.trans ?_, (h c).2.1.trans ?_, (h c).2.2⟩)
      (Cert.Reference7Ideal.Value.run (F := Ideal) m' ρ')
    · obtain ⟨e0, e1, e2, e3, e4, e5, e6, e7, e8, e9, e10, e11, e12⟩ := hagree c
      unfold Cert.Reference7Ideal.Value.res_main_v79
      rw [e0, e1, e2, e3, e4, e5, e6, e7, e8, e9, e10, e12]
      exact Cert.Reference7Ideal.Out.ref15 _ _ _ _ _ _ _ _ _ _ _ _
    · obtain ⟨e0, e1, e2, e3, e4, e5, e6, e7, e8, e9, e10, e11, e12⟩ := hagree c
      unfold Cert.Reference7Ideal.Value.res_main_v81
      rw [e0, e1, e2, e3, e4, e5, e6, e7, e8, e9, e10, e11, e12]
      exact Cert.Reference7Ideal.Out.ref16 _ _ _ _ _ _ _ _ _ _ _ _ _

end Cert.Proof.Out

end
-- ==== Proof.lean ====
/-
  The certificate: for seven calls of a layer (the attention of the context tokens, the dense feed-forward part, the
  expert part, the projections into and out of the layer's streams, the residual, the modulation rows), the call as
  written and as read over the extended reals runs, ends and leaves its arguments alone, and over the extended reals it
  leaves the arrays its reference leaves. The expert part's table of experts names one of the eight at every tile.
-/
module

public import proofs.«01_k».proof.Proof.Gen.Kernel4Ideal.Launch
public import proofs.«01_k».proof.Proof.Gen.Kernel4Ideal.Frame
public import proofs.«01_k».proof.Proof.Gen.Kernel4Ideal.Points
public import proofs.«01_k».proof.Proof.Gen.Kernel4Ideal.Skeleton
public import proofs.«01_k».proof.Proof.Gen.Kernel4
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.AttnClaim
public import proofs.«01_k».proof.Proof.FfnClaim
public import proofs.«01_k».proof.Proof.MoeClaim
public import proofs.«01_k».proof.Proof.InClaim
public import proofs.«01_k».proof.Proof.ResidClaim
public import proofs.«01_k».proof.Proof.AdaClaim
public import proofs.«01_k».proof.Proof.OutClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Proof.Moe.preFacts,
  fun m ρ _ => Cert.Kernel.Gen.frame m ρ,
  fun m ρ _ => Cert.KernelIdeal.Gen.frame m ρ,
  Cert.Proof.Attn.frame_ref,
  fun m ρ _ => Cert.Kernel2.Gen.frame m ρ,
  fun m ρ _ => Cert.Kernel2Ideal.Gen.frame m ρ,
  Cert.Proof.Ffn.frame_ref,
  Cert.Proof.Moe.frame_kernel,
  Cert.Proof.Moe.frame_ideal,
  Cert.Proof.Moe.frame_ref,
  Cert.Proof.Moe.frame_ref_pre,
  fun m ρ _ => Cert.Kernel4.Inp.frame m ρ,
  fun m ρ _ => Cert.Kernel4Ideal.Inp.frame m ρ,
  Cert.Proof.Inp.frame_ref,
  fun m ρ _ => Cert.Kernel5.Gen.frame m ρ,
  fun m ρ _ => Cert.Kernel5Ideal.Gen.frame m ρ,
  Cert.Proof.Resid.frame_ref,
  fun m ρ _ => Cert.Kernel6.Gen.frame m ρ,
  fun m ρ _ => Cert.Kernel6Ideal.Gen.frame m ρ,
  Cert.Proof.Ada.frame_ref,
  fun m ρ _ => Cert.Kernel7.Out.frame m ρ,
  fun m ρ _ => Cert.Kernel7Ideal.Out.frame m ρ,
  Cert.Proof.Out.frame_ref,
  trivial,
  Cert.Proof.Attn.algebraic,
  trivial,
  Cert.Proof.Ffn.algebraic,
  trivial,
  Cert.Proof.Moe.algebraic,
  trivial,
  Cert.Proof.Inp.algebraic,
  trivial,
  Cert.Proof.Resid.algebraic,
  trivial,
  Cert.Proof.Ada.algebraic,
  trivial,
  Cert.Proof.Out.algebraic⟩

end Cert.Proof

end
